-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_peak [hPre_finite_peak : Cert.Pre_finite_peak.Facts] (m : (ℓ : Loc Cert.KernelIdeal.nD Cert.KernelIdeal.τ Cert.KernelIdeal.sig) → Buf (Elt Ideal) ℓ) : Prop :=
  ∀ c : Dev Cert.KernelIdeal.nD,
    (Cert.Pre_finite_peak.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_peak [hPre_finite_peak : Cert.Pre_finite_peak.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_peak.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_peak [hKernelIdeal : Cert.KernelIdeal.Facts] [hPre_finite_peak : Cert.Pre_finite_peak.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_peak m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_peak [hReferenceIdeal : Cert.ReferenceIdeal.Facts] [hPre_finite_peak : Cert.Pre_finite_peak.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_peak m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_n" .f32 0x36088889#32 ((491520⁻¹ : ℝ) : EReal)

def algebraic_KernelIdeal_ReferenceIdeal_pre_finite_peak [hKernelIdeal : Cert.KernelIdeal.Facts] [hReferenceIdeal : Cert.ReferenceIdeal.Facts] [hPre_finite_peak : Cert.Pre_finite_peak.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_peak m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_peak : Cert.Pre_finite_peak.Facts),
    quiescent_Kernel (hKernel := hKernel)
    ∧ quiescent_KernelIdeal (hKernelIdeal := hKernelIdeal)
    ∧ quiescent_KernelIdeal_pre_finite_peak (hKernelIdeal := hKernelIdeal) (hPre_finite_peak := hPre_finite_peak)
    ∧ quiescent_ReferenceIdeal (hReferenceIdeal := hReferenceIdeal)
    ∧ quiescent_ReferenceIdeal_pre_finite_peak (hReferenceIdeal := hReferenceIdeal) (hPre_finite_peak := hPre_finite_peak)
    ∧ preserves_Kernel_KernelIdeal
    ∧ algebraic_KernelIdeal_ReferenceIdeal_pre_finite_peak (hKernelIdeal := hKernelIdeal) (hReferenceIdeal := hReferenceIdeal) (hPre_finite_peak := hPre_finite_peak)
-- ==== Pre_finite_peak.lean ====
abbrev S2x16384x960 : Shape := ⟨3, ![2, 16384, 960]⟩
abbrev S960 : Shape := ⟨1, ![960]⟩
abbrev S2x16384x32x30 : Shape := ⟨4, ![2, 16384, 32, 30]⟩
abbrev S_ : Shape := ⟨0, ![]⟩
abbrev S2x32 : Shape := ⟨2, ![2, 32]⟩
abbrev S2x1x32x1 : Shape := ⟨4, ![2, 1, 32, 1]⟩
abbrev S1x1x960 : Shape := ⟨3, ![1, 1, 960]⟩

class Facts : Prop where
  bitsLt_bf16_f32 : FTy.bits .bf16 < FTy.bits .f32
  shapeCasts_S2x16384x960_S2x16384x32x30 : S2x16384x960.ShapeCasts S2x16384x32x30
  reducesTo_S2x16384x32x30_S2x32_d1_3 : S2x16384x32x30.ReducesTo [1, 3] S2x32
  h_S_ : 0 < S_.numel
  bcast_S2x32_S2x1x32x1_0_2 : S2x32.BroadcastsInDim S2x1x32x1 (![0, 2] : Fin 2 → Fin S2x1x32x1.rank)
  bcast_S_S2x1x32x1 : S_.BroadcastsInDim S2x1x32x1 (![] : Fin 0 → Fin S2x1x32x1.rank)
  bcast_S2x1x32x1_S2x16384x32x30_0_1_2_3 : S2x1x32x1.BroadcastsInDim S2x16384x32x30 (![0, 1, 2, 3] : Fin 4 → Fin S2x16384x32x30.rank)
  shapeCasts_S2x16384x32x30_S2x16384x960 : S2x16384x32x30.ShapeCasts S2x16384x960
  bcast_S960_S1x1x960_2 : S960.BroadcastsInDim S1x1x960 (![2] : Fin 1 → Fin S1x1x960.rank)
  bcast_S1x1x960_S2x16384x960_0_1_2 : S1x1x960.BroadcastsInDim S2x16384x960 (![0, 1, 2] : Fin 3 → Fin S2x16384x960.rank)
  bcast_S_S2x16384x960 : S_.BroadcastsInDim S2x16384x960 (![] : Fin 0 → Fin S2x16384x960.rank)
  reducesTo_S2x16384x960_S_d0_1_2 : S2x16384x960.ReducesTo [0, 1, 2] S_
  bcast_S_S960 : S_.BroadcastsInDim S960 (![] : Fin 0 → Fin S960.rank)
  reducesTo_S960_S_d0 : S960.ReducesTo [0] S_

variable [Facts]

def fn_part2 {F : FTy → Type} [FloatOps F] (main_arg1 : FVec F S960 .f32) (main_arg2 : FVec F S960 .f32) (main_v33 : FVec F S_ .f32) (main_v37 : IVec S2x16384x960 1) (main_c : IVec S_ 1) : IVec S_ 1 :=
  let main_v38 : IVec S_ 1 := (fun x v => Host.reduce IntOp.andi x v reducesTo_S2x16384x960_S_d0_1_2 h_S_) main_v37 main_c
  let main_v39 : FVec F S960 .f32 := Host.absf main_arg1
  let main_cst_8 : FVec F S_ .f32 := constant S_ .f32 0x7F800000#32
  let main_v40 : FVec F S960 .f32 := broadcastInDim S960 ![] bcast_S_S960 main_cst_8
  let main_v41 : IVec S960 1 := cmpf .olt main_v39 main_v40
  let main_c_9 : IVec S_ 1 := constantI S_ 1 1#1
  let main_v42 : IVec S_ 1 := (fun x v => Host.reduce IntOp.andi x v reducesTo_S960_S_d0 h_S_) main_v41 main_c_9
  let main_v43 : IVec S_ 1 := andi main_v38 main_v42
  let main_v44 : FVec F S960 .f32 := Host.absf main_arg2
  let main_cst_10 : FVec F S_ .f32 := constant S_ .f32 0x7F800000#32
  let main_v45 : FVec F S960 .f32 := broadcastInDim S960 ![] bcast_S_S960 main_cst_10
  let main_v46 : IVec S960 1 := cmpf .olt main_v44 main_v45
  let main_c_11 : IVec S_ 1 := constantI S_ 1 1#1
  let main_v47 : IVec S_ 1 := (fun x v => Host.reduce IntOp.andi x v reducesTo_S960_S_d0 h_S_) main_v46 main_c_11
  let main_v48 : IVec S_ 1 := andi main_v43 main_v47
  let main_cst_12 : FVec F S_ .f32 := constant S_ .f32 0x3E900000#32
  let main_v49 : IVec S_ 1 := cmpf .oge main_v33 main_cst_12
  let main_v50 : IVec S_ 1 := andi main_v48 main_v49
  let main_cst_13 : FVec F S_ .f32 := constant S_ .f32 0x7F7FFFFF#32
  let main_v51 : IVec S_ 1 := cmpf .ole main_v33 main_cst_13
  let main_v52 : IVec S_ 1 := andi main_v50 main_v51
  main_v52

def fn_part1 {F : FTy → Type} [FloatOps F] (main_arg0 : FVec F S2x16384x960 .bf16) (main_arg1 : FVec F S960 .f32) (main_arg2 : FVec F S960 .f32) (main_v18 : FVec F S2x16384x960 .f32) : IVec S_ 1 :=
  let main_v19 : FVec F S1x1x960 .f32 := broadcastInDim S1x1x960 ![2] bcast_S960_S1x1x960_2 main_arg1
  let main_v20 : FVec F S2x16384x960 .f32 := broadcastInDim S2x16384x960 ![0, 1, 2] bcast_S1x1x960_S2x16384x960_0_1_2 main_v19
  let main_v21 : FVec F S2x16384x960 .f32 := mulf main_v18 main_v20
  let main_v22 : FVec F S1x1x960 .f32 := broadcastInDim S1x1x960 ![2] bcast_S960_S1x1x960_2 main_arg2
  let main_v23 : FVec F S2x16384x960 .f32 := broadcastInDim S2x16384x960 ![0, 1, 2] bcast_S1x1x960_S2x16384x960_0_1_2 main_v22
  let main_v24 : FVec F S2x16384x960 .f32 := addf main_v21 main_v23
  let main_v25 : FVec F S2x16384x960 .f32 := Host.negf main_v24
  let main_v26 : FVec F S2x16384x960 .f32 := Host.exp main_v25
  let main_cst_4 : FVec F S_ .f32 := constant S_ .f32 0x3F800000#32
  let main_v27 : FVec F S2x16384x960 .f32 := broadcastInDim S2x16384x960 ![] bcast_S_S2x16384x960 main_cst_4
  let main_v28 : FVec F S2x16384x960 .f32 := addf main_v27 main_v26
  let main_cst_5 : FVec F S_ .f32 := constant S_ .f32 0x3F800000#32
  let main_v29 : FVec F S2x16384x960 .f32 := broadcastInDim S2x16384x960 ![] bcast_S_S2x16384x960 main_cst_5
  let main_v30 : FVec F S2x16384x960 .f32 := Host.divf main_v29 main_v28
  let main_v31 : FVec F S2x16384x960 .f32 := mulf main_v24 main_v30
  let main_v32 : FVec F S2x16384x960 .f32 := Host.absf main_v31
  let main_cst_6 : FVec F S_ .f32 := constant S_ .f32 0xFF800000#32
  let main_v33 : FVec F S_ .f32 := (fun x v => Host.reduce FloatOps.maximumf x v reducesTo_S2x16384x960_S_d0_1_2 h_S_) main_v32 main_cst_6
  let main_v34 : FVec F S2x16384x960 .f32 := (extf .f32 · bitsLt_bf16_f32) main_arg0
  let main_v35 : FVec F S2x16384x960 .f32 := Host.absf main_v34
  let main_cst_7 : FVec F S_ .f32 := constant S_ .f32 0x7F800000#32
  let main_v36 : FVec F S2x16384x960 .f32 := broadcastInDim S2x16384x960 ![] bcast_S_S2x16384x960 main_cst_7
  let main_v37 : IVec S2x16384x960 1 := cmpf .olt main_v35 main_v36
  let main_c : IVec S_ 1 := constantI S_ 1 1#1
  fn_part2 (F := F) main_arg1 main_arg2 main_v33 main_v37 main_c

def fn {F : FTy → Type} [FloatOps F] (main_arg0 : FVec F S2x16384x960 .bf16) (main_arg1 : FVec F S960 .f32) (main_arg2 : FVec F S960 .f32) : IVec S_ 1 :=
  let main_v0 : FVec F S2x16384x960 .f32 := (extf .f32 · bitsLt_bf16_f32) main_arg0
  let main_v1 : FVec F S2x16384x32x30 .f32 := shapeCast S2x16384x32x30 main_v0 shapeCasts_S2x16384x960_S2x16384x32x30
  let main_cst : FVec F S_ .f32 := constant S_ .f32 0x00000000#32
  let main_v2 : FVec F S2x32 .f32 := (fun x v => Host.reduceAdd x v reducesTo_S2x16384x32x30_S2x32_d1_3 h_S_) main_v1 main_cst
  let main_v3 : FVec F S2x1x32x1 .f32 := broadcastInDim S2x1x32x1 ![0, 2] bcast_S2x32_S2x1x32x1_0_2 main_v2
  let main_cst_0 : FVec F S_ .f32 := constant S_ .f32 0x48F00000#32
  let main_v4 : FVec F S2x1x32x1 .f32 := broadcastInDim S2x1x32x1 ![] bcast_S_S2x1x32x1 main_cst_0
  let main_v5 : FVec F S2x1x32x1 .f32 := Host.divf main_v3 main_v4
  let main_v6 : FVec F S2x16384x32x30 .f32 := broadcastInDim S2x16384x32x30 ![0, 1, 2, 3] bcast_S2x1x32x1_S2x16384x32x30_0_1_2_3 main_v5
  let main_v7 : FVec F S2x16384x32x30 .f32 := subf main_v1 main_v6
  let main_v8 : FVec F S2x16384x32x30 .f32 := mulf main_v7 main_v7
  let main_cst_1 : FVec F S_ .f32 := constant S_ .f32 0x00000000#32
  let main_v9 : FVec F S2x32 .f32 := (fun x v => Host.reduceAdd x v reducesTo_S2x16384x32x30_S2x32_d1_3 h_S_) main_v8 main_cst_1
  let main_v10 : FVec F S2x1x32x1 .f32 := broadcastInDim S2x1x32x1 ![0, 2] bcast_S2x32_S2x1x32x1_0_2 main_v9
  let main_cst_2 : FVec F S_ .f32 := constant S_ .f32 0x48F00000#32
  let main_v11 : FVec F S2x1x32x1 .f32 := broadcastInDim S2x1x32x1 ![] bcast_S_S2x1x32x1 main_cst_2
  let main_v12 : FVec F S2x1x32x1 .f32 := Host.divf main_v10 main_v11
  let main_cst_3 : FVec F S_ .f32 := constant S_ .f32 0x3727C5AC#32
  let main_v13 : FVec F S2x1x32x1 .f32 := broadcastInDim S2x1x32x1 ![] bcast_S_S2x1x32x1 main_cst_3
  let main_v14 : FVec F S2x1x32x1 .f32 := addf main_v12 main_v13
  let main_v15 : FVec F S2x1x32x1 .f32 := Host.rsqrt main_v14
  let main_v16 : FVec F S2x16384x32x30 .f32 := broadcastInDim S2x16384x32x30 ![0, 1, 2, 3] bcast_S2x1x32x1_S2x16384x32x30_0_1_2_3 main_v15
  let main_v17 : FVec F S2x16384x32x30 .f32 := mulf main_v7 main_v16
  let main_v18 : FVec F S2x16384x960 .f32 := shapeCast S2x16384x960 main_v17 shapeCasts_S2x16384x32x30_S2x16384x960
  fn_part1 (F := F) main_arg0 main_arg1 main_arg2 main_v18
-- ==== Kernel.lean ====
abbrev S2x16384x960 : Shape := ⟨3, ![2, 16384, 960]⟩
abbrev S960 : Shape := ⟨1, ![960]⟩
abbrev S2x960x16384 : Shape := ⟨3, ![2, 960, 16384]⟩
abbrev S1920x16384 : Shape := ⟨2, ![1920, 16384]⟩
abbrev S_ : Shape := ⟨0, ![]⟩
abbrev S16x128 : Shape := ⟨2, ![16, 128]⟩
abbrev S1920x128 : Shape := ⟨2, ![1920, 128]⟩
abbrev S32x16384 : Shape := ⟨2, ![32, 16384]⟩
abbrev S32x128 : Shape := ⟨2, ![32, 128]⟩
abbrev S1x960 : Shape := ⟨2, ![1, 960]⟩
abbrev S1x1 : Shape := ⟨2, ![1, 1]⟩
abbrev S1 : Shape := ⟨1, ![1]⟩
abbrev S480x480 : Shape := ⟨2, ![480, 480]⟩
abbrev S8x128 : Shape := ⟨2, ![8, 128]⟩
abbrev S480x128 : Shape := ⟨2, ![480, 128]⟩
abbrev S480 : Shape := ⟨1, ![480]⟩
abbrev S480x1 : Shape := ⟨2, ![480, 1]⟩
abbrev S128x960 : Shape := ⟨2, ![128, 960]⟩
abbrev S960x128 : Shape := ⟨2, ![960, 128]⟩
abbrev S1x8x128 : Shape := ⟨3, ![1, 8, 128]⟩
abbrev S1x1x1 : Shape := ⟨3, ![1, 1, 1]⟩

abbrev nBuf : Space → Nat
  | .hbm => 18
  | .vmem => 23
  | .smem => 2
  | _ => 0

abbrev bufTy : (tb : Table) → Fin (tcTables nBuf tb) → BufTy
  | .hbm, ⟨0, _⟩ => ⟨S2x16384x960, .bf16⟩
  | .hbm, ⟨1, _⟩ => ⟨S960, .f32⟩
  | .hbm, ⟨2, _⟩ => ⟨S960, .f32⟩
  | .hbm, ⟨3, _⟩ => ⟨S2x960x16384, .bf16⟩
  | .hbm, ⟨4, _⟩ => ⟨S1920x16384, .bf16⟩
  | .hbm, ⟨5, _⟩ => ⟨S_, .bf16⟩
  | .hbm, ⟨6, _⟩ => ⟨S16x128, .bf16⟩
  | .hbm, ⟨7, _⟩ => ⟨S1920x128, .f32⟩
  | .hbm, ⟨8, _⟩ => ⟨S1920x128, .f32⟩
  | .hbm, ⟨9, _⟩ => ⟨S1920x128, .bf16⟩
  | .hbm, ⟨10, _⟩ => ⟨S1920x128, .bf16⟩
  | .hbm, ⟨11, _⟩ => ⟨S1x960, .f32⟩
  | .hbm, ⟨12, _⟩ => ⟨S1x960, .f32⟩
  | .hbm, ⟨13, _⟩ => ⟨S1920x16384, .fp8e4m3⟩
  | .hbm, ⟨14, _⟩ => ⟨S1x1, .f32⟩
  | .hbm, ⟨15, _⟩ => ⟨S2x960x16384, .fp8e4m3⟩
  | .hbm, ⟨16, _⟩ => ⟨S2x16384x960, .fp8e4m3⟩
  | .hbm, ⟨17, _⟩ => ⟨S_, .f32⟩
  | .local _ .vmem, ⟨0, _⟩ => ⟨S32x16384, .bf16⟩
  | .local _ .vmem, ⟨1, _⟩ => ⟨S32x16384, .bf16⟩
  | .local _ .vmem, ⟨2, _⟩ => ⟨S16x128, .bf16⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .bf16⟩
  | .local _ .vmem, ⟨8, _⟩ => ⟨S32x128, .bf16⟩
  | .local _ .vmem, ⟨9, _⟩ => ⟨S32x128, .bf16⟩
  | .local _ .vmem, ⟨10, _⟩ => ⟨S32x128, .bf16⟩
  | .local _ .vmem, ⟨11, _⟩ => ⟨S32x16384, .bf16⟩
  | .local _ .vmem, ⟨12, _⟩ => ⟨S32x16384, .bf16⟩
  | .local _ .vmem, ⟨13, _⟩ => ⟨S1x960, .f32⟩
  | .local _ .vmem, ⟨14, _⟩ => ⟨S1x960, .f32⟩
  | .local _ .vmem, ⟨15, _⟩ => ⟨S1920x128, .f32⟩
  | .local _ .vmem, ⟨16, _⟩ => ⟨S1920x128, .f32⟩
  | .local _ .vmem, ⟨17, _⟩ => ⟨S1920x128, .bf16⟩
  | .local _ .vmem, ⟨18, _⟩ => ⟨S1920x128, .bf16⟩
  | .local _ .vmem, ⟨19, _⟩ => ⟨S32x16384, .fp8e4m3⟩
  | .local _ .vmem, ⟨20, _⟩ => ⟨S32x16384, .fp8e4m3⟩
  | .local _ .vmem, ⟨21, _⟩ => ⟨S1920x128, .f32⟩
  | .local _ .vmem, ⟨22, _⟩ => ⟨S1920x128, .f32⟩
  | .local _ .smem, ⟨0, _⟩ => ⟨S1x1, .f32⟩
  | .local _ .smem, ⟨1, _⟩ => ⟨S1, .f32⟩
  | _, _ => ⟨S2x16384x960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc1_scratch0 : Ref sig .tc := ⟨.vmem, 21, rfl⟩
abbrev cc1_scratch1 : Ref sig .tc := ⟨.vmem, 22, rfl⟩
abbrev cc1_stg8_0 : Ref sig .tc := ⟨.smem, 0, rfl⟩
abbrev cc1_scratch2 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20
abbrev cc1_sem8_0 : DmaSem sig := 21

abbrev nD : Nat := 1
abbrev τ : Topo := Topo.v7x

variable {F : FTy → Type} [FloatOps F]

abbrev grid0 : Pipeline.Grid := ⟨1, ![60], ![false]⟩

@[reducible] def k0_t1_loop : Scf.Loop 32 :=
  let c0_i32 : BitVec 32 := 0#32
  let c8_i32 : BitVec 32 := 8#32
  let v5 : BitVec 32 := Scalar.addi c0_i32 c8_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c2048_i32 : BitVec 32 := 2048#32
  let v20 : BitVec 32 := Scalar.muli arg7 c2048_i32
  v20
def k0_off1 (k0_t1 : Fin k0_t1_loop.trips) (c0_i32_26 : BitVec 32) : Fin 2 → Nat :=
  let c0_27 : Index := 0#32
  let c0_i32 : BitVec 32 := 0#32
  let c1_i32 : BitVec 32 := 1#32
  let arg7 : BitVec 32 := Scf.iv c0_i32 c1_i32 k0_t1
  let c2048_i32 : BitVec 32 := 2048#32
  let v20 : BitVec 32 := Scalar.muli arg7 c2048_i32
  let v21 : BitVec 32 := v20
  let v23 : BitVec 32 := Scalar.addi v21 c0_i32_26
  let v24 : Index := Scalar.indexCast v23
  ![0, v24.toNat]
@[reducible] def k0_t2_loop : Scf.Loop 32 :=
  let c0_i32_14 : BitVec 32 := 0#32
  let c8_i32_15 : BitVec 32 := 8#32
  let v14 : BitVec 32 := Scalar.addi c0_i32_14 c8_i32_15
  let c1_i32_16 : BitVec 32 := 1#32
  ⟨c0_i32_14, v14, c1_i32_16⟩
def k0_mult2 (k0_t2 : Fin k0_t2_loop.trips) : BitVec 32 :=
  let c0_i32_14 : BitVec 32 := 0#32
  let c1_i32_16 : BitVec 32 := 1#32
  let arg7 : BitVec 32 := Scf.iv c0_i32_14 c1_i32_16 k0_t2
  let c2048_i32 : BitVec 32 := 2048#32
  let v20 : BitVec 32 := Scalar.muli arg7 c2048_i32
  v20
def k0_off2 (k0_t2 : Fin k0_t2_loop.trips) (c0_i32_26 : BitVec 32) : Fin 2 → Nat :=
  let c16_27 : Index := 16#32
  let c0_i32_14 : BitVec 32 := 0#32
  let c1_i32_16 : BitVec 32 := 1#32
  let arg7 : BitVec 32 := Scf.iv c0_i32_14 c1_i32_16 k0_t2
  let c2048_i32 : BitVec 32 := 2048#32
  let v20 : BitVec 32 := Scalar.muli arg7 c2048_i32
  let v21 : BitVec 32 := v20
  let v23 : BitVec 32 := Scalar.addi v21 c0_i32_26
  let v24 : Index := Scalar.indexCast v23
  ![16, v24.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![60], ![false]⟩

def k1_mult1 (i : grid1.Coords) : BitVec 32 :=
  let arg0 : BitVec 32 := BitVec.ofNat 32 (i 0).val
  let c32_i32 : BitVec 32 := 32#32
  let v3 : BitVec 32 := Scalar.muli arg0 c32_i32
  v3
def k1_off1 (i : grid1.Coords) : Fin 2 → Nat :=
  let arg0 : BitVec 32 := BitVec.ofNat 32 (i 0).val
  let c32_i32 : BitVec 32 := 32#32
  let v3 : BitVec 32 := Scalar.muli arg0 c32_i32
  let v4 : BitVec 32 := v3
  let v5 : Index := Scalar.indexCast v4
  let c0 : Index := 0#32
  ![v5.toNat, 0]
@[reducible] def k1_t1_loop : Scf.Loop 32 :=
  let c0_i32_3 : BitVec 32 := 0#32
  let c16_i32 : BitVec 32 := 16#32
  let v10 : BitVec 32 := Scalar.addi c0_i32_3 c16_i32
  let c1_i32 : BitVec 32 := 1#32
  ⟨c0_i32_3, v10, c1_i32⟩
def k1_mult2 (k1_t1 : Fin k1_t1_loop.trips) : BitVec 32 :=
  let c0_i32_3 : BitVec 32 := 0#32
  let c1_i32 : BitVec 32 := 1#32
  let arg13 : BitVec 32 := Scf.iv c0_i32_3 c1_i32 k1_t1
  let c1024_i32 : BitVec 32 := 1024#32
  let v11 : BitVec 32 := Scalar.muli arg13 c1024_i32
  v11
def k1_off2 (k1_t1 : Fin k1_t1_loop.trips) (c0_i32_5 : BitVec 32) : Fin 2 → Nat :=
  let c0_6 : Index := 0#32
  let c0_i32_3 : BitVec 32 := 0#32
  let c1_i32 : BitVec 32 := 1#32
  let arg13 : BitVec 32 := Scf.iv c0_i32_3 c1_i32 k1_t1
  let c1024_i32 : BitVec 32 := 1024#32
  let v11 : BitVec 32 := Scalar.muli arg13 c1024_i32
  let v12 : BitVec 32 := v11
  let v13 : BitVec 32 := Scalar.addi v12 c0_i32_5
  let v14 : Index := Scalar.indexCast v13
  ![0, v14.toNat]
def k1_mult3 (k1_t1 : Fin k1_t1_loop.trips) : BitVec 32 :=
  let c0_i32_3 : BitVec 32 := 0#32
  let c1_i32 : BitVec 32 := 1#32
  let arg13 : BitVec 32 := Scf.iv c0_i32_3 c1_i32 k1_t1
  let c1024_i32_12 : BitVec 32 := 1024#32
  let v37 : BitVec 32 := Scalar.muli arg13 c1024_i32_12
  v37
def k1_mult4 (k1_t1 : Fin k1_t1_loop.trips) : BitVec 32 :=
  let c0_i32_3 : BitVec 32 := 0#32
  let c1_i32 : BitVec 32 := 1#32
  let arg13 : BitVec 32 := Scf.iv c0_i32_3 c1_i32 k1_t1
  let c1024_i32_20 : BitVec 32 := 1024#32
  let v63 : BitVec 32 := Scalar.muli arg13 c1024_i32_20
  v63
def k1_mult5 (k1_t1 : Fin k1_t1_loop.trips) : BitVec 32 :=
  let c0_i32_3 : BitVec 32 := 0#32
  let c1_i32 : BitVec 32 := 1#32
  let arg13 : BitVec 32 := Scf.iv c0_i32_3 c1_i32 k1_t1
  let c1024_i32_28 : BitVec 32 := 1024#32
  let v89 : BitVec 32 := Scalar.muli arg13 c1024_i32_28
  v89
def k1_mult6 (k1_t1 : Fin k1_t1_loop.trips) : BitVec 32 :=
  let c0_i32_3 : BitVec 32 := 0#32
  let c1_i32 : BitVec 32 := 1#32
  let arg13 : BitVec 32 := Scf.iv c0_i32_3 c1_i32 k1_t1
  let c1024_i32_36 : BitVec 32 := 1024#32
  let v115 : BitVec 32 := Scalar.muli arg13 c1024_i32_36
  v115
def k1_mult7 (k1_t1 : Fin k1_t1_loop.trips) : BitVec 32 :=
  let c0_i32_3 : BitVec 32 := 0#32
  let c1_i32 : BitVec 32 := 1#32
  let arg13 : BitVec 32 := Scf.iv c0_i32_3 c1_i32 k1_t1
  let c1024_i32_44 : BitVec 32 := 1024#32
  let v141 : BitVec 32 := Scalar.muli arg13 c1024_i32_44
  v141
def k1_mult8 (k1_t1 : Fin k1_t1_loop.trips) : BitVec 32 :=
  let c0_i32_3 : BitVec 32 := 0#32
  let c1_i32 : BitVec 32 := 1#32
  let arg13 : BitVec 32 := Scf.iv c0_i32_3 c1_i32 k1_t1
  let c1024_i32_52 : BitVec 32 := 1024#32
  let v167 : BitVec 32 := Scalar.muli arg13 c1024_i32_52
  v167
def k1_mult9 (k1_t1 : Fin k1_t1_loop.trips) : BitVec 32 :=
  let c0_i32_3 : BitVec 32 := 0#32
  let c1_i32 : BitVec 32 := 1#32
  let arg13 : BitVec 32 := Scf.iv c0_i32_3 c1_i32 k1_t1
  let c1024_i32_60 : BitVec 32 := 1024#32
  let v193 : BitVec 32 := Scalar.muli arg13 c1024_i32_60
  v193
def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S32x16384 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x960 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x960 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1920x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1920x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1920x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1920x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S32x16384 .fp8e4m3 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .smem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]
-- ==== KernelIdeal.lean ====
variable {F : FTy → Type} [FloatOps F] [Named F]
def κ : String → Option EReal := fun
  | "inv_n" => some ((491520⁻¹ : ℝ) : EReal)
  | _ => none
-- ==== ReferenceIdeal.lean ====
abbrev S2x16384x960 : Shape := ⟨3, ![2, 16384, 960]⟩
abbrev S960 : Shape := ⟨1, ![960]⟩
abbrev S2x16384x32x30 : Shape := ⟨4, ![2, 16384, 32, 30]⟩
abbrev S_ : Shape := ⟨0, ![]⟩
abbrev S2x32 : Shape := ⟨2, ![2, 32]⟩
abbrev S2x1x32x1 : Shape := ⟨4, ![2, 1, 32, 1]⟩
abbrev S1x1x960 : Shape := ⟨3, ![1, 1, 960]⟩

abbrev nBuf : Space → Nat
  | .hbm => 75
  | .vmem => 2
  | .smem => 0
  | _ => 0

abbrev bufTy : (tb : Table) → Fin (tcTables nBuf tb) → BufTy
  | .hbm, ⟨0, _⟩ => ⟨S2x16384x960, .bf16⟩
  | .hbm, ⟨1, _⟩ => ⟨S960, .f32⟩
  | .hbm, ⟨2, _⟩ => ⟨S960, .f32⟩
  | .hbm, ⟨3, _⟩ => ⟨S2x16384x960, .f32⟩
  | .hbm, ⟨4, _⟩ => ⟨S2x16384x32x30, .f32⟩
  | .hbm, ⟨5, _⟩ => ⟨S_, .f32⟩
  | .hbm, ⟨6, _⟩ => ⟨S2x32, .f32⟩
  | .hbm, ⟨7, _⟩ => ⟨S2x1x32x1, .f32⟩
  | .hbm, ⟨8, _⟩ => ⟨S_, .f32⟩
  | .hbm, ⟨9, _⟩ => ⟨S2x1x32x1, .f32⟩
  | .hbm, ⟨10, _⟩ => ⟨S2x1x32x1, .f32⟩
  | .hbm, ⟨11, _⟩ => ⟨S2x16384x32x30, .f32⟩
  | .hbm, ⟨12, _⟩ => ⟨S2x16384x32x30, .f32⟩
  | .hbm, ⟨13, _⟩ => ⟨S2x16384x32x30, .f32⟩
  | .hbm, ⟨14, _⟩ => ⟨S_, .f32⟩
  | .hbm, ⟨15, _⟩ => ⟨S2x32, .f32⟩
  | .hbm, ⟨16, _⟩ => ⟨S2x1x32x1, .f32⟩
  | .hbm, ⟨17, _⟩ => ⟨S_, .f32⟩
  | .hbm, ⟨18, _⟩ => ⟨S2x1x32x1, .f32⟩
  | .hbm, ⟨19, _⟩ => ⟨S2x1x32x1, .f32⟩
  | .hbm, ⟨20, _⟩ => ⟨S_, .f32⟩
  | .hbm, ⟨21, _⟩ => ⟨S2x1x32x1, .f32⟩
  | .hbm, ⟨22, _⟩ => ⟨S2x1x32x1, .f32⟩
  | .hbm, ⟨23, _⟩ => ⟨S2x1x32x1, .f32⟩
  | .hbm, ⟨24, _⟩ => ⟨S2x16384x32x30, .f32⟩
  | .hbm, ⟨25, _⟩ => ⟨S2x16384x32x30, .f32⟩
  | .hbm, ⟨26, _⟩ => ⟨S2x16384x960, .f32⟩
  | .hbm, ⟨27, _⟩ => ⟨S1x1x960, .f32⟩
  | .hbm, ⟨28, _⟩ => ⟨S2x16384x960, .f32⟩
  | .hbm, ⟨29, _⟩ => ⟨S2x16384x960, .f32⟩
  | .hbm, ⟨30, _⟩ => ⟨S1x1x960, .f32⟩
  | .hbm, ⟨31, _⟩ => ⟨S2x16384x960, .f32⟩
  | .hbm, ⟨32, _⟩ => ⟨S2x16384x960, .f32⟩
  | .hbm, ⟨33, _⟩ => ⟨S2x16384x960, .f32⟩
  | .hbm, ⟨34, _⟩ => ⟨S2x16384x960, .f32⟩
  | .hbm, ⟨35, _⟩ => ⟨S_, .f32⟩
  | .hbm, ⟨36, _⟩ => ⟨S2x16384x960, .f32⟩
  | .hbm, ⟨37, _⟩ => ⟨S2x16384x960, .f32⟩
  | .hbm, ⟨38, _⟩ => ⟨S_, .f32⟩
  | .hbm, ⟨39, _⟩ => ⟨S2x16384x960, .f32⟩
  | .hbm, ⟨40, _⟩ => ⟨S2x16384x960, .f32⟩
  | .hbm, ⟨41, _⟩ => ⟨S2x16384x960, .f32⟩
  | .hbm, ⟨42, _⟩ => ⟨S2x16384x960, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .i1⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S2x16384x960, .f32⟩
  | .hbm, ⟨65, _⟩ => ⟨S2x16384x960, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S2x16384x960, .f32⟩
  | .hbm, ⟨70, _⟩ => ⟨S2x16384x960, .f32⟩
  | .hbm, ⟨71, _⟩ => ⟨S_, .f32⟩
  | .hbm, ⟨72, _⟩ => ⟨S2x16384x960, .f32⟩
  | .hbm, ⟨73, _⟩ => ⟨S2x16384x960, .f32⟩
  | .hbm, ⟨74, _⟩ => ⟨S2x16384x960, .fp8e4m3⟩
  | .local _ .vmem, ⟨0, _⟩ => ⟨S2x16384x960, .f32⟩
  | .local _ .vmem, ⟨1, _⟩ => ⟨S2x16384x960, .fp8e4m3⟩
  | _, _ => ⟨S2x16384x960, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_cst_7 : Ref sig .tc := ⟨.hbm, 45, rfl⟩
abbrev main_v34 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_9 : Ref sig .tc := ⟨.hbm, 52, rfl⟩
abbrev main_v39 : Ref sig .tc := ⟨.hbm, 53, rfl⟩
abbrev main_cst_10 : Ref sig .tc := ⟨.hbm, 54, rfl⟩
abbrev main_v40 : Ref sig .tc := ⟨.hbm, 55, rfl⟩
abbrev main_cst_11 : Ref sig .tc := ⟨.hbm, 56, rfl⟩
abbrev main_call0_v0 : Ref sig .tc := ⟨.hbm, 57, rfl⟩
abbrev main_v41 : Ref sig .tc := ⟨.hbm, 58, rfl⟩
abbrev main_cst_12 : Ref sig .tc := ⟨.hbm, 59, rfl⟩
abbrev main_v42 : Ref sig .tc := ⟨.hbm, 60, rfl⟩
abbrev main_v43 : Ref sig .tc := ⟨.hbm, 61, rfl⟩
abbrev main_cst_13 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_14 : Ref sig .tc := ⟨.hbm, 66, rfl⟩
abbrev main_cst_15 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_v47 : Ref sig .tc := ⟨.hbm, 73, rfl⟩
abbrev main_v48 : Ref sig .tc := ⟨.hbm, 74, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x16384x960 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x16384x960 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Region0.lean ====
/- The first launch of the two ("stats": the per-row sums, sums of squares, maxima and minima): what one grid
   step leaves in its four output blocks, and the launch's proof data, from the arrays as the launch finds them. -/
module

public import proofs.«01_k».proof.Proof.Gen.KernelIdeal.Regions
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Two

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V1 m c (Pipeline.arrRef spec0 w))

/-- Input window 0's current staging buffer holds its block at every point, fetched there or not, for ANY proof
    data whose array is `V`'s (`hA`) and whose body leaves the block in place (`hafter`):
    `Dat.before_in_eq_fetched` (unfetched, the index has not moved), the window uncut and never idle. -/
theorem before0_0_of {c : Dev nD} (dat : Dat τ (Elt F) Unit ℕ (UR sig nD τ) ℕ cfg0 c) (hA : dat.A 0 = V1 m c (Pipeline.arrRef spec0 0))
    (hafter : ∀ t, dat.after 0 t = iblk0 m c 0 t) (t : Fin cfg0.N) (d) : dat.before 0 t d = iblk0 m c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`):
    `Dat.before_in_eq_fetched` (unfetched, the index has not moved), the window uncut and never idle. -/
theorem before0_1_of {c : Dev nD} (dat : Dat τ (Elt F) Unit ℕ (UR sig nD τ) ℕ cfg0 c) (hA : dat.A 1 = V1 m c (Pipeline.arrRef spec0 1))
    (hafter : ∀ t, dat.after 1 t = iblk0 m c 1 t) (t : Fin cfg0.N) (d) : dat.before 1 t d = iblk0 m c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 2, through which its contents are stated (`View.read_writes_of_cover`: the
    choice does not matter). -/
abbrev VO0_2 : View sig .tc .vmem S32x128 .f32 := (Memref.whole cc0_stg2_0 : Memref sig .tc .vmem S32x128 .f32).view
/-- One staging buffer of output window 3, through which its contents are stated (`View.read_writes_of_cover`: the
    choice does not matter). -/
abbrev VO0_3 : View sig .tc .vmem S32x128 .f32 := (Memref.whole cc0_stg3_0 : Memref sig .tc .vmem S32x128 .f32).view
/-- One staging buffer of output window 4, through which its contents are stated (`View.read_writes_of_cover`: the
    choice does not matter). -/
abbrev VO0_4 : View sig .tc .vmem S32x128 .bf16 := (Memref.whole cc0_stg4_0 : Memref sig .tc .vmem S32x128 .bf16).view
/-- One staging buffer of output window 5, through which its contents are stated (`View.read_writes_of_cover`: the
    choice does not matter). -/
abbrev VO0_5 : View sig .tc .vmem S32x128 .bf16 := (Memref.whole cc0_stg5_0 : Memref sig .tc .vmem S32x128 .bf16).view
/-- Each window's current staging memref at point `t`, spelled as the pipeline passes it (`bodyAt0`), and its wholeness. -/
abbrev ms0_0 (t : Fin cfg0.N) : Memref sig .tc .vmem S32x16384 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x128 .bf16 := win0_5.stage (cfg0.slots t 5)
abbrev hs0_5 (t : Fin cfg0.N) : (ms0_5 t).IsWhole := hstage0_5 ((cfg0.slots t 5).cast nbuf0_5)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S32x16384 .bf16) (harg1 : arg1.IsWhole) (arg2 : Memref sig .tc .vmem S16x128 .bf16) (harg2 : arg2.IsWhole) (arg3 : Memref sig .tc .vmem S32x128 .f32) (harg3 : arg3.IsWhole) (arg4 : Memref sig .tc .vmem S32x128 .f32) (harg4 : arg4.IsWhole) (arg5 : Memref sig .tc .vmem S32x128 .bf16) (harg5 : arg5.IsWhole) (arg6 : Memref sig .tc .vmem S32x128 .bf16) (harg6 : arg6.IsWhole)
    (x0 : Vec F S32x16384 .bf16) (x1 : Vec F S16x128 .bf16) :
    Σ' (L2 : List (View.Piece (Elt F) S32x128 .f32)), Σ' (L3 : List (View.Piece (Elt F) S32x128 .f32)), Σ' (L4 : List (View.Piece (Elt F) S32x128 .bf16)), { L5 : List (View.Piece (Elt F) S32x128 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc0_stats i arg1 harg1 arg2 harg2 arg3 harg3 arg4 harg4 arg5 harg5 arg6 harg6) K } := by
  refine ⟨?_, ?_, ?_, ?_, fun E K => ?run⟩
  case run =>
    simp only [cc0_stats_eq_skeleton]; unfold cc0_stats_skel
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    iexists _; iexact H5

/-- The run's pieces for output 2 tile its block (2 stores of `S16x128`, checked by the kernel's evaluation: Lib/Ring.lean `Piece.tiledL`, linear in the pieces, through a loop's `@[irreducible]` trip theorem too), so they cover it. -/
theorem cover0_A_2 (c : Dev nD) (i : grid0.Coords) (arg1 : Memref sig .tc .vmem S32x16384 .bf16) (harg1 : arg1.IsWhole) (arg2 : Memref sig .tc .vmem S16x128 .bf16) (harg2 : arg2.IsWhole) (arg3 : Memref sig .tc .vmem S32x128 .f32) (harg3 : arg3.IsWhole) (arg4 : Memref sig .tc .vmem S32x128 .f32) (harg4 : arg4.IsWhole) (arg5 : Memref sig .tc .vmem S32x128 .bf16) (harg5 : arg5.IsWhole) (arg6 : Memref sig .tc .vmem S32x128 .bf16) (harg6 : arg6.IsWhole)
    (x0 : Vec F S32x16384 .bf16) (x1 : Vec F S16x128 .bf16) (y : S32x128.Idx) :
    ∃ pc ∈ (kernelRun0_A c i arg1 harg1 arg2 harg2 arg3 harg3 arg4 harg4 arg5 harg5 arg6 harg6 x0 x1).1, y ∈ pc.1.set :=
  View.cover_of_tiledL (kernelRun0_A c i arg1 harg1 arg2 harg2 arg3 harg3 arg4 harg4 arg5 harg5 arg6 harg6 x0 x1).1 S16x128.size (by sl_kernel_rfl) y

/-- What the run leaves in output 2's staging buffer: its pieces read back over junk. -/
def out0_A_2 (c : Dev nD) (i : grid0.Coords) (arg1 : Memref sig .tc .vmem S32x16384 .bf16) (harg1 : arg1.IsWhole) (arg2 : Memref sig .tc .vmem S16x128 .bf16) (harg2 : arg2.IsWhole) (arg3 : Memref sig .tc .vmem S32x128 .f32) (harg3 : arg3.IsWhole) (arg4 : Memref sig .tc .vmem S32x128 .f32) (harg4 : arg4.IsWhole) (arg5 : Memref sig .tc .vmem S32x128 .bf16) (harg5 : arg5.IsWhole) (arg6 : Memref sig .tc .vmem S32x128 .bf16) (harg6 : arg6.IsWhole)
    (x0 : Vec F S32x16384 .bf16) (x1 : Vec F S16x128 .bf16) : Vec F S32x128 .f32 :=
  VO0_2.read (Elt F) (VO0_2.writes (Elt F) VO0_2.junk (kernelRun0_A c i arg1 harg1 arg2 harg2 arg3 harg3 arg4 harg4 arg5 harg5 arg6 harg6 x0 x1).1)

/-- The run's pieces for output 3 tile its block (2 stores of `S16x128`, checked by the kernel's evaluation: Lib/Ring.lean `Piece.tiledL`, linear in the pieces, through a loop's `@[irreducible]` trip theorem too), so they cover it. -/
theorem cover0_A_3 (c : Dev nD) (i : grid0.Coords) (arg1 : Memref sig .tc .vmem S32x16384 .bf16) (harg1 : arg1.IsWhole) (arg2 : Memref sig .tc .vmem S16x128 .bf16) (harg2 : arg2.IsWhole) (arg3 : Memref sig .tc .vmem S32x128 .f32) (harg3 : arg3.IsWhole) (arg4 : Memref sig .tc .vmem S32x128 .f32) (harg4 : arg4.IsWhole) (arg5 : Memref sig .tc .vmem S32x128 .bf16) (harg5 : arg5.IsWhole) (arg6 : Memref sig .tc .vmem S32x128 .bf16) (harg6 : arg6.IsWhole)
    (x0 : Vec F S32x16384 .bf16) (x1 : Vec F S16x128 .bf16) (y : S32x128.Idx) :
    ∃ pc ∈ (kernelRun0_A c i arg1 harg1 arg2 harg2 arg3 harg3 arg4 harg4 arg5 harg5 arg6 harg6 x0 x1).2.1, y ∈ pc.1.set :=
  View.cover_of_tiledL (kernelRun0_A c i arg1 harg1 arg2 harg2 arg3 harg3 arg4 harg4 arg5 harg5 arg6 harg6 x0 x1).2.1 S16x128.size (by sl_kernel_rfl) y

/-- What the run leaves in output 3's staging buffer: its pieces read back over junk. -/
def out0_A_3 (c : Dev nD) (i : grid0.Coords) (arg1 : Memref sig .tc .vmem S32x16384 .bf16) (harg1 : arg1.IsWhole) (arg2 : Memref sig .tc .vmem S16x128 .bf16) (harg2 : arg2.IsWhole) (arg3 : Memref sig .tc .vmem S32x128 .f32) (harg3 : arg3.IsWhole) (arg4 : Memref sig .tc .vmem S32x128 .f32) (harg4 : arg4.IsWhole) (arg5 : Memref sig .tc .vmem S32x128 .bf16) (harg5 : arg5.IsWhole) (arg6 : Memref sig .tc .vmem S32x128 .bf16) (harg6 : arg6.IsWhole)
    (x0 : Vec F S32x16384 .bf16) (x1 : Vec F S16x128 .bf16) : Vec F S32x128 .f32 :=
  VO0_3.read (Elt F) (VO0_3.writes (Elt F) VO0_3.junk (kernelRun0_A c i arg1 harg1 arg2 harg2 arg3 harg3 arg4 harg4 arg5 harg5 arg6 harg6 x0 x1).2.1)

/-- The run's pieces for output 4 tile its block (2 stores of `S16x128`, checked by the kernel's evaluation: Lib/Ring.lean `Piece.tiledL`, linear in the pieces, through a loop's `@[irreducible]` trip theorem too), so they cover it. -/
theorem cover0_A_4 (c : Dev nD) (i : grid0.Coords) (arg1 : Memref sig .tc .vmem S32x16384 .bf16) (harg1 : arg1.IsWhole) (arg2 : Memref sig .tc .vmem S16x128 .bf16) (harg2 : arg2.IsWhole) (arg3 : Memref sig .tc .vmem S32x128 .f32) (harg3 : arg3.IsWhole) (arg4 : Memref sig .tc .vmem S32x128 .f32) (harg4 : arg4.IsWhole) (arg5 : Memref sig .tc .vmem S32x128 .bf16) (harg5 : arg5.IsWhole) (arg6 : Memref sig .tc .vmem S32x128 .bf16) (harg6 : arg6.IsWhole)
    (x0 : Vec F S32x16384 .bf16) (x1 : Vec F S16x128 .bf16) (y : S32x128.Idx) :
    ∃ pc ∈ (kernelRun0_A c i arg1 harg1 arg2 harg2 arg3 harg3 arg4 harg4 arg5 harg5 arg6 harg6 x0 x1).2.2.1, y ∈ pc.1.set :=
  View.cover_of_tiledL (kernelRun0_A c i arg1 harg1 arg2 harg2 arg3 harg3 arg4 harg4 arg5 harg5 arg6 harg6 x0 x1).2.2.1 S16x128.size (by sl_kernel_rfl) y

/-- What the run leaves in output 4's staging buffer: its pieces read back over junk. -/
def out0_A_4 (c : Dev nD) (i : grid0.Coords) (arg1 : Memref sig .tc .vmem S32x16384 .bf16) (harg1 : arg1.IsWhole) (arg2 : Memref sig .tc .vmem S16x128 .bf16) (harg2 : arg2.IsWhole) (arg3 : Memref sig .tc .vmem S32x128 .f32) (harg3 : arg3.IsWhole) (arg4 : Memref sig .tc .vmem S32x128 .f32) (harg4 : arg4.IsWhole) (arg5 : Memref sig .tc .vmem S32x128 .bf16) (harg5 : arg5.IsWhole) (arg6 : Memref sig .tc .vmem S32x128 .bf16) (harg6 : arg6.IsWhole)
    (x0 : Vec F S32x16384 .bf16) (x1 : Vec F S16x128 .bf16) : Vec F S32x128 .bf16 :=
  VO0_4.read (Elt F) (VO0_4.writes (Elt F) VO0_4.junk (kernelRun0_A c i arg1 harg1 arg2 harg2 arg3 harg3 arg4 harg4 arg5 harg5 arg6 harg6 x0 x1).2.2.1)

/-- The run's pieces for output 5 tile its block (2 stores of `S16x128`, checked by the kernel's evaluation: Lib/Ring.lean `Piece.tiledL`, linear in the pieces, through a loop's `@[irreducible]` trip theorem too), so they cover it. -/
theorem cover0_A_5 (c : Dev nD) (i : grid0.Coords) (arg1 : Memref sig .tc .vmem S32x16384 .bf16) (harg1 : arg1.IsWhole) (arg2 : Memref sig .tc .vmem S16x128 .bf16) (harg2 : arg2.IsWhole) (arg3 : Memref sig .tc .vmem S32x128 .f32) (harg3 : arg3.IsWhole) (arg4 : Memref sig .tc .vmem S32x128 .f32) (harg4 : arg4.IsWhole) (arg5 : Memref sig .tc .vmem S32x128 .bf16) (harg5 : arg5.IsWhole) (arg6 : Memref sig .tc .vmem S32x128 .bf16) (harg6 : arg6.IsWhole)
    (x0 : Vec F S32x16384 .bf16) (x1 : Vec F S16x128 .bf16) (y : S32x128.Idx) :
    ∃ pc ∈ (kernelRun0_A c i arg1 harg1 arg2 harg2 arg3 harg3 arg4 harg4 arg5 harg5 arg6 harg6 x0 x1).2.2.2.1, y ∈ pc.1.set :=
  View.cover_of_tiledL (kernelRun0_A c i arg1 harg1 arg2 harg2 arg3 harg3 arg4 harg4 arg5 harg5 arg6 harg6 x0 x1).2.2.2.1 S16x128.size (by sl_kernel_rfl) y

/-- What the run leaves in output 5's staging buffer: its pieces read back over junk. -/
def out0_A_5 (c : Dev nD) (i : grid0.Coords) (arg1 : Memref sig .tc .vmem S32x16384 .bf16) (harg1 : arg1.IsWhole) (arg2 : Memref sig .tc .vmem S16x128 .bf16) (harg2 : arg2.IsWhole) (arg3 : Memref sig .tc .vmem S32x128 .f32) (harg3 : arg3.IsWhole) (arg4 : Memref sig .tc .vmem S32x128 .f32) (harg4 : arg4.IsWhole) (arg5 : Memref sig .tc .vmem S32x128 .bf16) (harg5 : arg5.IsWhole) (arg6 : Memref sig .tc .vmem S32x128 .bf16) (harg6 : arg6.IsWhole)
    (x0 : Vec F S32x16384 .bf16) (x1 : Vec F S16x128 .bf16) : Vec F S32x128 .bf16 :=
  VO0_5.read (Elt F) (VO0_5.writes (Elt F) VO0_5.junk (kernelRun0_A c i arg1 harg1 arg2 harg2 arg3 harg3 arg4 harg4 arg5 harg5 arg6 harg6 x0 x1).2.2.2.1)

/-! ## What the outputs hold after each point -/

/-- What the outputs' staging buffers hold after the body at point `t` (as a tuple, in window order): the run's contents at
    the point's memrefs and input blocks. -/
def outsAt0 (c : Dev nD) (t : Fin cfg0.N) : Vec F S32x128 .f32 × Vec F S32x128 .f32 × Vec F S32x128 .bf16 × Vec F S32x128 .bf16 :=
  (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (iblk0 m c 0 t) (iblk0 m c 1 t), out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (iblk0 m c 0 t) (iblk0 m c 1 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (iblk0 m c 0 t) (iblk0 m c 1 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (iblk0 m c 0 t) (iblk0 m c 1 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V1 m c (Pipeline.arrRef spec0 w)
  after w t := match w with
    | ⟨0, _⟩ => iblk0 m c 0 t
    | ⟨1, _⟩ => iblk0 m c 1 t
    | ⟨2, _⟩ => (outsAt0 m c t).1
    | ⟨3, _⟩ => (outsAt0 m c t).2.1
    | ⟨4, _⟩ => (outsAt0 m c t).2.2.1
    | ⟨5, _⟩ => (outsAt0 m c t).2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 m c).A w = V1 m c (Pipeline.arrRef spec0 w) := by
  dsimp only [dat0]

/-- What the body leaves, window by window (the proof data's `match` reduced by `dsimp`). -/
theorem after0_0 (c : Dev nD) (t : Fin cfg0.N) : (dat0 m c).after 0 t = iblk0 m c 0 t := by dsimp only [dat0]
theorem after0_1 (c : Dev nD) (t : Fin cfg0.N) : (dat0 m c).after 1 t = iblk0 m c 1 t := by dsimp only [dat0]
theorem after0_2 (c : Dev nD) (t : Fin cfg0.N) : (dat0 m c).after 2 t = (outsAt0 m c t).1 := by dsimp only [dat0]
theorem after0_3 (c : Dev nD) (t : Fin cfg0.N) : (dat0 m c).after 3 t = (outsAt0 m c t).2.1 := by dsimp only [dat0]
theorem after0_4 (c : Dev nD) (t : Fin cfg0.N) : (dat0 m c).after 4 t = (outsAt0 m c t).2.2.1 := by dsimp only [dat0]
theorem after0_5 (c : Dev nD) (t : Fin cfg0.N) : (dat0 m c).after 5 t = (outsAt0 m c t).2.2.2 := by dsimp only [dat0]

/-- Each input's current staging buffer holds its block at every point, fetched there or not (`beforeK_W_of`). -/
theorem before0_0 (c : Dev nD) (t : Fin cfg0.N) (d) : (dat0 m c).before 0 t d = iblk0 m c 0 t :=
  before0_0_of m (dat0 m c) (A_eq0 m c 0) (after0_0 m c) t d
theorem before0_1 (c : Dev nD) (t : Fin cfg0.N) (d) : (dat0 m c).before 1 t d = iblk0 m c 1 t :=
  before0_1_of m (dat0 m c) (A_eq0 m c 1) (after0_1 m c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 m c).Φ t.castSucc ∗ (dat0 m c).owesAt () t.castSucc
    ∗ (∃ d, owns (c : Thread nD τ) (ms0_0 t) fullShare ((dat0 m c).before 0 t d))
    ∗ (∃ d, owns (c : Thread nD τ) (ms0_1 t) fullShare ((dat0 m c).before 1 t d))
    ∗ (∃ d, owns (c : Thread nD τ) (ms0_2 t) fullShare ((dat0 m c).before 2 t d))
    ∗ (∃ d, owns (c : Thread nD τ) (ms0_3 t) fullShare ((dat0 m c).before 3 t d))
    ∗ (∃ d, owns (c : Thread nD τ) (ms0_4 t) fullShare ((dat0 m c).before 4 t d))
    ∗ (∃ d, owns (c : Thread nD τ) (ms0_5 t) fullShare ((dat0 m c).before 5 t d)))

/-- and what it returns. -/
def bodyPost0 (c : Dev nD) (t : Fin cfg0.N) : sProp 𝕄 :=
  iprop((dat0 m c).Φ t.succ ∗ (dat0 m c).owesAt () t.succ
    ∗ owns (c : Thread nD τ) (ms0_0 t) fullShare ((dat0 m c).after 0 t)
    ∗ owns (c : Thread nD τ) (ms0_1 t) fullShare ((dat0 m c).after 1 t)
    ∗ owns (c : Thread nD τ) (ms0_2 t) fullShare ((dat0 m c).after 2 t)
    ∗ owns (c : Thread nD τ) (ms0_3 t) fullShare ((dat0 m c).after 3 t)
    ∗ owns (c : Thread nD τ) (ms0_4 t) fullShare ((dat0 m c).after 4 t)
    ∗ owns (c : Thread nD τ) (ms0_5 t) fullShare ((dat0 m c).after 5 t))

/-- The body at any point: the inputs' memrefs hold their blocks (`before0_W`); so the
    run applies; the invariant passes through unread; the core owes nothing throughout. -/
theorem sound_body0 (c : Dev nD) (t : Fin cfg0.N) :
    bodyPre0 m c t ⊢ wp frame (wpE (defs₀ (F := F)) Variants.none c none) Set.univ (bodyAt0 t) (fun _ => bodyPost0 m c t) := by
  unfold bodyPre0 bodyPost0 bodyAt0
  simp only [before0_0, before0_1]
  rw [show (dat0 m c).Φ t.succ = (dat0 m c).Φ t.castSucc from rfl,
    show (dat0 m c).owesAt () t.succ = (dat0 m c).owesAt () t.castSucc from rfl,
    after0_0, after0_1, after0_2, after0_3, after0_4, after0_5]
  unfold outsAt0
  unfold out0_A_2 out0_A_3 out0_A_4 out0_A_5; (try dsimp only)
  iintro ⟨HΦ, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ (iblk0 m c 0 t) (iblk0 m c 1 t)).2.2.2.2 Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  iintro ⟨H0, H1, ⟨%e2, H2⟩, ⟨%e3, H3⟩, ⟨%e4, H4⟩, ⟨%e5, H5⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _ _ _ _ _ _)
  isplitl [H3]
  · unfold owns; iexists _; isplitr
    swap; · iexact H3
    ipureintro; exact View.read_writes_of_cover _ _ _ _ _ (cover0_A_3 c _ _ _ _ _ _ _ _ _ _ _ _ _ _ _)
  isplitl [H4]
  · unfold owns; iexists _; isplitr
    swap; · iexact H4
    ipureintro; exact View.read_writes_of_cover _ _ _ _ _ (cover0_A_4 c _ _ _ _ _ _ _ _ _ _ _ _ _ _ _)
  unfold owns; iexists _; isplitr
  swap; · iexact H5
  ipureintro; exact View.read_writes_of_cover _ _ _ _ _ (cover0_A_5 c _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated ( `triple_restated`). -/
theorem body_obligation0 (c : Dev nD) : BodyObligation (dat0 (F := F) m c) (defs₀ (F := F)) Variants.none () Set.univ := fun t => by
  rw [bigSep_W0, bigSep_W0, defs₀_row0]
  exact triple_restated (sound_body0 m c t) rfl .rfl fun _ => .rfl

end Cert.KernelIdeal.Two

end
-- ==== Proof.Run1.lean ====
/- The second launch ("quant"), its body in two parts: the block run at the first grid step only (per-row scale and
   shift, the tensor's scale and its inverse) and the codes of one block of rows, computed at every step. -/
module

public import proofs.«01_k».proof.Proof.Gen.KernelIdeal.Regions
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Two

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the first grid step runs before the codes: the per-row scale and shift, the scale and its inverse. -/
noncomputable def firstPart (i : grid1.Coords) (arg1 : Memref sig .tc .vmem S32x16384 .bf16) (harg1 : arg1.IsWhole) (arg2 : Memref sig .tc .vmem S1x960 .f32) (harg2 : arg2.IsWhole) (arg3 : Memref sig .tc .vmem S1x960 .f32) (harg3 : arg3.IsWhole) (arg4 : Memref sig .tc .vmem S1920x128 .f32) (harg4 : arg4.IsWhole) (arg5 : Memref sig .tc .vmem S1920x128 .f32) (harg5 : arg5.IsWhole) (arg6 : Memref sig .tc .vmem S1920x128 .bf16) (harg6 : arg6.IsWhole) (arg7 : Memref sig .tc .vmem S1920x128 .bf16) (harg7 : arg7.IsWhole) (arg8 : Memref sig .tc .vmem S32x16384 .fp8e4m3) (harg8 : arg8.IsWhole) (arg9 : Memref sig .tc .smem S1x1 .f32) (harg9 : arg9.IsWhole) (arg10 : Memref sig .tc .vmem S1920x128 .f32) (harg10 : arg10.IsWhole) (arg11 : Memref sig .tc .vmem S1920x128 .f32) (harg11 : arg11.IsWhole) (arg12 : Memref sig .tc .smem S1 .f32) (harg12 : arg12.IsWhole) :
    Prog (TpuEff nD τ sig (Elt F) Λ₀ .tc) PUnit := do
  let ⟨v35, v38, v57⟩ : Σ' (v35 : IVec S480x480 32) (v38 : IVec S480x480 32), IVec S480x480 1 ← k1_part1 i arg1 harg1 arg2 harg2 arg3 harg3 arg4 harg4 arg5 harg5 arg6 harg6 arg7 harg7 arg8 harg8 arg9 harg9 arg10 harg10 arg11 harg11 arg12 harg12
  let ⟨v63, v64, v79, v86, v92, v98, v99⟩ : Σ' (v63 : FVec F S480x480 .f32) (v64 : FVec F S8x128 .f32) (v79 : FVec F S480x128 .f32) (v86 : FVec F S480x128 .f32) (v92 : FVec F S480x128 .f32) (v98 : FVec F S480x128 .f32), FVec F S480x128 .f32 ← k1_part2 i arg1 harg1 arg2 harg2 arg3 harg3 arg4 harg4 arg5 harg5 arg6 harg6 arg7 harg7 arg8 harg8 arg9 harg9 arg10 harg10 arg11 harg11 arg12 harg12 v35 v38 v57
  let ⟨v139, v143⟩ : Σ' (v139 : FVec F S480x128 .f32), FVec F S8x128 .f32 ← k1_part3 i arg1 harg1 arg2 harg2 arg3 harg3 arg4 harg4 arg5 harg5 arg6 harg6 arg7 harg7 arg8 harg8 arg9 harg9 arg10 harg10 arg11 harg11 arg12 harg12 v64 v79 v86 v92 v98 v99
  let v203 : FVec F S8x128 .f32 ← k1_part4 i arg1 harg1 arg2 harg2 arg3 harg3 arg4 harg4 arg5 harg5 arg6 harg6 arg7 harg7 arg8 harg8 arg9 harg9 arg10 harg10 arg11 harg11 arg12 harg12 v139 v143
  let ⟨v259, v261⟩ : Σ' (v259 : FVec F S8x128 .f32), FVec F S480x128 .f32 ← k1_part5 i arg1 harg1 arg2 harg2 arg3 harg3 arg4 harg4 arg5 harg5 arg6 harg6 arg7 harg7 arg8 harg8 arg9 harg9 arg10 harg10 arg11 harg11 arg12 harg12 v139 v203
  let ⟨v297, v299⟩ : Σ' (v297 : FVec F S480x128 .f32), FVec F S480x128 .f32 ← k1_part6 i arg1 harg1 arg2 harg2 arg3 harg3 arg4 harg4 arg5 harg5 arg6 harg6 arg7 harg7 arg8 harg8 arg9 harg9 arg10 harg10 arg11 harg11 arg12 harg12 v63 v261
  let ⟨v334, v350, v351⟩ : Σ' (v334 : FVec F S480x128 .f32) (v350 : FVec F S8x128 .f32), FVec F S8x128 .f32 ← k1_part7 i arg1 harg1 arg2 harg2 arg3 harg3 arg4 harg4 arg5 harg5 arg6 harg6 arg7 harg7 arg8 harg8 arg9 harg9 arg10 harg10 arg11 harg11 arg12 harg12 v259 v297 v299
  let ⟨v410, v411⟩ : Σ' (v410 : FVec F S8x128 .f32), FVec F S8x128 .f32 ← k1_part8 i arg1 harg1 arg2 harg2 arg3 harg3 arg4 harg4 arg5 harg5 arg6 harg6 arg7 harg7 arg8 harg8 arg9 harg9 arg10 harg10 arg11 harg11 arg12 harg12 v334 v350 v351
  let ⟨v454, v460, v465⟩ : Σ' (v454 : FVec F S8x128 .f32) (v460 : FVec F S480x128 .f32), FVec F S480x1 .f32 ← k1_part9 i arg1 harg1 arg2 harg2 arg3 harg3 arg4 harg4 arg5 harg5 arg6 harg6 arg7 harg7 arg8 harg8 arg9 harg9 arg10 harg10 arg11 harg11 arg12 harg12 v334 v410 v411
  let ⟨v492, v494, v505, v506⟩ : Σ' (v492 : FVec F S480x128 .f32) (v494 : FVec F S480x128 .f32) (v505 : FVec F S480x128 .f32), FVec F S480x128 .f32 ← k1_part10 i arg1 harg1 arg2 harg2 arg3 harg3 arg4 harg4 arg5 harg5 arg6 harg6 arg7 harg7 arg8 harg8 arg9 harg9 arg10 harg10 arg11 harg11 arg12 harg12 v63 v460 v465
  let ⟨v529, v559⟩ : Σ' (v529 : FVec F S480x128 .f32), FVec F S8x128 .f32 ← k1_part11 i arg1 harg1 arg2 harg2 arg3 harg3 arg4 harg4 arg5 harg5 arg6 harg6 arg7 harg7 arg8 harg8 arg9 harg9 arg10 harg10 arg11 harg11 arg12 harg12 v454 v492 v494 v505 v506
  let v619 : FVec F S8x128 .f32 ← k1_part12 i arg1 harg1 arg2 harg2 arg3 harg3 arg4 harg4 arg5 harg5 arg6 harg6 arg7 harg7 arg8 harg8 arg9 harg9 arg10 harg10 arg11 harg11 arg12 harg12 v529 v559
  let ⟨v649, v664, v669⟩ : Σ' (v649 : FVec F S8x128 .f32) (v664 : FVec F S480x128 .f32), FVec F S480x128 .f32 ← k1_part13 i arg1 harg1 arg2 harg2 arg3 harg3 arg4 harg4 arg5 harg5 arg6 harg6 arg7 harg7 arg8 harg8 arg9 harg9 arg10 harg10 arg11 harg11 arg12 harg12 v63 v529 v619
  let ⟨v687, v689, v709, v710⟩ : Σ' (v687 : FVec F S480x128 .f32) (v689 : FVec F S480x128 .f32) (v709 : FVec F S480x128 .f32), Vec F S480x128 .bf16 ← k1_part14 i arg1 harg1 arg2 harg2 arg3 harg3 arg4 harg4 arg5 harg5 arg6 harg6 arg7 harg7 arg8 harg8 arg9 harg9 arg10 harg10 arg11 harg11 arg12 harg12 v664 v669
  let ⟨v724, v766, v767⟩ : Σ' (v724 : FVec F S480x128 .f32) (v766 : FVec F S8x128 .f32), FVec F S8x128 .f32 ← k1_part15 i arg1 harg1 arg2 harg2 arg3 harg3 arg4 harg4 arg5 harg5 arg6 harg6 arg7 harg7 arg8 harg8 arg9 harg9 arg10 harg10 arg11 harg11 arg12 harg12 v649 v687 v689 v709 v710
  let ⟨v826, v827⟩ : Σ' (v826 : FVec F S8x128 .f32), FVec F S8x128 .f32 ← k1_part16 i arg1 harg1 arg2 harg2 arg3 harg3 arg4 harg4 arg5 harg5 arg6 harg6 arg7 harg7 arg8 harg8 arg9 harg9 arg10 harg10 arg11 harg11 arg12 harg12 v724 v766 v767
  let ⟨v873, v875⟩ : Σ' (v873 : BitVec 32), BitVec 32 ← k1_part17 i arg1 harg1 arg2 harg2 arg3 harg3 arg4 harg4 arg5 harg5 arg6 harg6 arg7 harg7 arg8 harg8 arg9 harg9 arg10 harg10 arg11 harg11 arg12 harg12 v724 v826 v827
  let v877 : Elt F .f32 ← smemLoad arg9 (Rect.unit (s := S1x1) ![0, 0] S1x1.size inb_S1x1_S1x1_0_0) numel1_S1x1 rfl
  Prog.lift (.store arg9 (Rect.unit (s := S1x1) ![0, 0] S1x1.size inb_S1x1_S1x1_0_0) (fun _ => k1_pay1 (F := F) v875) Finset.univ (View.stores_smem_one rfl numel1_S1x1) (.inl rfl))
  let v881 : Elt F .f32 ← smemLoad arg12 (Rect.unit (s := S1) ![0] S1.size inb_S1_S1_0) numel1_S1 rfl
  Prog.lift (.store arg12 (Rect.unit (s := S1) ![0] S1.size inb_S1_S1_0) (fun _ => k1_pay2 (F := F) v873) Finset.univ (View.stores_smem_one rfl numel1_S1) (.inl rfl))
  pure ⟨⟩

/-- What every grid step runs: the codes of its 32 rows. -/
noncomputable def everyPart (i : grid1.Coords) (arg1 : Memref sig .tc .vmem S32x16384 .bf16) (harg1 : arg1.IsWhole) (arg2 : Memref sig .tc .vmem S1x960 .f32) (harg2 : arg2.IsWhole) (arg3 : Memref sig .tc .vmem S1x960 .f32) (harg3 : arg3.IsWhole) (arg4 : Memref sig .tc .vmem S1920x128 .f32) (harg4 : arg4.IsWhole) (arg5 : Memref sig .tc .vmem S1920x128 .f32) (harg5 : arg5.IsWhole) (arg6 : Memref sig .tc .vmem S1920x128 .bf16) (harg6 : arg6.IsWhole) (arg7 : Memref sig .tc .vmem S1920x128 .bf16) (harg7 : arg7.IsWhole) (arg8 : Memref sig .tc .vmem S32x16384 .fp8e4m3) (harg8 : arg8.IsWhole) (arg9 : Memref sig .tc .smem S1x1 .f32) (harg9 : arg9.IsWhole) (arg10 : Memref sig .tc .vmem S1920x128 .f32) (harg10 : arg10.IsWhole) (arg11 : Memref sig .tc .vmem S1920x128 .f32) (harg11 : arg11.IsWhole) (arg12 : Memref sig .tc .smem S1 .f32) (harg12 : arg12.IsWhole) :
    Prog (TpuEff nD τ sig (Elt F) Λ₀ .tc) PUnit := do
  let v6 : Vec F S32x128 .f32 ← Prog.lift (.load arg10 (Rect.unit (s := S1920x128) (k1_off1 i) S32x128.size (k1_off1_inb i)).toLoadRect (View.loadsAt_vmem h_S32x128))
  let v8 : Vec F S32x128 .f32 ← Prog.lift (.load arg11 (Rect.unit (s := S1920x128) (k1_off1 i) S32x128.size (k1_off1_inb i)).toLoadRect (View.loadsAt_vmem h_S32x128))
  let v9 : Elt F .f32 ← smemLoad arg12 (Rect.unit (s := S1) ![0] S1.size inb_S1_S1_0) numel1_S1 rfl
  Scf.Loop.for k1_t1_loop k1_t1_ok ⟨⟩ (k1_t1_body i arg1 harg1 arg2 harg2 arg3 harg3 arg4 harg4 arg5 harg5 arg6 harg6 arg7 harg7 arg8 harg8 arg9 harg9 arg10 harg10 arg11 harg11 arg12 harg12 v6 v8 v9)
  pure ⟨⟩

set_option maxRecDepth 65536 in
/-- At the first grid step the body is the two parts in turn. -/
theorem body_first (i : grid1.Coords) (arg1 : Memref sig .tc .vmem S32x16384 .bf16) (harg1 : arg1.IsWhole) (arg2 : Memref sig .tc .vmem S1x960 .f32) (harg2 : arg2.IsWhole) (arg3 : Memref sig .tc .vmem S1x960 .f32) (harg3 : arg3.IsWhole) (arg4 : Memref sig .tc .vmem S1920x128 .f32) (harg4 : arg4.IsWhole) (arg5 : Memref sig .tc .vmem S1920x128 .f32) (harg5 : arg5.IsWhole) (arg6 : Memref sig .tc .vmem S1920x128 .bf16) (harg6 : arg6.IsWhole) (arg7 : Memref sig .tc .vmem S1920x128 .bf16) (harg7 : arg7.IsWhole) (arg8 : Memref sig .tc .vmem S32x16384 .fp8e4m3) (harg8 : arg8.IsWhole) (arg9 : Memref sig .tc .smem S1x1 .f32) (harg9 : arg9.IsWhole) (arg10 : Memref sig .tc .vmem S1920x128 .f32) (harg10 : arg10.IsWhole) (arg11 : Memref sig .tc .vmem S1920x128 .f32) (harg11 : arg11.IsWhole) (arg12 : Memref sig .tc .smem S1 .f32) (harg12 : arg12.IsWhole) (h : k1_cond1 i = 1#1) :
    cc1_quant (F := F) i arg1 harg1 arg2 harg2 arg3 harg3 arg4 harg4 arg5 harg5 arg6 harg6 arg7 harg7 arg8 harg8 arg9 harg9 arg10 harg10 arg11 harg11 arg12 harg12 = firstPart i arg1 harg1 arg2 harg2 arg3 harg3 arg4 harg4 arg5 harg5 arg6 harg6 arg7 harg7 arg8 harg8 arg9 harg9 arg10 harg10 arg11 harg11 arg12 harg12 >>= fun _ => everyPart i arg1 harg1 arg2 harg2 arg3 harg3 arg4 harg4 arg5 harg5 arg6 harg6 arg7 harg7 arg8 harg8 arg9 harg9 arg10 harg10 arg11 harg11 arg12 harg12 := by
  rw [cc1_quant_eq_skeleton]; unfold cc1_quant_skel; rw [dif_pos h]; rfl

/-- At any other grid step it is the second part. -/
theorem body_later (i : grid1.Coords) (arg1 : Memref sig .tc .vmem S32x16384 .bf16) (harg1 : arg1.IsWhole) (arg2 : Memref sig .tc .vmem S1x960 .f32) (harg2 : arg2.IsWhole) (arg3 : Memref sig .tc .vmem S1x960 .f32) (harg3 : arg3.IsWhole) (arg4 : Memref sig .tc .vmem S1920x128 .f32) (harg4 : arg4.IsWhole) (arg5 : Memref sig .tc .vmem S1920x128 .f32) (harg5 : arg5.IsWhole) (arg6 : Memref sig .tc .vmem S1920x128 .bf16) (harg6 : arg6.IsWhole) (arg7 : Memref sig .tc .vmem S1920x128 .bf16) (harg7 : arg7.IsWhole) (arg8 : Memref sig .tc .vmem S32x16384 .fp8e4m3) (harg8 : arg8.IsWhole) (arg9 : Memref sig .tc .smem S1x1 .f32) (harg9 : arg9.IsWhole) (arg10 : Memref sig .tc .vmem S1920x128 .f32) (harg10 : arg10.IsWhole) (arg11 : Memref sig .tc .vmem S1920x128 .f32) (harg11 : arg11.IsWhole) (arg12 : Memref sig .tc .smem S1 .f32) (harg12 : arg12.IsWhole) (h : ¬ k1_cond1 i = 1#1) :
    cc1_quant (F := F) i arg1 harg1 arg2 harg2 arg3 harg3 arg4 harg4 arg5 harg5 arg6 harg6 arg7 harg7 arg8 harg8 arg9 harg9 arg10 harg10 arg11 harg11 arg12 harg12 = everyPart i arg1 harg1 arg2 harg2 arg3 harg3 arg4 harg4 arg5 harg5 arg6 harg6 arg7 harg7 arg8 harg8 arg9 harg9 arg10 harg10 arg11 harg11 arg12 harg12 := by
  rw [cc1_quant_eq_skeleton]; unfold cc1_quant_skel; rw [dif_neg h]; rfl

set_option maxHeartbeats 4000000 in
/-- The first part leaves these stores in the scale, the per-row scale and shift and the inverse scale, from the two
    parameter rows and the four statistics. -/
noncomputable def firstRun (c : Dev nD) (i : grid1.Coords) (arg1 : Memref sig .tc .vmem S32x16384 .bf16) (harg1 : arg1.IsWhole) (arg2 : Memref sig .tc .vmem S1x960 .f32) (harg2 : arg2.IsWhole) (arg3 : Memref sig .tc .vmem S1x960 .f32) (harg3 : arg3.IsWhole) (arg4 : Memref sig .tc .vmem S1920x128 .f32) (harg4 : arg4.IsWhole) (arg5 : Memref sig .tc .vmem S1920x128 .f32) (harg5 : arg5.IsWhole) (arg6 : Memref sig .tc .vmem S1920x128 .bf16) (harg6 : arg6.IsWhole) (arg7 : Memref sig .tc .vmem S1920x128 .bf16) (harg7 : arg7.IsWhole) (arg8 : Memref sig .tc .vmem S32x16384 .fp8e4m3) (harg8 : arg8.IsWhole) (arg9 : Memref sig .tc .smem S1x1 .f32) (harg9 : arg9.IsWhole) (arg10 : Memref sig .tc .vmem S1920x128 .f32) (harg10 : arg10.IsWhole) (arg11 : Memref sig .tc .vmem S1920x128 .f32) (harg11 : arg11.IsWhole) (arg12 : Memref sig .tc .smem S1 .f32) (harg12 : arg12.IsWhole)
    (x1 : Vec F S1x960 .f32) (x2 : Vec F S1x960 .f32) (x3 : Vec F S1920x128 .f32) (x4 : Vec F S1920x128 .f32) (x5 : Vec F S1920x128 .bf16) (x6 : Vec F S1920x128 .bf16) :
    Σ' (L9 : List (View.Piece (Elt F) S1x1 .f32)), Σ' (L10 : List (View.Piece (Elt F) S1920x128 .f32)), Σ' (L11 : List (View.Piece (Elt F) S1920x128 .f32)), { L12 : List (View.Piece (Elt F) S1 .f32) //
      ∀ (E : Set ℕ) (K : PUnit → sProp 𝕄),
        iprop(owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12)) -∗ K ⟨⟩))
          ⊢ wp frame (wpE (defs₀ (F := F)) Variants.none c none) E (firstPart i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    unfold firstPart
    simp only [k1_part17_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%d9, %f9, -, H9⟩, ⟨%d10, %f10, -, H10⟩, ⟨%d11, %f11, -, H11⟩, Hk⟩
    obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H8]; · iexists _; iexact H8
    isplitl [H9]; · iexists _; iexact H9
    isplitl [H10]; · iexists _; iexact H10
    iexists _; iexact H11

set_option maxHeartbeats 2000000 in
/-- The second part leaves these stores in the block of codes, from the block of rows, the per-row scale and shift
    and the inverse scale. -/
noncomputable def everyRun (c : Dev nD) (i : grid1.Coords) (arg1 : Memref sig .tc .vmem S32x16384 .bf16) (harg1 : arg1.IsWhole) (arg2 : Memref sig .tc .vmem S1x960 .f32) (harg2 : arg2.IsWhole) (arg3 : Memref sig .tc .vmem S1x960 .f32) (harg3 : arg3.IsWhole) (arg4 : Memref sig .tc .vmem S1920x128 .f32) (harg4 : arg4.IsWhole) (arg5 : Memref sig .tc .vmem S1920x128 .f32) (harg5 : arg5.IsWhole) (arg6 : Memref sig .tc .vmem S1920x128 .bf16) (harg6 : arg6.IsWhole) (arg7 : Memref sig .tc .vmem S1920x128 .bf16) (harg7 : arg7.IsWhole) (arg8 : Memref sig .tc .vmem S32x16384 .fp8e4m3) (harg8 : arg8.IsWhole) (arg9 : Memref sig .tc .smem S1x1 .f32) (harg9 : arg9.IsWhole) (arg10 : Memref sig .tc .vmem S1920x128 .f32) (harg10 : arg10.IsWhole) (arg11 : Memref sig .tc .vmem S1920x128 .f32) (harg11 : arg11.IsWhole) (arg12 : Memref sig .tc .smem S1 .f32) (harg12 : arg12.IsWhole)
    (x0 : Vec F S32x16384 .bf16) (A : Vec F S1920x128 .f32) (B : Vec F S1920x128 .f32) (I : Vec F S1 .f32) :
    { L8 : List (View.Piece (Elt F) S32x16384 .fp8e4m3) //
      ∀ (E : Set ℕ) (K : PUnit → sProp 𝕄),
        iprop(owns (c : Thread nD τ) arg1 fullShare x0 ∗ (∃ d, owns (c : Thread nD τ) arg8 fullShare d) ∗ owns (c : Thread nD τ) arg10 fullShare A ∗ owns (c : Thread nD τ) arg11 fullShare B ∗ owns (c : Thread nD τ) arg12 fullShare I
            ∗ (iprop(owns (c : Thread nD τ) arg1 fullShare x0 ∗ (∃ f, arg8.view.loc (c : Thread nD τ) ↦[arg8.view.set]{fullShare} arg8.view.writes (Elt F) f L8) ∗ owns (c : Thread nD τ) arg10 fullShare A ∗ owns (c : Thread nD τ) arg11 fullShare B ∗ owns (c : Thread nD τ) arg12 fullShare I) -∗ K ⟨⟩))
          ⊢ wp frame (wpE (defs₀ (F := F)) Variants.none c none) E (everyPart i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    unfold everyPart
    unfold owns
    iintro ⟨⟨%f0, %hf0, H0⟩, ⟨%d7, %f7, -, H7⟩, ⟨%f9, %hf9, H9⟩, ⟨%f10, %hf10, H10⟩, ⟨%f11, %hf11, H11⟩, Hk⟩
    obtain rfl := harg1.eq_unread hf0; obtain rfl := harg10.eq_unread hf9; obtain rfl := harg11.eq_unread hf10; obtain rfl := harg12.eq_unread hf11
    sl_exec
    sl_step
    iapply Hk
    isplitl [H0]
    · iexists _; isplitr; · ipureintro; exact harg1.read_unread _
      iexact H0
    isplitl [H7]; · iexists _; iexact H7
    isplitl [H9]
    · iexists _; isplitr; · ipureintro; exact harg10.read_unread _
      iexact H9
    isplitl [H10]
    · iexists _; isplitr; · ipureintro; exact harg11.read_unread _
      iexact H10
    iexists _; isplitr; · ipureintro; exact harg12.read_unread _
    iexact H11

end Cert.KernelIdeal.Two

end
-- ==== Proof.Region1.lean ====
/- The second launch ("quant"): what each grid step leaves in the codes and in the scale, what it carries in its
   scratch between steps, and the launch's proof data, from the arrays as the launch finds them. -/
module

public import proofs.«01_k».proof.Proof.Region0
public import proofs.«01_k».proof.Proof.Run1
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Two

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The contents between the launches -/

/-- The unscoped buffers after the first launch: its four outputs at what its grid steps wrote back. -/
def W2 (c : Dev nD) : Valuation τ sig (Elt F) :=
  Function.update (Function.update (Function.update (Function.update (V1 m c) main_v3_0 ((dat0 m c).arrAt 2 cfg0.N)) main_v3_1 ((dat0 m c).arrAt 3 cfg0.N)) main_v3_2 ((dat0 m c).arrAt 4 cfg0.N)) main_v3_3 ((dat0 m c).arrAt 5 cfg0.N)

/-- The first launch's outputs, as the unknowns the later contents are written over. -/
def outs0 : Outs (F := F) := fun _ r c => W2 m c r

/-- The unscoped buffers as the second launch finds them. -/
abbrev E1 (c : Dev nD) : Valuation τ sig (Elt F) := V3 m (outs0 m) c

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (E1 m c (Pipeline.arrRef spec1 w))

/-- Input window 0's staging buffer holds its block at every point. -/
theorem before1_0_of {c : Dev nD} (dat : Dat τ (Elt F) Unit ℕ (UR sig nD τ) ℕ cfg1 c) (hA : dat.A 0 = E1 m c (Pipeline.arrRef spec1 0))
    (hafter : ∀ t, dat.after 0 t = iblk1 m c 0 t) (t : Fin cfg1.N) (d) : dat.before 0 t d = iblk1 m c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point. -/
theorem before1_1_of {c : Dev nD} (dat : Dat τ (Elt F) Unit ℕ (UR sig nD τ) ℕ cfg1 c) (hA : dat.A 1 = E1 m c (Pipeline.arrRef spec1 1))
    (hafter : ∀ t, dat.after 1 t = iblk1 m c 1 t) (t : Fin cfg1.N) (d) : dat.before 1 t d = iblk1 m c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point. -/
theorem before1_2_of {c : Dev nD} (dat : Dat τ (Elt F) Unit ℕ (UR sig nD τ) ℕ cfg1 c) (hA : dat.A 2 = E1 m c (Pipeline.arrRef spec1 2))
    (hafter : ∀ t, dat.after 2 t = iblk1 m c 2 t) (t : Fin cfg1.N) (d) : dat.before 2 t d = iblk1 m c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point. -/
theorem before1_3_of {c : Dev nD} (dat : Dat τ (Elt F) Unit ℕ (UR sig nD τ) ℕ cfg1 c) (hA : dat.A 3 = E1 m c (Pipeline.arrRef spec1 3))
    (hafter : ∀ t, dat.after 3 t = iblk1 m c 3 t) (t : Fin cfg1.N) (d) : dat.before 3 t d = iblk1 m c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point. -/
theorem before1_4_of {c : Dev nD} (dat : Dat τ (Elt F) Unit ℕ (UR sig nD τ) ℕ cfg1 c) (hA : dat.A 4 = E1 m c (Pipeline.arrRef spec1 4))
    (hafter : ∀ t, dat.after 4 t = iblk1 m c 4 t) (t : Fin cfg1.N) (d) : dat.before 4 t d = iblk1 m c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every point. -/
theorem before1_5_of {c : Dev nD} (dat : Dat τ (Elt F) Unit ℕ (UR sig nD τ) ℕ cfg1 c) (hA : dat.A 5 = E1 m c (Pipeline.arrRef spec1 5))
    (hafter : ∀ t, dat.after 5 t = iblk1 m c 5 t) (t : Fin cfg1.N) (d) : dat.before 5 t d = iblk1 m c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's staging buffer holds its block at every point. -/
theorem before1_6_of {c : Dev nD} (dat : Dat τ (Elt F) Unit ℕ (UR sig nD τ) ℕ cfg1 c) (hA : dat.A 6 = E1 m c (Pipeline.arrRef spec1 6))
    (hafter : ∀ t, dat.after 6 t = iblk1 m c 6 t) (t : Fin cfg1.N) (d) : dat.before 6 t d = iblk1 m c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The staging and scratch memrefs -/

abbrev ms1_0 (t : Fin cfg1.N) : Memref sig .tc .vmem S32x16384 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x960 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x960 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1920x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1920x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1920x128 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1920x128 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S32x16384 .fp8e4m3 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .smem S1x1 .f32 := win1_8.stage (cfg1.slots t 8)
abbrev hs1_8 (t : Fin cfg1.N) : (ms1_8 t).IsWhole := hstage1_8 ((cfg1.slots t 8).cast nbuf1_8)
abbrev scA : Memref sig .tc .vmem S1920x128 .f32 := Memref.whole cc1_scratch0
abbrev scB : Memref sig .tc .vmem S1920x128 .f32 := Memref.whole cc1_scratch1
abbrev scI : Memref sig .tc .smem S1 .f32 := Memref.whole cc1_scratch2
abbrev VO7 : View sig .tc .vmem S32x16384 .fp8e4m3 := (Memref.whole cc1_stg7_0 : Memref sig .tc .vmem S32x16384 .fp8e4m3).view
abbrev VO8 : View sig .tc .smem S1x1 .f32 := (Memref.whole cc1_stg8_0 : Memref sig .tc .smem S1x1 .f32).view

/-- The first grid point. -/
def pt0 : Fin cfg1.N := ⟨0, by rw [show cfg1.N = 60 from N_1]; decide⟩

theorem hcond1 : ∀ t : Fin cfg1.N, k1_cond1 (grid1.coords t) = 1#1 ↔ t.val % 60 = 0 :=
  (fun t => by
    have ht : t.val < 60 := Nat.lt_of_lt_of_eq t.isLt N_1
    have e0 : (grid1.coords t 0).val = t.val / 1 % 60 := Pipeline.Grid.coords_val t 0 (by decide) rfl
    simp only [k1_cond1, e0]
    word_cmp
   : ∀ t : Fin grid1.N, k1_cond1 (grid1.coords t) = 1#1 ↔ t.val % 60 = 0)

theorem hcond_pt0 : k1_cond1 (grid1.coords pt0) = 1#1 := (hcond1 pt0).mpr rfl

/-! ## What the first part leaves -/

theorem coverF_8 (c : Dev nD) (i : grid1.Coords) (arg1 : Memref sig .tc .vmem S32x16384 .bf16) (harg1 : arg1.IsWhole) (arg2 : Memref sig .tc .vmem S1x960 .f32) (harg2 : arg2.IsWhole) (arg3 : Memref sig .tc .vmem S1x960 .f32) (harg3 : arg3.IsWhole) (arg4 : Memref sig .tc .vmem S1920x128 .f32) (harg4 : arg4.IsWhole) (arg5 : Memref sig .tc .vmem S1920x128 .f32) (harg5 : arg5.IsWhole) (arg6 : Memref sig .tc .vmem S1920x128 .bf16) (harg6 : arg6.IsWhole) (arg7 : Memref sig .tc .vmem S1920x128 .bf16) (harg7 : arg7.IsWhole) (arg8 : Memref sig .tc .vmem S32x16384 .fp8e4m3) (harg8 : arg8.IsWhole) (arg9 : Memref sig .tc .smem S1x1 .f32) (harg9 : arg9.IsWhole) (arg10 : Memref sig .tc .vmem S1920x128 .f32) (harg10 : arg10.IsWhole) (arg11 : Memref sig .tc .vmem S1920x128 .f32) (harg11 : arg11.IsWhole) (arg12 : Memref sig .tc .smem S1 .f32) (harg12 : arg12.IsWhole) (x1 : Vec F S1x960 .f32) (x2 : Vec F S1x960 .f32) (x3 : Vec F S1920x128 .f32) (x4 : Vec F S1920x128 .f32) (x5 : Vec F S1920x128 .bf16) (x6 : Vec F S1920x128 .bf16) (y : S1x1.Idx) :
    ∃ pc ∈ (firstRun c i arg1 harg1 arg2 harg2 arg3 harg3 arg4 harg4 arg5 harg5 arg6 harg6 arg7 harg7 arg8 harg8 arg9 harg9 arg10 harg10 arg11 harg11 arg12 harg12 x1 x2 x3 x4 x5 x6).1, y ∈ pc.1.set :=
  View.cover_of_tiledL (firstRun c i arg1 harg1 arg2 harg2 arg3 harg3 arg4 harg4 arg5 harg5 arg6 harg6 arg7 harg7 arg8 harg8 arg9 harg9 arg10 harg10 arg11 harg11 arg12 harg12 x1 x2 x3 x4 x5 x6).1 S1x1.size (by sl_kernel_rfl) y

theorem coverF_A (c : Dev nD) (i : grid1.Coords) (arg1 : Memref sig .tc .vmem S32x16384 .bf16) (harg1 : arg1.IsWhole) (arg2 : Memref sig .tc .vmem S1x960 .f32) (harg2 : arg2.IsWhole) (arg3 : Memref sig .tc .vmem S1x960 .f32) (harg3 : arg3.IsWhole) (arg4 : Memref sig .tc .vmem S1920x128 .f32) (harg4 : arg4.IsWhole) (arg5 : Memref sig .tc .vmem S1920x128 .f32) (harg5 : arg5.IsWhole) (arg6 : Memref sig .tc .vmem S1920x128 .bf16) (harg6 : arg6.IsWhole) (arg7 : Memref sig .tc .vmem S1920x128 .bf16) (harg7 : arg7.IsWhole) (arg8 : Memref sig .tc .vmem S32x16384 .fp8e4m3) (harg8 : arg8.IsWhole) (arg9 : Memref sig .tc .smem S1x1 .f32) (harg9 : arg9.IsWhole) (arg10 : Memref sig .tc .vmem S1920x128 .f32) (harg10 : arg10.IsWhole) (arg11 : Memref sig .tc .vmem S1920x128 .f32) (harg11 : arg11.IsWhole) (arg12 : Memref sig .tc .smem S1 .f32) (harg12 : arg12.IsWhole) (x1 : Vec F S1x960 .f32) (x2 : Vec F S1x960 .f32) (x3 : Vec F S1920x128 .f32) (x4 : Vec F S1920x128 .f32) (x5 : Vec F S1920x128 .bf16) (x6 : Vec F S1920x128 .bf16) (y : S1920x128.Idx) :
    ∃ pc ∈ (firstRun c i arg1 harg1 arg2 harg2 arg3 harg3 arg4 harg4 arg5 harg5 arg6 harg6 arg7 harg7 arg8 harg8 arg9 harg9 arg10 harg10 arg11 harg11 arg12 harg12 x1 x2 x3 x4 x5 x6).2.1, y ∈ pc.1.set :=
  View.cover_of_tiledL (firstRun c i arg1 harg1 arg2 harg2 arg3 harg3 arg4 harg4 arg5 harg5 arg6 harg6 arg7 harg7 arg8 harg8 arg9 harg9 arg10 harg10 arg11 harg11 arg12 harg12 x1 x2 x3 x4 x5 x6).2.1 S480x128.size (by sl_kernel_rfl) y

theorem coverF_B (c : Dev nD) (i : grid1.Coords) (arg1 : Memref sig .tc .vmem S32x16384 .bf16) (harg1 : arg1.IsWhole) (arg2 : Memref sig .tc .vmem S1x960 .f32) (harg2 : arg2.IsWhole) (arg3 : Memref sig .tc .vmem S1x960 .f32) (harg3 : arg3.IsWhole) (arg4 : Memref sig .tc .vmem S1920x128 .f32) (harg4 : arg4.IsWhole) (arg5 : Memref sig .tc .vmem S1920x128 .f32) (harg5 : arg5.IsWhole) (arg6 : Memref sig .tc .vmem S1920x128 .bf16) (harg6 : arg6.IsWhole) (arg7 : Memref sig .tc .vmem S1920x128 .bf16) (harg7 : arg7.IsWhole) (arg8 : Memref sig .tc .vmem S32x16384 .fp8e4m3) (harg8 : arg8.IsWhole) (arg9 : Memref sig .tc .smem S1x1 .f32) (harg9 : arg9.IsWhole) (arg10 : Memref sig .tc .vmem S1920x128 .f32) (harg10 : arg10.IsWhole) (arg11 : Memref sig .tc .vmem S1920x128 .f32) (harg11 : arg11.IsWhole) (arg12 : Memref sig .tc .smem S1 .f32) (harg12 : arg12.IsWhole) (x1 : Vec F S1x960 .f32) (x2 : Vec F S1x960 .f32) (x3 : Vec F S1920x128 .f32) (x4 : Vec F S1920x128 .f32) (x5 : Vec F S1920x128 .bf16) (x6 : Vec F S1920x128 .bf16) (y : S1920x128.Idx) :
    ∃ pc ∈ (firstRun c i arg1 harg1 arg2 harg2 arg3 harg3 arg4 harg4 arg5 harg5 arg6 harg6 arg7 harg7 arg8 harg8 arg9 harg9 arg10 harg10 arg11 harg11 arg12 harg12 x1 x2 x3 x4 x5 x6).2.2.1, y ∈ pc.1.set :=
  View.cover_of_tiledL (firstRun c i arg1 harg1 arg2 harg2 arg3 harg3 arg4 harg4 arg5 harg5 arg6 harg6 arg7 harg7 arg8 harg8 arg9 harg9 arg10 harg10 arg11 harg11 arg12 harg12 x1 x2 x3 x4 x5 x6).2.2.1 S480x128.size (by sl_kernel_rfl) y

theorem coverF_I (c : Dev nD) (i : grid1.Coords) (arg1 : Memref sig .tc .vmem S32x16384 .bf16) (harg1 : arg1.IsWhole) (arg2 : Memref sig .tc .vmem S1x960 .f32) (harg2 : arg2.IsWhole) (arg3 : Memref sig .tc .vmem S1x960 .f32) (harg3 : arg3.IsWhole) (arg4 : Memref sig .tc .vmem S1920x128 .f32) (harg4 : arg4.IsWhole) (arg5 : Memref sig .tc .vmem S1920x128 .f32) (harg5 : arg5.IsWhole) (arg6 : Memref sig .tc .vmem S1920x128 .bf16) (harg6 : arg6.IsWhole) (arg7 : Memref sig .tc .vmem S1920x128 .bf16) (harg7 : arg7.IsWhole) (arg8 : Memref sig .tc .vmem S32x16384 .fp8e4m3) (harg8 : arg8.IsWhole) (arg9 : Memref sig .tc .smem S1x1 .f32) (harg9 : arg9.IsWhole) (arg10 : Memref sig .tc .vmem S1920x128 .f32) (harg10 : arg10.IsWhole) (arg11 : Memref sig .tc .vmem S1920x128 .f32) (harg11 : arg11.IsWhole) (arg12 : Memref sig .tc .smem S1 .f32) (harg12 : arg12.IsWhole) (x1 : Vec F S1x960 .f32) (x2 : Vec F S1x960 .f32) (x3 : Vec F S1920x128 .f32) (x4 : Vec F S1920x128 .f32) (x5 : Vec F S1920x128 .bf16) (x6 : Vec F S1920x128 .bf16) (y : S1.Idx) :
    ∃ pc ∈ (firstRun c i arg1 harg1 arg2 harg2 arg3 harg3 arg4 harg4 arg5 harg5 arg6 harg6 arg7 harg7 arg8 harg8 arg9 harg9 arg10 harg10 arg11 harg11 arg12 harg12 x1 x2 x3 x4 x5 x6).2.2.2.1, y ∈ pc.1.set :=
  View.cover_of_tiledL (firstRun c i arg1 harg1 arg2 harg2 arg3 harg3 arg4 harg4 arg5 harg5 arg6 harg6 arg7 harg7 arg8 harg8 arg9 harg9 arg10 harg10 arg11 harg11 arg12 harg12 x1 x2 x3 x4 x5 x6).2.2.2.1 S1.size (by sl_kernel_rfl) y

theorem coverE (c : Dev nD) (i : grid1.Coords) (arg1 : Memref sig .tc .vmem S32x16384 .bf16) (harg1 : arg1.IsWhole) (arg2 : Memref sig .tc .vmem S1x960 .f32) (harg2 : arg2.IsWhole) (arg3 : Memref sig .tc .vmem S1x960 .f32) (harg3 : arg3.IsWhole) (arg4 : Memref sig .tc .vmem S1920x128 .f32) (harg4 : arg4.IsWhole) (arg5 : Memref sig .tc .vmem S1920x128 .f32) (harg5 : arg5.IsWhole) (arg6 : Memref sig .tc .vmem S1920x128 .bf16) (harg6 : arg6.IsWhole) (arg7 : Memref sig .tc .vmem S1920x128 .bf16) (harg7 : arg7.IsWhole) (arg8 : Memref sig .tc .vmem S32x16384 .fp8e4m3) (harg8 : arg8.IsWhole) (arg9 : Memref sig .tc .smem S1x1 .f32) (harg9 : arg9.IsWhole) (arg10 : Memref sig .tc .vmem S1920x128 .f32) (harg10 : arg10.IsWhole) (arg11 : Memref sig .tc .vmem S1920x128 .f32) (harg11 : arg11.IsWhole) (arg12 : Memref sig .tc .smem S1 .f32) (harg12 : arg12.IsWhole) (x0 : Vec F S32x16384 .bf16) (A : Vec F S1920x128 .f32) (B : Vec F S1920x128 .f32) (I : Vec F S1 .f32) (y : S32x16384.Idx) :
    ∃ pc ∈ (everyRun c i arg1 harg1 arg2 harg2 arg3 harg3 arg4 harg4 arg5 harg5 arg6 harg6 arg7 harg7 arg8 harg8 arg9 harg9 arg10 harg10 arg11 harg11 arg12 harg12 x0 A B I).1, y ∈ pc.1.set :=
  View.cover_of_tiledL (everyRun c i arg1 harg1 arg2 harg2 arg3 harg3 arg4 harg4 arg5 harg5 arg6 harg6 arg7 harg7 arg8 harg8 arg9 harg9 arg10 harg10 arg11 harg11 arg12 harg12 x0 A B I).1 S32x128.size (by sl_kernel_rfl) y

/-- The scale the first grid step writes. -/
def outS (c : Dev nD) : Vec F S1x1 .f32 := VO8.read (Elt F) (VO8.writes (Elt F) VO8.junk (firstRun c (grid1.coords pt0) (ms1_0 pt0) (hs1_0 pt0) (ms1_1 pt0) (hs1_1 pt0) (ms1_2 pt0) (hs1_2 pt0) (ms1_3 pt0) (hs1_3 pt0) (ms1_4 pt0) (hs1_4 pt0) (ms1_5 pt0) (hs1_5 pt0) (ms1_6 pt0) (hs1_6 pt0) (ms1_7 pt0) (hs1_7 pt0) (ms1_8 pt0) (hs1_8 pt0) scA (Memref.isWhole_whole _) scB (Memref.isWhole_whole _) scI (Memref.isWhole_whole _) (iblk1 m c 1 pt0) (iblk1 m c 2 pt0) (iblk1 m c 3 pt0) (iblk1 m c 4 pt0) (iblk1 m c 5 pt0) (iblk1 m c 6 pt0)).1)
/-- The per-row scale it leaves in scratch, -/
def outA (c : Dev nD) : Vec F S1920x128 .f32 := scA.view.read (Elt F) (scA.view.writes (Elt F) scA.view.junk (firstRun c (grid1.coords pt0) (ms1_0 pt0) (hs1_0 pt0) (ms1_1 pt0) (hs1_1 pt0) (ms1_2 pt0) (hs1_2 pt0) (ms1_3 pt0) (hs1_3 pt0) (ms1_4 pt0) (hs1_4 pt0) (ms1_5 pt0) (hs1_5 pt0) (ms1_6 pt0) (hs1_6 pt0) (ms1_7 pt0) (hs1_7 pt0) (ms1_8 pt0) (hs1_8 pt0) scA (Memref.isWhole_whole _) scB (Memref.isWhole_whole _) scI (Memref.isWhole_whole _) (iblk1 m c 1 pt0) (iblk1 m c 2 pt0) (iblk1 m c 3 pt0) (iblk1 m c 4 pt0) (iblk1 m c 5 pt0) (iblk1 m c 6 pt0)).2.1)
/-- the per-row shift, -/
def outB (c : Dev nD) : Vec F S1920x128 .f32 := scB.view.read (Elt F) (scB.view.writes (Elt F) scB.view.junk (firstRun c (grid1.coords pt0) (ms1_0 pt0) (hs1_0 pt0) (ms1_1 pt0) (hs1_1 pt0) (ms1_2 pt0) (hs1_2 pt0) (ms1_3 pt0) (hs1_3 pt0) (ms1_4 pt0) (hs1_4 pt0) (ms1_5 pt0) (hs1_5 pt0) (ms1_6 pt0) (hs1_6 pt0) (ms1_7 pt0) (hs1_7 pt0) (ms1_8 pt0) (hs1_8 pt0) scA (Memref.isWhole_whole _) scB (Memref.isWhole_whole _) scI (Memref.isWhole_whole _) (iblk1 m c 1 pt0) (iblk1 m c 2 pt0) (iblk1 m c 3 pt0) (iblk1 m c 4 pt0) (iblk1 m c 5 pt0) (iblk1 m c 6 pt0)).2.2.1)
/-- and the inverse scale. -/
def outI (c : Dev nD) : Vec F S1 .f32 := scI.view.read (Elt F) (scI.view.writes (Elt F) scI.view.junk (firstRun c (grid1.coords pt0) (ms1_0 pt0) (hs1_0 pt0) (ms1_1 pt0) (hs1_1 pt0) (ms1_2 pt0) (hs1_2 pt0) (ms1_3 pt0) (hs1_3 pt0) (ms1_4 pt0) (hs1_4 pt0) (ms1_5 pt0) (hs1_5 pt0) (ms1_6 pt0) (hs1_6 pt0) (ms1_7 pt0) (hs1_7 pt0) (ms1_8 pt0) (hs1_8 pt0) scA (Memref.isWhole_whole _) scB (Memref.isWhole_whole _) scI (Memref.isWhole_whole _) (iblk1 m c 1 pt0) (iblk1 m c 2 pt0) (iblk1 m c 3 pt0) (iblk1 m c 4 pt0) (iblk1 m c 5 pt0) (iblk1 m c 6 pt0)).2.2.2.1)
/-- The codes grid step `t` writes. -/
def outC (c : Dev nD) (t : Fin cfg1.N) : Vec F S32x16384 .fp8e4m3 :=
  VO7.read (Elt F) (VO7.writes (Elt F) VO7.junk (everyRun c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scA (Memref.isWhole_whole _) scB (Memref.isWhole_whole _) scI (Memref.isWhole_whole _) (iblk1 m c 0 t) (outA m c) (outB m c) (outI m c)).1)

/-! ## The proof data -/

/-- The first launch's staging buffers, at some contents. -/
def stgRest (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- What the second launch carries between grid steps: before the first, its scratch at anything; afterwards the
    per-row scale and shift and the inverse scale. -/
def Phi1 (c : Dev nD) (t : Fin (cfg1.N + 1)) : sProp 𝕄 :=
  if t.val = 0 then Pipeline.ΦA spec1 c
  else iprop(stgRest c ∗ owns (c : Thread nD τ) scA fullShare (outA m c) ∗ owns (c : Thread nD τ) scB fullShare (outB m c) ∗ owns (c : Thread nD τ) scI fullShare (outI m c) ∗ ∃ r, prngReg c r)

theorem Phi1_zero (c : Dev nD) : (Pipeline.ΦA spec1 c : sProp 𝕄) ⊢ iprop(stgRest c ∗ (∃ d, owns (c : Thread nD τ) scA fullShare d) ∗ (∃ d, owns (c : Thread nD τ) scB fullShare d) ∗ (∃ d, owns (c : Thread nD τ) scI fullShare d) ∗ ∃ r, prngReg c r) := by
  unfold Pipeline.ΦA stgRest; rw [scopedRest1_eq]; simp only [scA, scB, scI, owns_whole]
  iintro ⟨⟨R0, R1, R2, R3, R4, R5, R6, R7, R8, R9, R10, A, B, I⟩, G⟩
  isplitl [R0 R1 R2 R3 R4 R5 R6 R7 R8 R9 R10]
  · (isplitl [R0]; · iexact R0); (isplitl [R1]; · iexact R1); (isplitl [R2]; · iexact R2); (isplitl [R3]; · iexact R3); (isplitl [R4]; · iexact R4); (isplitl [R5]; · iexact R5); (isplitl [R6]; · iexact R6); (isplitl [R7]; · iexact R7); (isplitl [R8]; · iexact R8); (isplitl [R9]; · iexact R9)
    iexact R10
  isplitl [A]; · iexact A
  isplitl [B]; · iexact B
  isplitl [I]; · iexact I
  iexact G

theorem Phi1_back (c : Dev nD) : iprop(stgRest c ∗ (∃ d, owns (c : Thread nD τ) scA fullShare d) ∗ (∃ d, owns (c : Thread nD τ) scB fullShare d) ∗ (∃ d, owns (c : Thread nD τ) scI fullShare d) ∗ ∃ r, prngReg c r) ⊢ (Pipeline.ΦA spec1 c : sProp 𝕄) := by
  unfold Pipeline.ΦA stgRest; rw [scopedRest1_eq]; simp only [scA, scB, scI, owns_whole]
  iintro ⟨⟨R0, R1, R2, R3, R4, R5, R6, R7, R8, R9, R10⟩, A, B, I, G⟩
  isplitr [G]
  · (isplitl [R0]; · iexact R0); (isplitl [R1]; · iexact R1); (isplitl [R2]; · iexact R2); (isplitl [R3]; · iexact R3); (isplitl [R4]; · iexact R4); (isplitl [R5]; · iexact R5); (isplitl [R6]; · iexact R6); (isplitl [R7]; · iexact R7); (isplitl [R8]; · iexact R8); (isplitl [R9]; · iexact R9); (isplitl [R10]; · iexact R10)
    isplitl [A]; · iexact A
    isplitl [B]; · iexact B
    iexact I
  iexact G

/-- The second launch's proof data. -/
def dat1 (c : Dev nD) : Dat τ (Elt F) Unit ℕ (UR sig nD τ) ℕ cfg1 c where
  A w := E1 m c (Pipeline.arrRef spec1 w)
  after w t := match w with
    | ⟨0, _⟩ => iblk1 m c 0 t
    | ⟨1, _⟩ => iblk1 m c 1 t
    | ⟨2, _⟩ => iblk1 m c 2 t
    | ⟨3, _⟩ => iblk1 m c 3 t
    | ⟨4, _⟩ => iblk1 m c 4 t
    | ⟨5, _⟩ => iblk1 m c 5 t
    | ⟨6, _⟩ => iblk1 m c 6 t
    | ⟨7, _⟩ => outC m c t
    | ⟨8, _⟩ => outS m c
  Φ t := Phi1 m c t
  q _ := fullShare
  owed _ := 0

theorem A_eq1 (c : Dev nD) (w : Fin cfg1.W) : (dat1 m c).A w = E1 m c (Pipeline.arrRef spec1 w) := by
  dsimp only [dat1]
theorem after1_0 (c : Dev nD) (t : Fin cfg1.N) : (dat1 m c).after 0 t = iblk1 m c 0 t := by dsimp only [dat1]
theorem after1_1 (c : Dev nD) (t : Fin cfg1.N) : (dat1 m c).after 1 t = iblk1 m c 1 t := by dsimp only [dat1]
theorem after1_2 (c : Dev nD) (t : Fin cfg1.N) : (dat1 m c).after 2 t = iblk1 m c 2 t := by dsimp only [dat1]
theorem after1_3 (c : Dev nD) (t : Fin cfg1.N) : (dat1 m c).after 3 t = iblk1 m c 3 t := by dsimp only [dat1]
theorem after1_4 (c : Dev nD) (t : Fin cfg1.N) : (dat1 m c).after 4 t = iblk1 m c 4 t := by dsimp only [dat1]
theorem after1_5 (c : Dev nD) (t : Fin cfg1.N) : (dat1 m c).after 5 t = iblk1 m c 5 t := by dsimp only [dat1]
theorem after1_6 (c : Dev nD) (t : Fin cfg1.N) : (dat1 m c).after 6 t = iblk1 m c 6 t := by dsimp only [dat1]
theorem after1_7 (c : Dev nD) (t : Fin cfg1.N) : (dat1 m c).after 7 t = outC m c t := by dsimp only [dat1]
theorem after1_8 (c : Dev nD) (t : Fin cfg1.N) : (dat1 m c).after 8 t = outS m c := by dsimp only [dat1]
theorem before1_0 (c : Dev nD) (t : Fin cfg1.N) (d) : (dat1 m c).before 0 t d = iblk1 m c 0 t :=
  before1_0_of m (dat1 m c) (A_eq1 m c 0) (after1_0 m c) t d
theorem before1_1 (c : Dev nD) (t : Fin cfg1.N) (d) : (dat1 m c).before 1 t d = iblk1 m c 1 t :=
  before1_1_of m (dat1 m c) (A_eq1 m c 1) (after1_1 m c) t d
theorem before1_2 (c : Dev nD) (t : Fin cfg1.N) (d) : (dat1 m c).before 2 t d = iblk1 m c 2 t :=
  before1_2_of m (dat1 m c) (A_eq1 m c 2) (after1_2 m c) t d
theorem before1_3 (c : Dev nD) (t : Fin cfg1.N) (d) : (dat1 m c).before 3 t d = iblk1 m c 3 t :=
  before1_3_of m (dat1 m c) (A_eq1 m c 3) (after1_3 m c) t d
theorem before1_4 (c : Dev nD) (t : Fin cfg1.N) (d) : (dat1 m c).before 4 t d = iblk1 m c 4 t :=
  before1_4_of m (dat1 m c) (A_eq1 m c 4) (after1_4 m c) t d
theorem before1_5 (c : Dev nD) (t : Fin cfg1.N) (d) : (dat1 m c).before 5 t d = iblk1 m c 5 t :=
  before1_5_of m (dat1 m c) (A_eq1 m c 5) (after1_5 m c) t d
theorem before1_6 (c : Dev nD) (t : Fin cfg1.N) (d) : (dat1 m c).before 6 t d = iblk1 m c 6 t :=
  before1_6_of m (dat1 m c) (A_eq1 m c 6) (after1_6 m c) t d

/-- After the first grid step the scale's buffer holds the scale: no later step stores to it. -/
theorem before1_8 (c : Dev nD) : ∀ (n : ℕ) (h : n + 1 < cfg1.N) (d), (dat1 m c).before 8 ⟨n + 1, h⟩ d = outS m c := by
  intro n
  induction n with
  | zero =>
    intro h d
    rw [(dat1 m c).before_of_pos 8 ⟨0 + 1, h⟩ (Nat.succ_ne_zero _) ((cfg1.win 8).fetch_out rfl _) d]
    have hf : (cfg1.win 8).flush ⟨(0 + 1) - 1, Nat.lt_of_le_of_lt (Nat.sub_le _ _) h⟩ = false := by
      rw [Bool.eq_false_iff]; intro hh; have := (flush1_8 _).mp hh; simp at this
    rw [hf, if_neg Bool.false_ne_true]
    unfold Dat.left
    have hi : cfg1.idle 8 (cfg1.grid.coords ⟨(0 + 1) - 1, Nat.lt_of_le_of_lt (Nat.sub_le _ _) h⟩) = false := by
      show (!(k1_cond1 _ == 1#1)) = false
      have := (hcond1 ⟨(0 + 1) - 1, Nat.lt_of_le_of_lt (Nat.sub_le _ _) h⟩).mpr rfl
      rw [show k1_cond1 (cfg1.grid.coords ⟨(0 + 1) - 1, Nat.lt_of_le_of_lt (Nat.sub_le _ _) h⟩) = 1#1 from this]; rfl
    rw [hi]
    show (dat1 m c).kept 8 _ d = _
    unfold Dat.kept
    rw [Pipeline.fill_of_clip_none (cfg := cfg1) 8 _ (fun _ => rfl) d ((dat1 m c).after 8 _), Pipeline.Window.fill_cut, after1_8]
  | succ n ih =>
    intro h d
    rw [(dat1 m c).before_of_pos 8 ⟨n + 1 + 1, h⟩ (Nat.succ_ne_zero _) ((cfg1.win 8).fetch_out rfl _) d]
    have hn : n + 1 + 1 < 60 := lt_of_lt_of_eq h (show cfg1.N = 60 from N_1)
    have hf : (cfg1.win 8).flush ⟨(n + 1 + 1) - 1, Nat.lt_of_le_of_lt (Nat.sub_le _ _) h⟩ = false := by
      rw [Bool.eq_false_iff]; intro hh; have := (flush1_8 _).mp hh; simp at this; omega
    rw [hf, if_neg Bool.false_ne_true]
    unfold Dat.left
    have hi : cfg1.idle 8 (cfg1.grid.coords ⟨(n + 1 + 1) - 1, Nat.lt_of_le_of_lt (Nat.sub_le _ _) h⟩) = true := by
      show (!(k1_cond1 _ == 1#1)) = true
      have := (not_congr (hcond1 ⟨(n + 1 + 1) - 1, Nat.lt_of_le_of_lt (Nat.sub_le _ _) h⟩)).mpr (by simp; omega)
      simpa using this
    rw [hi]
    exact ih (Nat.lt_of_succ_lt h) d

/-- What the body is called with at point `t`, the windows one by one, -/
def bodyPre1 (c : Dev nD) (t : Fin cfg1.N) : sProp 𝕄 :=
  iprop((dat1 m c).Φ t.castSucc ∗ (dat1 m c).owesAt () t.castSucc
    ∗ (∃ d, owns (c : Thread nD τ) (ms1_0 t) fullShare ((dat1 m c).before 0 t d))
    ∗ (∃ d, owns (c : Thread nD τ) (ms1_1 t) fullShare ((dat1 m c).before 1 t d))
    ∗ (∃ d, owns (c : Thread nD τ) (ms1_2 t) fullShare ((dat1 m c).before 2 t d))
    ∗ (∃ d, owns (c : Thread nD τ) (ms1_3 t) fullShare ((dat1 m c).before 3 t d))
    ∗ (∃ d, owns (c : Thread nD τ) (ms1_4 t) fullShare ((dat1 m c).before 4 t d))
    ∗ (∃ d, owns (c : Thread nD τ) (ms1_5 t) fullShare ((dat1 m c).before 5 t d))
    ∗ (∃ d, owns (c : Thread nD τ) (ms1_6 t) fullShare ((dat1 m c).before 6 t d))
    ∗ (∃ d, owns (c : Thread nD τ) (ms1_7 t) fullShare ((dat1 m c).before 7 t d))
    ∗ (∃ d, owns (c : Thread nD τ) (ms1_8 t) fullShare ((dat1 m c).before 8 t d)))

/-- and what it returns. -/
def bodyPost1 (c : Dev nD) (t : Fin cfg1.N) : sProp 𝕄 :=
  iprop((dat1 m c).Φ t.succ ∗ (dat1 m c).owesAt () t.succ
    ∗ (dat1 m c).leavesExact 0 t
    ∗ (dat1 m c).leavesExact 1 t
    ∗ (dat1 m c).leavesExact 2 t
    ∗ (dat1 m c).leavesExact 3 t
    ∗ (dat1 m c).leavesExact 4 t
    ∗ (dat1 m c).leavesExact 5 t
    ∗ (dat1 m c).leavesExact 6 t
    ∗ (dat1 m c).leavesExact 7 t
    ∗ (dat1 m c).leavesExact 8 t)

set_option maxHeartbeats 4000000 in
/-- The body at the first point: the first part, then the codes. -/
theorem sound_first (c : Dev nD) :
    bodyPre1 m c pt0 ⊢ wp frame (wpE (defs₀ (F := F)) Variants.none c none) Set.univ (bodyAt1 pt0) (fun _ => bodyPost1 m c pt0) := by
  unfold bodyPre1 bodyPost1 bodyAt1
  simp only [before1_0, before1_1, before1_2, before1_3, before1_4, before1_5, before1_6]
  rw [show (dat1 m c).Φ pt0.succ = iprop(stgRest c ∗ owns (c : Thread nD τ) scA fullShare (outA m c) ∗ owns (c : Thread nD τ) scB fullShare (outB m c) ∗ owns (c : Thread nD τ) scI fullShare (outI m c) ∗ ∃ r, prngReg c r) from by
      dsimp only [dat1]; unfold Phi1; rw [if_neg (by rw [Fin.val_succ]; exact Nat.succ_ne_zero _)],
    show (dat1 m c).owesAt () pt0.succ = (dat1 m c).owesAt () pt0.castSucc from rfl,
    show (dat1 m c).Φ pt0.castSucc = Pipeline.ΦA spec1 c from by
      dsimp only [dat1]; unfold Phi1; rw [if_pos (by rfl)]]
  rw [show (dat1 m c).leavesExact 8 pt0 = owns (c : Thread nD τ) (ms1_8 pt0) fullShare ((dat1 m c).after 8 pt0) from by
    unfold Dat.leavesExact
    rw [show cfg1.idle 8 (cfg1.grid.coords pt0) = false from by
      show (!(k1_cond1 (grid1.coords pt0) == 1#1)) = false
      rw [hcond_pt0]; rfl], after1_8]
  rw [show (dat1 m c).leavesExact 0 pt0 = owns (c : Thread nD τ) (ms1_0 pt0) fullShare ((dat1 m c).after 0 pt0) from rfl, after1_0]
  rw [show (dat1 m c).leavesExact 1 pt0 = owns (c : Thread nD τ) (ms1_1 pt0) fullShare ((dat1 m c).after 1 pt0) from rfl, after1_1]
  rw [show (dat1 m c).leavesExact 2 pt0 = owns (c : Thread nD τ) (ms1_2 pt0) fullShare ((dat1 m c).after 2 pt0) from rfl, after1_2]
  rw [show (dat1 m c).leavesExact 3 pt0 = owns (c : Thread nD τ) (ms1_3 pt0) fullShare ((dat1 m c).after 3 pt0) from rfl, after1_3]
  rw [show (dat1 m c).leavesExact 4 pt0 = owns (c : Thread nD τ) (ms1_4 pt0) fullShare ((dat1 m c).after 4 pt0) from rfl, after1_4]
  rw [show (dat1 m c).leavesExact 5 pt0 = owns (c : Thread nD τ) (ms1_5 pt0) fullShare ((dat1 m c).after 5 pt0) from rfl, after1_5]
  rw [show (dat1 m c).leavesExact 6 pt0 = owns (c : Thread nD τ) (ms1_6 pt0) fullShare ((dat1 m c).after 6 pt0) from rfl, after1_6]
  rw [show (dat1 m c).leavesExact 7 pt0 = owns (c : Thread nD τ) (ms1_7 pt0) fullShare ((dat1 m c).after 7 pt0) from rfl, after1_7]
  rw [body_first (h := hcond_pt0), wp_bind]
  refine (sep_mono (Phi1_zero c) .rfl).trans ?_
  iintro ⟨⟨HR, HA, HB, HI, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((firstRun c (grid1.coords pt0) (ms1_0 pt0) (hs1_0 pt0) (ms1_1 pt0) (hs1_1 pt0) (ms1_2 pt0) (hs1_2 pt0) (ms1_3 pt0) (hs1_3 pt0) (ms1_4 pt0) (hs1_4 pt0) (ms1_5 pt0) (hs1_5 pt0) (ms1_6 pt0) (hs1_6 pt0) (ms1_7 pt0) (hs1_7 pt0) (ms1_8 pt0) (hs1_8 pt0) scA (Memref.isWhole_whole _) scB (Memref.isWhole_whole _) scI (Memref.isWhole_whole _) (iblk1 m c 1 pt0) (iblk1 m c 2 pt0) (iblk1 m c 3 pt0) (iblk1 m c 4 pt0) (iblk1 m c 5 pt0) (iblk1 m c 6 pt0)).2.2.2.2 Set.univ _)
  isplitl [H1]; · iexact H1
  isplitl [H2]; · iexact H2
  isplitl [H3]; · iexact H3
  isplitl [H4]; · iexact H4
  isplitl [H5]; · iexact H5
  isplitl [H6]; · iexact H6
  isplitl [H8]; · iexists _; iexact H8
  isplitl [HA]; · iexact HA
  isplitl [HB]; · iexact HB
  isplitl [HI]; · iexact HI
  iintro ⟨H1, H2, H3, H4, H5, H6, ⟨%e8, H8⟩, ⟨%eA, HA⟩, ⟨%eB, HB⟩, ⟨%eI, HI⟩⟩
  iapply ((everyRun c (grid1.coords pt0) (ms1_0 pt0) (hs1_0 pt0) (ms1_1 pt0) (hs1_1 pt0) (ms1_2 pt0) (hs1_2 pt0) (ms1_3 pt0) (hs1_3 pt0) (ms1_4 pt0) (hs1_4 pt0) (ms1_5 pt0) (hs1_5 pt0) (ms1_6 pt0) (hs1_6 pt0) (ms1_7 pt0) (hs1_7 pt0) (ms1_8 pt0) (hs1_8 pt0) scA (Memref.isWhole_whole _) scB (Memref.isWhole_whole _) scI (Memref.isWhole_whole _) (iblk1 m c 0 pt0) (outA m c) (outB m c) (outI m c)).2 Set.univ _)
  isplitl [H0]; · iexact H0
  isplitl [H7]; · iexists _; iexact H7
  isplitl [HA]
  · unfold owns; iexists _; isplitr
    swap; · iexact HA
    ipureintro; exact View.read_writes_of_cover _ _ _ _ _ (coverF_A c _ _ _ _ _ _ _ _ _ _ _ _ _ _ _ _ _ _ _ _ _ _ _ _ _  _ _ _ _ _ _)
  isplitl [HB]
  · unfold owns; iexists _; isplitr
    swap; · iexact HB
    ipureintro; exact View.read_writes_of_cover _ _ _ _ _ (coverF_B c _ _ _ _ _ _ _ _ _ _ _ _ _ _ _ _ _ _ _ _ _ _ _ _ _  _ _ _ _ _ _)
  isplitl [HI]
  · unfold owns; iexists _; isplitr
    swap; · iexact HI
    ipureintro; exact View.read_writes_of_cover _ _ _ _ _ (coverF_I c _ _ _ _ _ _ _ _ _ _ _ _ _ _ _ _ _ _ _ _ _ _ _ _ _  _ _ _ _ _ _)
  iintro ⟨H0, ⟨%e7, H7⟩, HA, HB, HI⟩
  isplitl [HR HA HB HI Hg]
  · isplitl [HR]; · iexact HR
    isplitl [HA]; · iexact HA
    isplitl [HB]; · iexact HB
    isplitl [HI]; · iexact HI
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (coverE c _ _ _ _ _ _ _ _ _ _ _ _ _ _ _ _ _ _ _ _ _ _ _ _ _  _ _ _ _)
  unfold owns; iexists _; isplitr
  swap; · iexact H8
  ipureintro; exact View.read_writes_of_cover _ _ _ _ _ (coverF_8 c _ _ _ _ _ _ _ _ _ _ _ _ _ _ _ _ _ _ _ _ _ _ _ _ _  _ _ _ _ _ _)

set_option maxHeartbeats 4000000 in
/-- The body at a later point: the codes. -/
theorem sound_later (c : Dev nD) (t : Fin cfg1.N) (ht : t.val ≠ 0) :
    bodyPre1 m c t ⊢ wp frame (wpE (defs₀ (F := F)) Variants.none c none) Set.univ (bodyAt1 t) (fun _ => bodyPost1 m c t) := by
  have hN : t.val < 60 := lt_of_lt_of_eq t.isLt (show cfg1.N = 60 from N_1)
  have hc : ¬ k1_cond1 (grid1.coords t) = 1#1 := fun h => ht (by have := (hcond1 t).mp h; omega)
  have hb8 : ∀ d, (dat1 m c).before 8 t d = outS m c := by
    obtain ⟨n, hn⟩ := t
    obtain _ | n := n
    · exact absurd rfl ht
    · exact before1_8 m c n hn
  unfold bodyPre1 bodyPost1 bodyAt1
  simp only [before1_0, before1_1, before1_2, before1_3, before1_4, before1_5, before1_6, hb8]
  rw [show (dat1 m c).Φ t.succ = iprop(stgRest c ∗ owns (c : Thread nD τ) scA fullShare (outA m c) ∗ owns (c : Thread nD τ) scB fullShare (outB m c) ∗ owns (c : Thread nD τ) scI fullShare (outI m c) ∗ ∃ r, prngReg c r) from by
      dsimp only [dat1]; unfold Phi1; rw [if_neg (by rw [Fin.val_succ]; exact Nat.succ_ne_zero _)],
    show (dat1 m c).owesAt () t.succ = (dat1 m c).owesAt () t.castSucc from rfl,
    show (dat1 m c).Φ t.castSucc = iprop(stgRest c ∗ owns (c : Thread nD τ) scA fullShare (outA m c) ∗ owns (c : Thread nD τ) scB fullShare (outB m c) ∗ owns (c : Thread nD τ) scI fullShare (outI m c) ∗ ∃ r, prngReg c r) from by
      dsimp only [dat1]; unfold Phi1; rw [if_neg (by rw [Fin.val_castSucc]; exact ht)]]
  have h8 : (owns (c : Thread nD τ) (ms1_8 t) fullShare (outS m c) : sProp 𝕄) ⊢ (dat1 m c).leavesExact 8 t := by
    have hi : cfg1.idle 8 (cfg1.grid.coords t) = true := by
      show (!(k1_cond1 (grid1.coords t) == 1#1)) = true
      simpa using hc
    cases hf : (cfg1.win 8).flush t
    · rw [(dat1 m c).leavesExact_idle 8 t hi hf]
      simp only [hb8]
      iintro H
      iexists (outS m c); iexact H
    · unfold Dat.leavesExact; rw [hi, hf]; simp only [after1_8]; exact .rfl
  rw [show (dat1 m c).leavesExact 0 t = owns (c : Thread nD τ) (ms1_0 t) fullShare ((dat1 m c).after 0 t) from rfl, after1_0]
  rw [show (dat1 m c).leavesExact 1 t = owns (c : Thread nD τ) (ms1_1 t) fullShare ((dat1 m c).after 1 t) from rfl, after1_1]
  rw [show (dat1 m c).leavesExact 2 t = owns (c : Thread nD τ) (ms1_2 t) fullShare ((dat1 m c).after 2 t) from rfl, after1_2]
  rw [show (dat1 m c).leavesExact 3 t = owns (c : Thread nD τ) (ms1_3 t) fullShare ((dat1 m c).after 3 t) from rfl, after1_3]
  rw [show (dat1 m c).leavesExact 4 t = owns (c : Thread nD τ) (ms1_4 t) fullShare ((dat1 m c).after 4 t) from rfl, after1_4]
  rw [show (dat1 m c).leavesExact 5 t = owns (c : Thread nD τ) (ms1_5 t) fullShare ((dat1 m c).after 5 t) from rfl, after1_5]
  rw [show (dat1 m c).leavesExact 6 t = owns (c : Thread nD τ) (ms1_6 t) fullShare ((dat1 m c).after 6 t) from rfl, after1_6]
  rw [show (dat1 m c).leavesExact 7 t = owns (c : Thread nD τ) (ms1_7 t) fullShare ((dat1 m c).after 7 t) from rfl, after1_7]
  rw [body_later (h := hc)]
  iintro ⟨⟨HR, HA, HB, HI, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((everyRun c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scA (Memref.isWhole_whole _) scB (Memref.isWhole_whole _) scI (Memref.isWhole_whole _) (iblk1 m c 0 t) (outA m c) (outB m c) (outI m c)).2 Set.univ _)
  isplitl [H0]; · iexact H0
  isplitl [H7]; · iexists _; iexact H7
  isplitl [HA]; · iexact HA
  isplitl [HB]; · iexact HB
  isplitl [HI]; · iexact HI
  iintro ⟨H0, ⟨%e7, H7⟩, HA, HB, HI⟩
  isplitl [HR HA HB HI Hg]
  · isplitl [HR]; · iexact HR
    isplitl [HA]; · iexact HA
    isplitl [HB]; · iexact HB
    isplitl [HI]; · iexact HI
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (coverE c _ _ _ _ _ _ _ _ _ _ _ _ _ _ _ _ _ _ _ _ _ _ _ _ _  _ _ _ _)
  iapply h8; iexact H8

theorem defs₀_row1 (t : Fin cfg1.N) :
    defs₀ (F := F) .tc cfg1.body (cfg1.bodyArgs t (cfg1.slots t)) = bodyAt1 t := by
  unfold defs₀; rw [Defs.onTc_tc]

/-- The body obligation at every point. -/
theorem body_obligation1 (c : Dev nD) : BodyObligation (dat1 (F := F) m c) (defs₀ (F := F)) Variants.none () Set.univ := fun t => by
  rw [bigSep_W1, bigSep_W1, defs₀_row1]
  refine triple_restated (P := bodyPre1 m c t) (Q := fun _ => bodyPost1 m c t) ?_ rfl .rfl fun _ => .rfl
  by_cases ht : t.val = 0
  · obtain rfl : t = pt0 := Fin.ext ht
    exact sound_first m c
  · exact sound_later m c t ht

end Cert.KernelIdeal.Two

end
-- ==== Proof.Run.lean ====
/- The whole run: the two launches between the host operations, every buffer's contents at the end. -/
module

public import proofs.«01_k».proof.Proof.Region0
public import proofs.«01_k».proof.Proof.Region1
public import proofs.«01_k».proof.Proof.Gen.KernelIdeal.Regions
public import Idealize.ShloMosaic.Lib.Pipeline.RegionArraysS
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Two

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)

variable {F : FTy → Type} [FloatOps F] [Named F]

local notation "𝕄" => MT nD τ sig Unit (Elt F) ℕ (UR sig nD τ) ℕ

variable (m : (ℓ : Loc nD τ sig) → Buf (Elt F) ℓ)

/-! ## The proof data of both launches -/

/-- The unscoped buffers after the second launch: its two outputs at what its grid steps wrote back. -/
def W4 (c : Dev nD) : Valuation τ sig (Elt F) :=
  Function.update (Function.update (E1 m c) main_v6_0 ((dat1 m c).arrAt 7 cfg1.N)) main_v6_1 ((dat1 m c).arrAt 8 cfg1.N)

/-- What the launches leave. -/
def outs : Outs (F := F) := fun J r c => match J with
  | 2 => W2 m c r
  | _ => W4 m c r

def pdats (p : Fin 2) (c : Dev nD) : Dat τ (Elt F) Unit ℕ (UR sig nD τ) ℕ (cfgs p) c := match p with
  | ⟨0, _⟩ => dat0 m c
  | ⟨1, _⟩ => dat1 m c

theorem outs_two (r : Ref sig .tc) (c : Dev nD) : outs m 2 r c = W2 m c r := rfl
theorem outs_four (r : Ref sig .tc) (c : Dev nD) : outs m 4 r c = W4 m c r := rfl
theorem outs0_two (r : Ref sig .tc) (c : Dev nD) : outs0 m 2 r c = W2 m c r := rfl

theorem V3_outs (c : Dev nD) : V3 m (outs m) c = E1 m c := by
  have h : V2 m (outs m) c = V2 m (outs0 m) c := by
    dsimp only [V2]
    rw [outs_two, outs_two, outs_two, outs_two, outs0_two, outs0_two, outs0_two, outs0_two]
  exact congrArg (StableHlo.after hostOps1) h

theorem V4_off (c : Dev nD) (r : Ref sig .tc) (h : r ∉ ([main_v6_0, main_v6_1] : List (Ref sig .tc))) : V4 m (outs m) c r = E1 m c r :=
  (V4_of m (outs m) c r h).trans (congrFun (V3_outs m c) _)

theorem W2_0 (c : Dev nD) : W2 m c main_v3_0 = (dat0 m c).arrAt 2 cfg0.N := by
  unfold W2
  exact (Function.update_of_ne (StableHlo.devRef_ne_of_ne (by decide) : (Proc.devRef .tc main_v3_0 : DevRef τ sig) ≠ Proc.devRef .tc main_v3_3) _ _).trans <| (Function.update_of_ne (StableHlo.devRef_ne_of_ne (by decide) : (Proc.devRef .tc main_v3_0 : DevRef τ sig) ≠ Proc.devRef .tc main_v3_2) _ _).trans <| (Function.update_of_ne (StableHlo.devRef_ne_of_ne (by decide) : (Proc.devRef .tc main_v3_0 : DevRef τ sig) ≠ Proc.devRef .tc main_v3_1) _ _).trans <| Function.update_self _ _ _
theorem V2_0 (c : Dev nD) : V2 m (outs m) c main_v3_0 = (dat0 m c).arrAt 2 cfg0.N := by
  refine Eq.trans ?_ ((outs_two m main_v3_0 c).trans (W2_0 m c))
  exact (Function.update_of_ne (StableHlo.devRef_ne_of_ne (by decide) : (Proc.devRef .tc main_v3_0 : DevRef τ sig) ≠ Proc.devRef .tc main_v3_3) _ _).trans <| (Function.update_of_ne (StableHlo.devRef_ne_of_ne (by decide) : (Proc.devRef .tc main_v3_0 : DevRef τ sig) ≠ Proc.devRef .tc main_v3_2) _ _).trans <| (Function.update_of_ne (StableHlo.devRef_ne_of_ne (by decide) : (Proc.devRef .tc main_v3_0 : DevRef τ sig) ≠ Proc.devRef .tc main_v3_1) _ _).trans <| Function.update_self _ _ _
theorem W2_1 (c : Dev nD) : W2 m c main_v3_1 = (dat0 m c).arrAt 3 cfg0.N := by
  unfold W2
  exact (Function.update_of_ne (StableHlo.devRef_ne_of_ne (by decide) : (Proc.devRef .tc main_v3_1 : DevRef τ sig) ≠ Proc.devRef .tc main_v3_3) _ _).trans <| (Function.update_of_ne (StableHlo.devRef_ne_of_ne (by decide) : (Proc.devRef .tc main_v3_1 : DevRef τ sig) ≠ Proc.devRef .tc main_v3_2) _ _).trans <| Function.update_self _ _ _
theorem V2_1 (c : Dev nD) : V2 m (outs m) c main_v3_1 = (dat0 m c).arrAt 3 cfg0.N := by
  refine Eq.trans ?_ ((outs_two m main_v3_1 c).trans (W2_1 m c))
  exact (Function.update_of_ne (StableHlo.devRef_ne_of_ne (by decide) : (Proc.devRef .tc main_v3_1 : DevRef τ sig) ≠ Proc.devRef .tc main_v3_3) _ _).trans <| (Function.update_of_ne (StableHlo.devRef_ne_of_ne (by decide) : (Proc.devRef .tc main_v3_1 : DevRef τ sig) ≠ Proc.devRef .tc main_v3_2) _ _).trans <| Function.update_self _ _ _
theorem W2_2 (c : Dev nD) : W2 m c main_v3_2 = (dat0 m c).arrAt 4 cfg0.N := by
  unfold W2
  exact (Function.update_of_ne (StableHlo.devRef_ne_of_ne (by decide) : (Proc.devRef .tc main_v3_2 : DevRef τ sig) ≠ Proc.devRef .tc main_v3_3) _ _).trans <| Function.update_self _ _ _
theorem V2_2 (c : Dev nD) : V2 m (outs m) c main_v3_2 = (dat0 m c).arrAt 4 cfg0.N := by
  refine Eq.trans ?_ ((outs_two m main_v3_2 c).trans (W2_2 m c))
  exact (Function.update_of_ne (StableHlo.devRef_ne_of_ne (by decide) : (Proc.devRef .tc main_v3_2 : DevRef τ sig) ≠ Proc.devRef .tc main_v3_3) _ _).trans <| Function.update_self _ _ _
theorem W2_3 (c : Dev nD) : W2 m c main_v3_3 = (dat0 m c).arrAt 5 cfg0.N := by
  unfold W2
  exact Function.update_self _ _ _
theorem V2_3 (c : Dev nD) : V2 m (outs m) c main_v3_3 = (dat0 m c).arrAt 5 cfg0.N := by
  refine Eq.trans ?_ ((outs_two m main_v3_3 c).trans (W2_3 m c))
  exact Function.update_self _ _ _
theorem W4_0 (c : Dev nD) : W4 m c main_v6_0 = (dat1 m c).arrAt 7 cfg1.N := by
  unfold W4
  exact (Function.update_of_ne (StableHlo.devRef_ne_of_ne (by decide) : (Proc.devRef .tc main_v6_0 : DevRef τ sig) ≠ Proc.devRef .tc main_v6_1) _ _).trans <| Function.update_self _ _ _
theorem V4_0 (c : Dev nD) : V4 m (outs m) c main_v6_0 = (dat1 m c).arrAt 7 cfg1.N := by
  refine Eq.trans ?_ ((outs_four m main_v6_0 c).trans (W4_0 m c))
  exact (Function.update_of_ne (StableHlo.devRef_ne_of_ne (by decide) : (Proc.devRef .tc main_v6_0 : DevRef τ sig) ≠ Proc.devRef .tc main_v6_1) _ _).trans <| Function.update_self _ _ _
theorem W4_1 (c : Dev nD) : W4 m c main_v6_1 = (dat1 m c).arrAt 8 cfg1.N := by
  unfold W4
  exact Function.update_self _ _ _
theorem V4_1 (c : Dev nD) : V4 m (outs m) c main_v6_1 = (dat1 m c).arrAt 8 cfg1.N := by
  refine Eq.trans ?_ ((outs_four m main_v6_1 c).trans (W4_1 m c))
  exact Function.update_self _ _ _

theorem after0 (c : Dev nD) (b : DevRef τ sig) (hb : b ∈ Pipeline.ucRefs τ sig) :
    Pipeline.afterRegion (dat0 m c) (V1 m c) b = V2 m (outs m) c b := by
  obtain ⟨hb1, -⟩ := Finset.mem_filter.mp hb
  obtain ⟨r, -, rfl⟩ := Finset.mem_map.mp hb1
  by_cases hw : ∃ w, Pipeline.arrRef spec0 w = r
  · obtain ⟨w, rfl⟩ := hw
    refine (Pipeline.afterRegion_arr (dat0 m c) (V1 m c) launch0.win.arr_inj w).trans ?_
    match w with
    | ⟨0, _⟩ => exact ((dat0 m c).arrAt_in 0 rfl _).trans ((A_eq0 m c 0).trans (V2_of m (outs m) c _ (by decide)).symm)
    | ⟨1, _⟩ => exact ((dat0 m c).arrAt_in 1 rfl _).trans ((A_eq0 m c 1).trans (V2_of m (outs m) c _ (by decide)).symm)
    | ⟨2, _⟩ => exact (V2_0 m c).symm
    | ⟨3, _⟩ => exact (V2_1 m c).symm
    | ⟨4, _⟩ => exact (V2_2 m c).symm
    | ⟨5, _⟩ => exact (V2_3 m c).symm
  · refine (Pipeline.afterRegion_of_not_arr (dat0 m c) (V1 m c) fun w e => hw ⟨w, e.symm⟩).trans (V2_of m (outs m) c r ?_).symm
    intro h
    simp only [List.mem_cons, List.not_mem_nil, or_false] at h
    rcases h with h | h | h | h
    · exact hw ⟨2, h.symm⟩
    · exact hw ⟨3, h.symm⟩
    · exact hw ⟨4, h.symm⟩
    · exact hw ⟨5, h.symm⟩

theorem after1 (c : Dev nD) (b : DevRef τ sig) (hb : b ∈ Pipeline.ucRefs τ sig) :
    Pipeline.afterRegion (dat1 m c) (E1 m c) b = V4 m (outs m) c b := by
  obtain ⟨hb1, -⟩ := Finset.mem_filter.mp hb
  obtain ⟨r, -, rfl⟩ := Finset.mem_map.mp hb1
  by_cases hw : ∃ w, Pipeline.arrRef spec1 w = r
  · obtain ⟨w, rfl⟩ := hw
    refine (Pipeline.afterRegion_arr (dat1 m c) (E1 m c) launch1.win.arr_inj w).trans ?_
    match w with
    | ⟨0, _⟩ => exact ((dat1 m c).arrAt_in 0 rfl _).trans ((A_eq1 m c 0).trans (V4_off m c _ (by decide)).symm)
    | ⟨1, _⟩ => exact ((dat1 m c).arrAt_in 1 rfl _).trans ((A_eq1 m c 1).trans (V4_off m c _ (by decide)).symm)
    | ⟨2, _⟩ => exact ((dat1 m c).arrAt_in 2 rfl _).trans ((A_eq1 m c 2).trans (V4_off m c _ (by decide)).symm)
    | ⟨3, _⟩ => exact ((dat1 m c).arrAt_in 3 rfl _).trans ((A_eq1 m c 3).trans (V4_off m c _ (by decide)).symm)
    | ⟨4, _⟩ => exact ((dat1 m c).arrAt_in 4 rfl _).trans ((A_eq1 m c 4).trans (V4_off m c _ (by decide)).symm)
    | ⟨5, _⟩ => exact ((dat1 m c).arrAt_in 5 rfl _).trans ((A_eq1 m c 5).trans (V4_off m c _ (by decide)).symm)
    | ⟨6, _⟩ => exact ((dat1 m c).arrAt_in 6 rfl _).trans ((A_eq1 m c 6).trans (V4_off m c _ (by decide)).symm)
    | ⟨7, _⟩ => exact (V4_0 m c).symm
    | ⟨8, _⟩ => exact (V4_1 m c).symm
  · refine (Pipeline.afterRegion_of_not_arr (dat1 m c) (E1 m c) fun w e => hw ⟨w, e.symm⟩).trans (V4_off m c r ?_).symm
    intro h
    simp only [List.mem_cons, List.not_mem_nil, or_false] at h
    rcases h with h | h
    · exact hw ⟨7, h.symm⟩
    · exact hw ⟨8, h.symm⟩

/-! ## The launches as segments of the run -/

/-- The staging waits' index is assigned at the TensorCore's cells alone. -/
def Lr : GSem nD τ sig → Finset Unit := fun g => if g.1.2 = .tc then {()} else ∅
def lvr : GSem nD τ sig → Unit → ℕ := fun _ _ => 0
theorem hLr (g : GSem nD τ sig) (h : g.1.2 ≠ .tc) : Lr g = ∅ := if_neg h

theorem cut (p : Fin 2) : Pipeline.LevelCut (pcfgs (F := F)) adm () Lr lvr p (fun _ => (0 : CellTallies nD τ sig Unit)) (fun _ => 0) where
  hι c w s := by unfold Lr; rw [if_pos rfl]; exact Finset.mem_singleton_self _
  hιb _ _ _ := le_rfl
  hD _ _ _ h := absurd h (lt_irrefl _)

/-- The generator's register. -/
abbrev X (c : Dev nD) : sProp 𝕄 := iprop(∃ r, prngReg c r)
/-- What rides beside the buffers through the run. -/
def E (c : Dev nD) : sProp 𝕄 := iprop((∃ Wd, owes (c : Thread nD τ) (0 : CellTallies nD τ sig Unit) Wd) ∗ X c ∗ iprop(emp))

theorem hin1 (c : Dev nD) : iprop(Pipeline.scopedRest spec1 c ∗ X c) ⊢ (dat1 m c).Φ 0 := by
  rw [show (dat1 m c).Φ 0 = Pipeline.ΦA spec1 c from by dsimp only [dat1]; unfold Phi1; rw [if_pos (by rfl)]]
  exact .rfl

theorem howed1 (c : Dev nD) (t) : (pdats m 1 c).owed t = 0 := by show (dat1 m c).owed t = 0; dsimp only [dat1]
theorem hshare1 (c : Dev nD) (w) : (pdats m 1 c).share w = fullShare := by show (dat1 m c).share w = fullShare; exact (dat1 m c).share_full (fun _ => by dsimp only [dat1]) w
theorem hrec1 (c : Dev nD)  : (pdats m 1 c).recorded 0 = Set.univ := by show (dat1 m c).recorded 0 = _; dsimp only [dat1]
theorem hb1 (c : Dev nD) : Pipeline.BodyObligationLoose (pdats m 1 c) defs₀ Variants.none () Set.univ := (body_obligation1 m c).loose

theorem hout1 (c : Dev nD) : (dat1 m c).Φ (Fin.last cfg1.N) ⊢ iprop(Pipeline.scopedRest spec1 c ∗ X c) := by
  rw [show (dat1 m c).Φ (Fin.last cfg1.N) = iprop(stgRest c ∗ owns (c : Thread nD τ) scA fullShare (outA m c) ∗ owns (c : Thread nD τ) scB fullShare (outB m c) ∗ owns (c : Thread nD τ) scI fullShare (outI m c) ∗ ∃ r, prngReg c r) from by
    dsimp only [dat1]; unfold Phi1; rw [if_neg (by rw [Fin.val_last, show cfg1.N = 60 from N_1]; decide)]]
  refine BIBase.Entails.trans ?_ (Phi1_back c)
  iintro ⟨R, A, B, I, G⟩
  isplitl [R]; · iexact R
  isplitl [A]; · iexists _; iexact A
  isplitl [B]; · iexists _; iexact B
  isplitl [I]; · iexists _; iexact I
  iexact G

set_option backward.isDefEq.respectTransparency.types false in
def reg0 : Pipeline.RegionSeg (pcfgs (F := F)) adm (pdats m) () defs₀ Variants.none Lr lvr 0 :=
  Pipeline.RegionSeg.ofHeldIn (pcfgs (F := F)) adm (pdats m) () defs₀ Variants.none Lr lvr 0 (fun _ => 0) (Pipeline.ucRefs τ sig) X X launch0.toP rfl
    (fun c => (body_obligation0 m c).loose) (fun _ _ => rfl) (fun _ => rfl) (fun c => (dat0 m c).share_full fun _ => rfl)
    (fun c => .rfl) (fun c => .rfl) (fun _ => 0) (cut 0) (fun _ => iprop(emp)) (V1 m) (fun c w => A_eq0 m c w)

set_option backward.isDefEq.respectTransparency.types false in
def reg1 : Pipeline.RegionSeg (pcfgs (F := F)) adm (pdats m) () defs₀ Variants.none Lr lvr 1 :=
  Pipeline.RegionSeg.ofHeldIn (pcfgs (F := F)) adm (pdats m) () defs₀ Variants.none Lr lvr 1 (fun _ => 0) (Pipeline.ucRefs τ sig) X X launch1.toP rfl
    (hb1 m) (howed1 m) (hrec1 m) (hshare1 m)
    (fun c => hin1 m c) (fun c => hout1 m c) (fun _ => 0) (cut 1) (fun _ => iprop(emp)) (E1 m) (fun c w => A_eq1 m c w)

set_option backward.isDefEq.respectTransparency.types false in
theorem hpre0_aux (c : Dev nD) : iprop(StableHlo.held (c : Thread nD τ) (Pipeline.ucRefs τ sig) (V1 m c) ∗ ((∃ Wd, owes (c : Thread nD τ) (0 : CellTallies nD τ sig Unit) Wd) ∗ X c ∗ iprop(emp))) ⊢ (reg0 m).pre c := by
  have h := Pipeline.RegionSeg.ofHeldIn_pre (pcs := pcfgs (F := F)) (a := adm) (pdats := pdats m) (ι := ()) (defs₀ := defs₀) (𝒱₀ := Variants.none) (L := Lr) (lv := lvr) (p := 0) (D := fun _ => 0) (S := Pipeline.ucRefs τ sig) (Pipeline.arrRefs_sub_ucRefs _ winFacts0.arr_unscoped) (X := X) (Y := X) (kit := launch0.toP) (hK := rfl)
    (hbody := fun c => (body_obligation0 m c).loose) (howed := fun _ _ => rfl) (hrec := fun _ => rfl) (hshare := fun c => (dat0 m c).share_full fun _ => rfl)
    (hin := fun c => .rfl) (hout := fun c => .rfl) (b := fun _ => 0) (hcut := cut 0) (R := fun _ => iprop(emp)) (W := V1 m) (hW := fun c w => A_eq0 m c w) c
  exact h
set_option backward.isDefEq.respectTransparency.types false in
theorem hpost0_aux (c : Dev nD) : (reg0 m).post c ⊢ iprop(StableHlo.held (c : Thread nD τ) (Pipeline.ucRefs τ sig) (Pipeline.afterRegion (dat0 m c) (V1 m c)) ∗ ((∃ Wd, owes (c : Thread nD τ) (0 : CellTallies nD τ sig Unit) Wd) ∗ X c ∗ iprop(emp))) := by
  have h := Pipeline.RegionSeg.ofHeldIn_post (pcs := pcfgs (F := F)) (a := adm) (pdats := pdats m) (ι := ()) (defs₀ := defs₀) (𝒱₀ := Variants.none) (L := Lr) (lv := lvr) (p := 0) (D := fun _ => 0) (S := Pipeline.ucRefs τ sig) (Pipeline.arrRefs_sub_ucRefs _ winFacts0.arr_unscoped) (X := X) (Y := X) (kit := launch0.toP) (hK := rfl)
    (hbody := fun c => (body_obligation0 m c).loose) (howed := fun _ _ => rfl) (hrec := fun _ => rfl) (hshare := fun c => (dat0 m c).share_full fun _ => rfl)
    (hin := fun c => .rfl) (hout := fun c => .rfl) (b := fun _ => 0) (hcut := cut 0) (R := fun _ => iprop(emp)) (W := V1 m) (hW := fun c w => A_eq0 m c w) c
  exact h
theorem hpre0 (c : Dev nD) : iprop(StableHlo.held (c : Thread nD τ) (Pipeline.ucRefs τ sig) (V1 m c) ∗ E c) ⊢ (reg0 m).pre c := by
  unfold E
  exact hpre0_aux m c
theorem hpost0 (c : Dev nD) : (reg0 m).post c ⊢ iprop(StableHlo.held (c : Thread nD τ) (Pipeline.ucRefs τ sig) (V2 m (outs m) c) ∗ E c) := by
  unfold E
  have h := hpost0_aux m c
  have e : (StableHlo.held (c : Thread nD τ) (Pipeline.ucRefs τ sig) (Pipeline.afterRegion (dat0 m c) (V1 m c)) : sProp 𝕄) = StableHlo.held (c : Thread nD τ) (Pipeline.ucRefs τ sig) (V2 m (outs m) c) :=
    StableHlo.held_congr _ (after0 m c)
  rw [e] at h
  exact h

set_option backward.isDefEq.respectTransparency.types false in
theorem hpre1_aux (c : Dev nD) : iprop(StableHlo.held (c : Thread nD τ) (Pipeline.ucRefs τ sig) (E1 m c) ∗ ((∃ Wd, owes (c : Thread nD τ) (0 : CellTallies nD τ sig Unit) Wd) ∗ X c ∗ iprop(emp))) ⊢ (reg1 m).pre c := by
  have h := Pipeline.RegionSeg.ofHeldIn_pre (pcs := pcfgs (F := F)) (a := adm) (pdats := pdats m) (ι := ()) (defs₀ := defs₀) (𝒱₀ := Variants.none) (L := Lr) (lv := lvr) (p := 1) (D := fun _ => 0) (S := Pipeline.ucRefs τ sig) (Pipeline.arrRefs_sub_ucRefs _ winFacts1.arr_unscoped) (X := X) (Y := X) (kit := launch1.toP) (hK := rfl)
    (hbody := hb1 m) (howed := howed1 m) (hrec := hrec1 m) (hshare := hshare1 m)
    (hin := fun c => hin1 m c) (hout := fun c => hout1 m c) (b := fun _ => 0) (hcut := cut 1) (R := fun _ => iprop(emp)) (W := E1 m) (hW := fun c w => A_eq1 m c w) c
  exact h
set_option backward.isDefEq.respectTransparency.types false in
theorem hpost1_aux (c : Dev nD) : (reg1 m).post c ⊢ iprop(StableHlo.held (c : Thread nD τ) (Pipeline.ucRefs τ sig) (Pipeline.afterRegion (dat1 m c) (E1 m c)) ∗ ((∃ Wd, owes (c : Thread nD τ) (0 : CellTallies nD τ sig Unit) Wd) ∗ X c ∗ iprop(emp))) := by
  have h := Pipeline.RegionSeg.ofHeldIn_post (pcs := pcfgs (F := F)) (a := adm) (pdats := pdats m) (ι := ()) (defs₀ := defs₀) (𝒱₀ := Variants.none) (L := Lr) (lv := lvr) (p := 1) (D := fun _ => 0) (S := Pipeline.ucRefs τ sig) (Pipeline.arrRefs_sub_ucRefs _ winFacts1.arr_unscoped) (X := X) (Y := X) (kit := launch1.toP) (hK := rfl)
    (hbody := hb1 m) (howed := howed1 m) (hrec := hrec1 m) (hshare := hshare1 m)
    (hin := fun c => hin1 m c) (hout := fun c => hout1 m c) (b := fun _ => 0) (hcut := cut 1) (R := fun _ => iprop(emp)) (W := E1 m) (hW := fun c w => A_eq1 m c w) c
  exact h
theorem hpre1 (c : Dev nD) : iprop(StableHlo.held (c : Thread nD τ) (Pipeline.ucRefs τ sig) (V3 m (outs m) c) ∗ E c) ⊢ (reg1 m).pre c := by
  unfold E
  rw [V3_outs]
  exact hpre1_aux m c
theorem hpost1 (c : Dev nD) : (reg1 m).post c ⊢ iprop(StableHlo.held (c : Thread nD τ) (Pipeline.ucRefs τ sig) (V4 m (outs m) c) ∗ E c) := by
  unfold E
  have h := hpost1_aux m c
  have e : (StableHlo.held (c : Thread nD τ) (Pipeline.ucRefs τ sig) (Pipeline.afterRegion (dat1 m c) (E1 m c)) : sProp 𝕄) = StableHlo.held (c : Thread nD τ) (Pipeline.ucRefs τ sig) (V4 m (outs m) c) :=
    StableHlo.held_congr _ (after1 m c)
  rw [e] at h
  exact h

omit [Named F] in
theorem hE2 (c : Dev nD) : E c ⊢ (iprop(∃ W, owes (c : Thread nD τ) (0 : CellTallies nD τ sig Unit) W) : sProp 𝕄) := by
  unfold E
  iintro ⟨H, -⟩
  iexact H

omit [Named F] in
theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp))) ∗ levAts Lr lvr)
      ⊢ (|={Set.univ}=> bigSep Finset.univ (E (F := F)) : sProp 𝕄) := by
  refine Pipeline.initEach Lr lvr fun c => ?_
  iintro ⟨⟨-, HO, -, HP, -⟩, -⟩
  imodintro
  unfold E
  isplitl [HO]; · iexists ∅; iexact HO
  isplitl [HP]; · iexists _; iexact HP
  iempintro

omit [FloatOps F] [Named F] in
theorem hu₀ : (ownU (initOf (Pipeline.cells cfgs cellOf_inj) (Pipeline.launchToks cfgs cellOf_inj)) : sProp 𝕄) ⊢
    |={Set.univ}=> iprop(BI.own ((emb₁ : Emb _ 𝕄) (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU _ : sProp 𝕄) ⊢ BI.own (emb₁ (initOf (Pipeline.cells cfgs cellOf_inj) (Pipeline.launchToks cfgs cellOf_inj))) from .rfl); iexact Hu
  iapply (show (BI.emp : sProp 𝕄) ⊢ bigSep Finset.univ (fun _ : Dev nD => (BI.emp : sProp 𝕄)) from by rw [BI.bigSep_emp_const])
  iempintro

set_option backward.isDefEq.respectTransparency.types false in
/-- Every weakly fair execution ends, with the arguments unchanged, the two results at the contents computed, and
    every counter at zero. -/
theorem run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v8) = V5 m (outs m) c main_v8
      ∧ r.2.mem ((c.tc : Thread nD τ).loc main_v9) = V5 m (outs m) c main_v9)
      ∧ r.2.sem = fun _ => 0) := by
  refine Pipeline.θ_run_regions_kit_dev_sems (pcfgs (F := F)) adm (pdats m) () cellOf_inj emb₁ defs₀ Variants.none Lr lvr m ρ main
    (segs m (outs m) Variants.none Lr lvr (fun _ => E) () (pdats m) (reg0 m) (reg1 m))
    (fun c Q => by
      rewrite [main_chain c, Seg.run_eq_chain,
        show (segs m (outs m) Variants.none Lr lvr (fun _ => E) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (0 : Dev nD → CellTallies nD τ sig Unit) hLr (fun _ => iprop(emp)) (initOf (Pipeline.cells cfgs cellOf_inj) (Pipeline.launchToks cfgs cellOf_inj)) hu₀
    (T₀ := fun c => iprop(StableHlo.held (c : Thread nD τ) (Pipeline.ucRefs τ sig) (V0 m c) ∗ E c))
    (Tₙ := fun c => StableHlo.held (c : Thread nD τ) (Pipeline.ucRefs τ sig) (V5 m (outs m) c))
    (hch := fun c => ⟨.rfl, hpre0 m c, hpost0 m c, hpre1 m c, hpost1 m c, sep_mono .rfl (hE2 c)⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_v8) = V5 m (outs m) c main_v8 ∧ s.mem ((c.tc : Thread nD τ).loc main_v9) = V5 m (outs m) c main_v9)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ iprop(emp)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V5_main_arg0 m (outs m) c),
        (h (Proc.devRef .tc main_arg1) (Finset.mem_filter.mpr ⟨StableHlo.devRef_mem_tcRefs main_arg1, by decide⟩)).trans (V5_main_arg1 m (outs m) c),
        (h (Proc.devRef .tc main_arg2) (Finset.mem_filter.mpr ⟨StableHlo.devRef_mem_tcRefs main_arg2, by decide⟩)).trans (V5_main_arg2 m (outs m) c),
        h (Proc.devRef .tc main_v8) (Finset.mem_filter.mpr ⟨StableHlo.devRef_mem_tcRefs main_v8, by decide⟩),
        h (Proc.devRef .tc main_v9) (Finset.mem_filter.mpr ⟨StableHlo.devRef_mem_tcRefs main_v9, by decide⟩)⟩
    · iexact HSI

end Cert.KernelIdeal.Two

end
-- ==== Proof.FRegion0.lean ====
/- The first launch of the two ("stats": the per-row sums, sums of squares, maxima and minima): what one grid
   step leaves in its four output blocks, and the launch's proof data, from the arrays as the launch finds them. -/
module

public import proofs.«01_k».proof.Proof.Gen.Kernel.Regions
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel.Two

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V1 m c (Pipeline.arrRef spec0 w))

/-- Input window 0's current staging buffer holds its block at every point, fetched there or not, for ANY proof
    data whose array is `V`'s (`hA`) and whose body leaves the block in place (`hafter`):
    `Dat.before_in_eq_fetched` (unfetched, the index has not moved), the window uncut and never idle. -/
theorem before0_0_of {c : Dev nD} (dat : Dat τ (Elt F) Unit ℕ (UR sig nD τ) ℕ cfg0 c) (hA : dat.A 0 = V1 m c (Pipeline.arrRef spec0 0))
    (hafter : ∀ t, dat.after 0 t = iblk0 m c 0 t) (t : Fin cfg0.N) (d) : dat.before 0 t d = iblk0 m c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`):
    `Dat.before_in_eq_fetched` (unfetched, the index has not moved), the window uncut and never idle. -/
theorem before0_1_of {c : Dev nD} (dat : Dat τ (Elt F) Unit ℕ (UR sig nD τ) ℕ cfg0 c) (hA : dat.A 1 = V1 m c (Pipeline.arrRef spec0 1))
    (hafter : ∀ t, dat.after 1 t = iblk0 m c 1 t) (t : Fin cfg0.N) (d) : dat.before 1 t d = iblk0 m c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 2, through which its contents are stated (`View.read_writes_of_cover`: the
    choice does not matter). -/
abbrev VO0_2 : View sig .tc .vmem S32x128 .f32 := (Memref.whole cc0_stg2_0 : Memref sig .tc .vmem S32x128 .f32).view
/-- One staging buffer of output window 3, through which its contents are stated (`View.read_writes_of_cover`: the
    choice does not matter). -/
abbrev VO0_3 : View sig .tc .vmem S32x128 .f32 := (Memref.whole cc0_stg3_0 : Memref sig .tc .vmem S32x128 .f32).view
/-- One staging buffer of output window 4, through which its contents are stated (`View.read_writes_of_cover`: the
    choice does not matter). -/
abbrev VO0_4 : View sig .tc .vmem S32x128 .bf16 := (Memref.whole cc0_stg4_0 : Memref sig .tc .vmem S32x128 .bf16).view
/-- One staging buffer of output window 5, through which its contents are stated (`View.read_writes_of_cover`: the
    choice does not matter). -/
abbrev VO0_5 : View sig .tc .vmem S32x128 .bf16 := (Memref.whole cc0_stg5_0 : Memref sig .tc .vmem S32x128 .bf16).view
/-- Each window's current staging memref at point `t`, spelled as the pipeline passes it (`bodyAt0`), and its wholeness. -/
abbrev ms0_0 (t : Fin cfg0.N) : Memref sig .tc .vmem S32x16384 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x128 .bf16 := win0_5.stage (cfg0.slots t 5)
abbrev hs0_5 (t : Fin cfg0.N) : (ms0_5 t).IsWhole := hstage0_5 ((cfg0.slots t 5).cast nbuf0_5)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S32x16384 .bf16) (harg1 : arg1.IsWhole) (arg2 : Memref sig .tc .vmem S16x128 .bf16) (harg2 : arg2.IsWhole) (arg3 : Memref sig .tc .vmem S32x128 .f32) (harg3 : arg3.IsWhole) (arg4 : Memref sig .tc .vmem S32x128 .f32) (harg4 : arg4.IsWhole) (arg5 : Memref sig .tc .vmem S32x128 .bf16) (harg5 : arg5.IsWhole) (arg6 : Memref sig .tc .vmem S32x128 .bf16) (harg6 : arg6.IsWhole)
    (x0 : Vec F S32x16384 .bf16) (x1 : Vec F S16x128 .bf16) :
    Σ' (L2 : List (View.Piece (Elt F) S32x128 .f32)), Σ' (L3 : List (View.Piece (Elt F) S32x128 .f32)), Σ' (L4 : List (View.Piece (Elt F) S32x128 .bf16)), { L5 : List (View.Piece (Elt F) S32x128 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc0_stats i arg1 harg1 arg2 harg2 arg3 harg3 arg4 harg4 arg5 harg5 arg6 harg6) K } := by
  refine ⟨?_, ?_, ?_, ?_, fun E K => ?run⟩
  case run =>
    simp only [cc0_stats_eq_skeleton]; unfold cc0_stats_skel
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    iexists _; iexact H5

/-- The run's pieces for output 2 tile its block (2 stores of `S16x128`, checked by the kernel's evaluation: Lib/Ring.lean `Piece.tiledL`, linear in the pieces, through a loop's `@[irreducible]` trip theorem too), so they cover it. -/
theorem cover0_A_2 (c : Dev nD) (i : grid0.Coords) (arg1 : Memref sig .tc .vmem S32x16384 .bf16) (harg1 : arg1.IsWhole) (arg2 : Memref sig .tc .vmem S16x128 .bf16) (harg2 : arg2.IsWhole) (arg3 : Memref sig .tc .vmem S32x128 .f32) (harg3 : arg3.IsWhole) (arg4 : Memref sig .tc .vmem S32x128 .f32) (harg4 : arg4.IsWhole) (arg5 : Memref sig .tc .vmem S32x128 .bf16) (harg5 : arg5.IsWhole) (arg6 : Memref sig .tc .vmem S32x128 .bf16) (harg6 : arg6.IsWhole)
    (x0 : Vec F S32x16384 .bf16) (x1 : Vec F S16x128 .bf16) (y : S32x128.Idx) :
    ∃ pc ∈ (kernelRun0_A c i arg1 harg1 arg2 harg2 arg3 harg3 arg4 harg4 arg5 harg5 arg6 harg6 x0 x1).1, y ∈ pc.1.set :=
  View.cover_of_tiledL (kernelRun0_A c i arg1 harg1 arg2 harg2 arg3 harg3 arg4 harg4 arg5 harg5 arg6 harg6 x0 x1).1 S16x128.size (by sl_kernel_rfl) y

/-- What the run leaves in output 2's staging buffer: its pieces read back over junk. -/
def out0_A_2 (c : Dev nD) (i : grid0.Coords) (arg1 : Memref sig .tc .vmem S32x16384 .bf16) (harg1 : arg1.IsWhole) (arg2 : Memref sig .tc .vmem S16x128 .bf16) (harg2 : arg2.IsWhole) (arg3 : Memref sig .tc .vmem S32x128 .f32) (harg3 : arg3.IsWhole) (arg4 : Memref sig .tc .vmem S32x128 .f32) (harg4 : arg4.IsWhole) (arg5 : Memref sig .tc .vmem S32x128 .bf16) (harg5 : arg5.IsWhole) (arg6 : Memref sig .tc .vmem S32x128 .bf16) (harg6 : arg6.IsWhole)
    (x0 : Vec F S32x16384 .bf16) (x1 : Vec F S16x128 .bf16) : Vec F S32x128 .f32 :=
  VO0_2.read (Elt F) (VO0_2.writes (Elt F) VO0_2.junk (kernelRun0_A c i arg1 harg1 arg2 harg2 arg3 harg3 arg4 harg4 arg5 harg5 arg6 harg6 x0 x1).1)

/-- The run's pieces for output 3 tile its block (2 stores of `S16x128`, checked by the kernel's evaluation: Lib/Ring.lean `Piece.tiledL`, linear in the pieces, through a loop's `@[irreducible]` trip theorem too), so they cover it. -/
theorem cover0_A_3 (c : Dev nD) (i : grid0.Coords) (arg1 : Memref sig .tc .vmem S32x16384 .bf16) (harg1 : arg1.IsWhole) (arg2 : Memref sig .tc .vmem S16x128 .bf16) (harg2 : arg2.IsWhole) (arg3 : Memref sig .tc .vmem S32x128 .f32) (harg3 : arg3.IsWhole) (arg4 : Memref sig .tc .vmem S32x128 .f32) (harg4 : arg4.IsWhole) (arg5 : Memref sig .tc .vmem S32x128 .bf16) (harg5 : arg5.IsWhole) (arg6 : Memref sig .tc .vmem S32x128 .bf16) (harg6 : arg6.IsWhole)
    (x0 : Vec F S32x16384 .bf16) (x1 : Vec F S16x128 .bf16) (y : S32x128.Idx) :
    ∃ pc ∈ (kernelRun0_A c i arg1 harg1 arg2 harg2 arg3 harg3 arg4 harg4 arg5 harg5 arg6 harg6 x0 x1).2.1, y ∈ pc.1.set :=
  View.cover_of_tiledL (kernelRun0_A c i arg1 harg1 arg2 harg2 arg3 harg3 arg4 harg4 arg5 harg5 arg6 harg6 x0 x1).2.1 S16x128.size (by sl_kernel_rfl) y

/-- What the run leaves in output 3's staging buffer: its pieces read back over junk. -/
def out0_A_3 (c : Dev nD) (i : grid0.Coords) (arg1 : Memref sig .tc .vmem S32x16384 .bf16) (harg1 : arg1.IsWhole) (arg2 : Memref sig .tc .vmem S16x128 .bf16) (harg2 : arg2.IsWhole) (arg3 : Memref sig .tc .vmem S32x128 .f32) (harg3 : arg3.IsWhole) (arg4 : Memref sig .tc .vmem S32x128 .f32) (harg4 : arg4.IsWhole) (arg5 : Memref sig .tc .vmem S32x128 .bf16) (harg5 : arg5.IsWhole) (arg6 : Memref sig .tc .vmem S32x128 .bf16) (harg6 : arg6.IsWhole)
    (x0 : Vec F S32x16384 .bf16) (x1 : Vec F S16x128 .bf16) : Vec F S32x128 .f32 :=
  VO0_3.read (Elt F) (VO0_3.writes (Elt F) VO0_3.junk (kernelRun0_A c i arg1 harg1 arg2 harg2 arg3 harg3 arg4 harg4 arg5 harg5 arg6 harg6 x0 x1).2.1)

/-- The run's pieces for output 4 tile its block (2 stores of `S16x128`, checked by the kernel's evaluation: Lib/Ring.lean `Piece.tiledL`, linear in the pieces, through a loop's `@[irreducible]` trip theorem too), so they cover it. -/
theorem cover0_A_4 (c : Dev nD) (i : grid0.Coords) (arg1 : Memref sig .tc .vmem S32x16384 .bf16) (harg1 : arg1.IsWhole) (arg2 : Memref sig .tc .vmem S16x128 .bf16) (harg2 : arg2.IsWhole) (arg3 : Memref sig .tc .vmem S32x128 .f32) (harg3 : arg3.IsWhole) (arg4 : Memref sig .tc .vmem S32x128 .f32) (harg4 : arg4.IsWhole) (arg5 : Memref sig .tc .vmem S32x128 .bf16) (harg5 : arg5.IsWhole) (arg6 : Memref sig .tc .vmem S32x128 .bf16) (harg6 : arg6.IsWhole)
    (x0 : Vec F S32x16384 .bf16) (x1 : Vec F S16x128 .bf16) (y : S32x128.Idx) :
    ∃ pc ∈ (kernelRun0_A c i arg1 harg1 arg2 harg2 arg3 harg3 arg4 harg4 arg5 harg5 arg6 harg6 x0 x1).2.2.1, y ∈ pc.1.set :=
  View.cover_of_tiledL (kernelRun0_A c i arg1 harg1 arg2 harg2 arg3 harg3 arg4 harg4 arg5 harg5 arg6 harg6 x0 x1).2.2.1 S16x128.size (by sl_kernel_rfl) y

/-- What the run leaves in output 4's staging buffer: its pieces read back over junk. -/
def out0_A_4 (c : Dev nD) (i : grid0.Coords) (arg1 : Memref sig .tc .vmem S32x16384 .bf16) (harg1 : arg1.IsWhole) (arg2 : Memref sig .tc .vmem S16x128 .bf16) (harg2 : arg2.IsWhole) (arg3 : Memref sig .tc .vmem S32x128 .f32) (harg3 : arg3.IsWhole) (arg4 : Memref sig .tc .vmem S32x128 .f32) (harg4 : arg4.IsWhole) (arg5 : Memref sig .tc .vmem S32x128 .bf16) (harg5 : arg5.IsWhole) (arg6 : Memref sig .tc .vmem S32x128 .bf16) (harg6 : arg6.IsWhole)
    (x0 : Vec F S32x16384 .bf16) (x1 : Vec F S16x128 .bf16) : Vec F S32x128 .bf16 :=
  VO0_4.read (Elt F) (VO0_4.writes (Elt F) VO0_4.junk (kernelRun0_A c i arg1 harg1 arg2 harg2 arg3 harg3 arg4 harg4 arg5 harg5 arg6 harg6 x0 x1).2.2.1)

/-- The run's pieces for output 5 tile its block (2 stores of `S16x128`, checked by the kernel's evaluation: Lib/Ring.lean `Piece.tiledL`, linear in the pieces, through a loop's `@[irreducible]` trip theorem too), so they cover it. -/
theorem cover0_A_5 (c : Dev nD) (i : grid0.Coords) (arg1 : Memref sig .tc .vmem S32x16384 .bf16) (harg1 : arg1.IsWhole) (arg2 : Memref sig .tc .vmem S16x128 .bf16) (harg2 : arg2.IsWhole) (arg3 : Memref sig .tc .vmem S32x128 .f32) (harg3 : arg3.IsWhole) (arg4 : Memref sig .tc .vmem S32x128 .f32) (harg4 : arg4.IsWhole) (arg5 : Memref sig .tc .vmem S32x128 .bf16) (harg5 : arg5.IsWhole) (arg6 : Memref sig .tc .vmem S32x128 .bf16) (harg6 : arg6.IsWhole)
    (x0 : Vec F S32x16384 .bf16) (x1 : Vec F S16x128 .bf16) (y : S32x128.Idx) :
    ∃ pc ∈ (kernelRun0_A c i arg1 harg1 arg2 harg2 arg3 harg3 arg4 harg4 arg5 harg5 arg6 harg6 x0 x1).2.2.2.1, y ∈ pc.1.set :=
  View.cover_of_tiledL (kernelRun0_A c i arg1 harg1 arg2 harg2 arg3 harg3 arg4 harg4 arg5 harg5 arg6 harg6 x0 x1).2.2.2.1 S16x128.size (by sl_kernel_rfl) y

/-- What the run leaves in output 5's staging buffer: its pieces read back over junk. -/
def out0_A_5 (c : Dev nD) (i : grid0.Coords) (arg1 : Memref sig .tc .vmem S32x16384 .bf16) (harg1 : arg1.IsWhole) (arg2 : Memref sig .tc .vmem S16x128 .bf16) (harg2 : arg2.IsWhole) (arg3 : Memref sig .tc .vmem S32x128 .f32) (harg3 : arg3.IsWhole) (arg4 : Memref sig .tc .vmem S32x128 .f32) (harg4 : arg4.IsWhole) (arg5 : Memref sig .tc .vmem S32x128 .bf16) (harg5 : arg5.IsWhole) (arg6 : Memref sig .tc .vmem S32x128 .bf16) (harg6 : arg6.IsWhole)
    (x0 : Vec F S32x16384 .bf16) (x1 : Vec F S16x128 .bf16) : Vec F S32x128 .bf16 :=
  VO0_5.read (Elt F) (VO0_5.writes (Elt F) VO0_5.junk (kernelRun0_A c i arg1 harg1 arg2 harg2 arg3 harg3 arg4 harg4 arg5 harg5 arg6 harg6 x0 x1).2.2.2.1)

/-! ## What the outputs hold after each point -/

/-- What the outputs' staging buffers hold after the body at point `t` (as a tuple, in window order): the run's contents at
    the point's memrefs and input blocks. -/
def outsAt0 (c : Dev nD) (t : Fin cfg0.N) : Vec F S32x128 .f32 × Vec F S32x128 .f32 × Vec F S32x128 .bf16 × Vec F S32x128 .bf16 :=
  (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (iblk0 m c 0 t) (iblk0 m c 1 t), out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (iblk0 m c 0 t) (iblk0 m c 1 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (iblk0 m c 0 t) (iblk0 m c 1 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (iblk0 m c 0 t) (iblk0 m c 1 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V1 m c (Pipeline.arrRef spec0 w)
  after w t := match w with
    | ⟨0, _⟩ => iblk0 m c 0 t
    | ⟨1, _⟩ => iblk0 m c 1 t
    | ⟨2, _⟩ => (outsAt0 m c t).1
    | ⟨3, _⟩ => (outsAt0 m c t).2.1
    | ⟨4, _⟩ => (outsAt0 m c t).2.2.1
    | ⟨5, _⟩ => (outsAt0 m c t).2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 m c).A w = V1 m c (Pipeline.arrRef spec0 w) := by
  dsimp only [dat0]

/-- What the body leaves, window by window (the proof data's `match` reduced by `dsimp`). -/
theorem after0_0 (c : Dev nD) (t : Fin cfg0.N) : (dat0 m c).after 0 t = iblk0 m c 0 t := by dsimp only [dat0]
theorem after0_1 (c : Dev nD) (t : Fin cfg0.N) : (dat0 m c).after 1 t = iblk0 m c 1 t := by dsimp only [dat0]
theorem after0_2 (c : Dev nD) (t : Fin cfg0.N) : (dat0 m c).after 2 t = (outsAt0 m c t).1 := by dsimp only [dat0]
theorem after0_3 (c : Dev nD) (t : Fin cfg0.N) : (dat0 m c).after 3 t = (outsAt0 m c t).2.1 := by dsimp only [dat0]
theorem after0_4 (c : Dev nD) (t : Fin cfg0.N) : (dat0 m c).after 4 t = (outsAt0 m c t).2.2.1 := by dsimp only [dat0]
theorem after0_5 (c : Dev nD) (t : Fin cfg0.N) : (dat0 m c).after 5 t = (outsAt0 m c t).2.2.2 := by dsimp only [dat0]

/-- Each input's current staging buffer holds its block at every point, fetched there or not (`beforeK_W_of`). -/
theorem before0_0 (c : Dev nD) (t : Fin cfg0.N) (d) : (dat0 m c).before 0 t d = iblk0 m c 0 t :=
  before0_0_of m (dat0 m c) (A_eq0 m c 0) (after0_0 m c) t d
theorem before0_1 (c : Dev nD) (t : Fin cfg0.N) (d) : (dat0 m c).before 1 t d = iblk0 m c 1 t :=
  before0_1_of m (dat0 m c) (A_eq0 m c 1) (after0_1 m c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 m c).Φ t.castSucc ∗ (dat0 m c).owesAt () t.castSucc
    ∗ (∃ d, owns (c : Thread nD τ) (ms0_0 t) fullShare ((dat0 m c).before 0 t d))
    ∗ (∃ d, owns (c : Thread nD τ) (ms0_1 t) fullShare ((dat0 m c).before 1 t d))
    ∗ (∃ d, owns (c : Thread nD τ) (ms0_2 t) fullShare ((dat0 m c).before 2 t d))
    ∗ (∃ d, owns (c : Thread nD τ) (ms0_3 t) fullShare ((dat0 m c).before 3 t d))
    ∗ (∃ d, owns (c : Thread nD τ) (ms0_4 t) fullShare ((dat0 m c).before 4 t d))
    ∗ (∃ d, owns (c : Thread nD τ) (ms0_5 t) fullShare ((dat0 m c).before 5 t d)))

/-- and what it returns. -/
def bodyPost0 (c : Dev nD) (t : Fin cfg0.N) : sProp 𝕄 :=
  iprop((dat0 m c).Φ t.succ ∗ (dat0 m c).owesAt () t.succ
    ∗ owns (c : Thread nD τ) (ms0_0 t) fullShare ((dat0 m c).after 0 t)
    ∗ owns (c : Thread nD τ) (ms0_1 t) fullShare ((dat0 m c).after 1 t)
    ∗ owns (c : Thread nD τ) (ms0_2 t) fullShare ((dat0 m c).after 2 t)
    ∗ owns (c : Thread nD τ) (ms0_3 t) fullShare ((dat0 m c).after 3 t)
    ∗ owns (c : Thread nD τ) (ms0_4 t) fullShare ((dat0 m c).after 4 t)
    ∗ owns (c : Thread nD τ) (ms0_5 t) fullShare ((dat0 m c).after 5 t))

/-- The body at any point: the inputs' memrefs hold their blocks (`before0_W`); so the
    run applies; the invariant passes through unread; the core owes nothing throughout. -/
theorem sound_body0 (c : Dev nD) (t : Fin cfg0.N) :
    bodyPre0 m c t ⊢ wp frame (wpE (defs₀ (F := F)) Variants.none c none) Set.univ (bodyAt0 t) (fun _ => bodyPost0 m c t) := by
  unfold bodyPre0 bodyPost0 bodyAt0
  simp only [before0_0, before0_1]
  rw [show (dat0 m c).Φ t.succ = (dat0 m c).Φ t.castSucc from rfl,
    show (dat0 m c).owesAt () t.succ = (dat0 m c).owesAt () t.castSucc from rfl,
    after0_0, after0_1, after0_2, after0_3, after0_4, after0_5]
  unfold outsAt0
  unfold out0_A_2 out0_A_3 out0_A_4 out0_A_5; (try dsimp only)
  iintro ⟨HΦ, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ (iblk0 m c 0 t) (iblk0 m c 1 t)).2.2.2.2 Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  iintro ⟨H0, H1, ⟨%e2, H2⟩, ⟨%e3, H3⟩, ⟨%e4, H4⟩, ⟨%e5, H5⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _ _ _ _ _ _)
  isplitl [H3]
  · unfold owns; iexists _; isplitr
    swap; · iexact H3
    ipureintro; exact View.read_writes_of_cover _ _ _ _ _ (cover0_A_3 c _ _ _ _ _ _ _ _ _ _ _ _ _ _ _)
  isplitl [H4]
  · unfold owns; iexists _; isplitr
    swap; · iexact H4
    ipureintro; exact View.read_writes_of_cover _ _ _ _ _ (cover0_A_4 c _ _ _ _ _ _ _ _ _ _ _ _ _ _ _)
  unfold owns; iexists _; isplitr
  swap; · iexact H5
  ipureintro; exact View.read_writes_of_cover _ _ _ _ _ (cover0_A_5 c _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated ( `triple_restated`). -/
theorem body_obligation0 (c : Dev nD) : BodyObligation (dat0 (F := F) m c) (defs₀ (F := F)) Variants.none () Set.univ := fun t => by
  rw [bigSep_W0, bigSep_W0, defs₀_row0]
  exact triple_restated (sound_body0 m c t) rfl .rfl fun _ => .rfl

end Cert.Kernel.Two

end
-- ==== Proof.FRun1.lean ====
/- The second launch ("quant"), its body in two parts: the block run at the first grid step only (per-row scale and
   shift, the tensor's scale and its inverse) and the codes of one block of rows, computed at every step. -/
module

public import proofs.«01_k».proof.Proof.Gen.Kernel.Regions
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel.Two

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the first grid step runs before the codes: the per-row scale and shift, the scale and its inverse. -/
noncomputable def firstPart (i : grid1.Coords) (arg1 : Memref sig .tc .vmem S32x16384 .bf16) (harg1 : arg1.IsWhole) (arg2 : Memref sig .tc .vmem S1x960 .f32) (harg2 : arg2.IsWhole) (arg3 : Memref sig .tc .vmem S1x960 .f32) (harg3 : arg3.IsWhole) (arg4 : Memref sig .tc .vmem S1920x128 .f32) (harg4 : arg4.IsWhole) (arg5 : Memref sig .tc .vmem S1920x128 .f32) (harg5 : arg5.IsWhole) (arg6 : Memref sig .tc .vmem S1920x128 .bf16) (harg6 : arg6.IsWhole) (arg7 : Memref sig .tc .vmem S1920x128 .bf16) (harg7 : arg7.IsWhole) (arg8 : Memref sig .tc .vmem S32x16384 .fp8e4m3) (harg8 : arg8.IsWhole) (arg9 : Memref sig .tc .smem S1x1 .f32) (harg9 : arg9.IsWhole) (arg10 : Memref sig .tc .vmem S1920x128 .f32) (harg10 : arg10.IsWhole) (arg11 : Memref sig .tc .vmem S1920x128 .f32) (harg11 : arg11.IsWhole) (arg12 : Memref sig .tc .smem S1 .f32) (harg12 : arg12.IsWhole) :
    Prog (TpuEff nD τ sig (Elt F) Λ₀ .tc) PUnit := do
  let ⟨v35, v38, v57⟩ : Σ' (v35 : IVec S480x480 32) (v38 : IVec S480x480 32), IVec S480x480 1 ← k1_part1 i arg1 harg1 arg2 harg2 arg3 harg3 arg4 harg4 arg5 harg5 arg6 harg6 arg7 harg7 arg8 harg8 arg9 harg9 arg10 harg10 arg11 harg11 arg12 harg12
  let ⟨v63, v64, v79, v86, v92, v98, v99⟩ : Σ' (v63 : FVec F S480x480 .f32) (v64 : FVec F S8x128 .f32) (v79 : FVec F S480x128 .f32) (v86 : FVec F S480x128 .f32) (v92 : FVec F S480x128 .f32) (v98 : FVec F S480x128 .f32), FVec F S480x128 .f32 ← k1_part2 i arg1 harg1 arg2 harg2 arg3 harg3 arg4 harg4 arg5 harg5 arg6 harg6 arg7 harg7 arg8 harg8 arg9 harg9 arg10 harg10 arg11 harg11 arg12 harg12 v35 v38 v57
  let ⟨v139, v143⟩ : Σ' (v139 : FVec F S480x128 .f32), FVec F S8x128 .f32 ← k1_part3 i arg1 harg1 arg2 harg2 arg3 harg3 arg4 harg4 arg5 harg5 arg6 harg6 arg7 harg7 arg8 harg8 arg9 harg9 arg10 harg10 arg11 harg11 arg12 harg12 v64 v79 v86 v92 v98 v99
  let v203 : FVec F S8x128 .f32 ← k1_part4 i arg1 harg1 arg2 harg2 arg3 harg3 arg4 harg4 arg5 harg5 arg6 harg6 arg7 harg7 arg8 harg8 arg9 harg9 arg10 harg10 arg11 harg11 arg12 harg12 v139 v143
  let ⟨v259, v261⟩ : Σ' (v259 : FVec F S8x128 .f32), FVec F S480x128 .f32 ← k1_part5 i arg1 harg1 arg2 harg2 arg3 harg3 arg4 harg4 arg5 harg5 arg6 harg6 arg7 harg7 arg8 harg8 arg9 harg9 arg10 harg10 arg11 harg11 arg12 harg12 v139 v203
  let ⟨v297, v299⟩ : Σ' (v297 : FVec F S480x128 .f32), FVec F S480x128 .f32 ← k1_part6 i arg1 harg1 arg2 harg2 arg3 harg3 arg4 harg4 arg5 harg5 arg6 harg6 arg7 harg7 arg8 harg8 arg9 harg9 arg10 harg10 arg11 harg11 arg12 harg12 v63 v261
  let ⟨v334, v350, v351⟩ : Σ' (v334 : FVec F S480x128 .f32) (v350 : FVec F S8x128 .f32), FVec F S8x128 .f32 ← k1_part7 i arg1 harg1 arg2 harg2 arg3 harg3 arg4 harg4 arg5 harg5 arg6 harg6 arg7 harg7 arg8 harg8 arg9 harg9 arg10 harg10 arg11 harg11 arg12 harg12 v259 v297 v299
  let ⟨v410, v411⟩ : Σ' (v410 : FVec F S8x128 .f32), FVec F S8x128 .f32 ← k1_part8 i arg1 harg1 arg2 harg2 arg3 harg3 arg4 harg4 arg5 harg5 arg6 harg6 arg7 harg7 arg8 harg8 arg9 harg9 arg10 harg10 arg11 harg11 arg12 harg12 v334 v350 v351
  let ⟨v454, v460, v465⟩ : Σ' (v454 : FVec F S8x128 .f32) (v460 : FVec F S480x128 .f32), FVec F S480x1 .f32 ← k1_part9 i arg1 harg1 arg2 harg2 arg3 harg3 arg4 harg4 arg5 harg5 arg6 harg6 arg7 harg7 arg8 harg8 arg9 harg9 arg10 harg10 arg11 harg11 arg12 harg12 v334 v410 v411
  let ⟨v492, v494, v505, v506⟩ : Σ' (v492 : FVec F S480x128 .f32) (v494 : FVec F S480x128 .f32) (v505 : FVec F S480x128 .f32), FVec F S480x128 .f32 ← k1_part10 i arg1 harg1 arg2 harg2 arg3 harg3 arg4 harg4 arg5 harg5 arg6 harg6 arg7 harg7 arg8 harg8 arg9 harg9 arg10 harg10 arg11 harg11 arg12 harg12 v63 v460 v465
  let ⟨v529, v559⟩ : Σ' (v529 : FVec F S480x128 .f32), FVec F S8x128 .f32 ← k1_part11 i arg1 harg1 arg2 harg2 arg3 harg3 arg4 harg4 arg5 harg5 arg6 harg6 arg7 harg7 arg8 harg8 arg9 harg9 arg10 harg10 arg11 harg11 arg12 harg12 v454 v492 v494 v505 v506
  let v619 : FVec F S8x128 .f32 ← k1_part12 i arg1 harg1 arg2 harg2 arg3 harg3 arg4 harg4 arg5 harg5 arg6 harg6 arg7 harg7 arg8 harg8 arg9 harg9 arg10 harg10 arg11 harg11 arg12 harg12 v529 v559
  let ⟨v649, v664, v669⟩ : Σ' (v649 : FVec F S8x128 .f32) (v664 : FVec F S480x128 .f32), FVec F S480x128 .f32 ← k1_part13 i arg1 harg1 arg2 harg2 arg3 harg3 arg4 harg4 arg5 harg5 arg6 harg6 arg7 harg7 arg8 harg8 arg9 harg9 arg10 harg10 arg11 harg11 arg12 harg12 v63 v529 v619
  let ⟨v687, v689, v709, v710⟩ : Σ' (v687 : FVec F S480x128 .f32) (v689 : FVec F S480x128 .f32) (v709 : FVec F S480x128 .f32), Vec F S480x128 .bf16 ← k1_part14 i arg1 harg1 arg2 harg2 arg3 harg3 arg4 harg4 arg5 harg5 arg6 harg6 arg7 harg7 arg8 harg8 arg9 harg9 arg10 harg10 arg11 harg11 arg12 harg12 v664 v669
  let ⟨v724, v766, v767⟩ : Σ' (v724 : FVec F S480x128 .f32) (v766 : FVec F S8x128 .f32), FVec F S8x128 .f32 ← k1_part15 i arg1 harg1 arg2 harg2 arg3 harg3 arg4 harg4 arg5 harg5 arg6 harg6 arg7 harg7 arg8 harg8 arg9 harg9 arg10 harg10 arg11 harg11 arg12 harg12 v649 v687 v689 v709 v710
  let ⟨v826, v827⟩ : Σ' (v826 : FVec F S8x128 .f32), FVec F S8x128 .f32 ← k1_part16 i arg1 harg1 arg2 harg2 arg3 harg3 arg4 harg4 arg5 harg5 arg6 harg6 arg7 harg7 arg8 harg8 arg9 harg9 arg10 harg10 arg11 harg11 arg12 harg12 v724 v766 v767
  let ⟨v873, v875⟩ : Σ' (v873 : BitVec 32), BitVec 32 ← k1_part17 i arg1 harg1 arg2 harg2 arg3 harg3 arg4 harg4 arg5 harg5 arg6 harg6 arg7 harg7 arg8 harg8 arg9 harg9 arg10 harg10 arg11 harg11 arg12 harg12 v724 v826 v827
  let v877 : Elt F .f32 ← smemLoad arg9 (Rect.unit (s := S1x1) ![0, 0] S1x1.size inb_S1x1_S1x1_0_0) numel1_S1x1 rfl
  Prog.lift (.store arg9 (Rect.unit (s := S1x1) ![0, 0] S1x1.size inb_S1x1_S1x1_0_0) (fun _ => k1_pay1 (F := F) v875) Finset.univ (View.stores_smem_one rfl numel1_S1x1) (.inl rfl))
  let v881 : Elt F .f32 ← smemLoad arg12 (Rect.unit (s := S1) ![0] S1.size inb_S1_S1_0) numel1_S1 rfl
  Prog.lift (.store arg12 (Rect.unit (s := S1) ![0] S1.size inb_S1_S1_0) (fun _ => k1_pay2 (F := F) v873) Finset.univ (View.stores_smem_one rfl numel1_S1) (.inl rfl))
  pure ⟨⟩

/-- What every grid step runs: the codes of its 32 rows. -/
noncomputable def everyPart (i : grid1.Coords) (arg1 : Memref sig .tc .vmem S32x16384 .bf16) (harg1 : arg1.IsWhole) (arg2 : Memref sig .tc .vmem S1x960 .f32) (harg2 : arg2.IsWhole) (arg3 : Memref sig .tc .vmem S1x960 .f32) (harg3 : arg3.IsWhole) (arg4 : Memref sig .tc .vmem S1920x128 .f32) (harg4 : arg4.IsWhole) (arg5 : Memref sig .tc .vmem S1920x128 .f32) (harg5 : arg5.IsWhole) (arg6 : Memref sig .tc .vmem S1920x128 .bf16) (harg6 : arg6.IsWhole) (arg7 : Memref sig .tc .vmem S1920x128 .bf16) (harg7 : arg7.IsWhole) (arg8 : Memref sig .tc .vmem S32x16384 .fp8e4m3) (harg8 : arg8.IsWhole) (arg9 : Memref sig .tc .smem S1x1 .f32) (harg9 : arg9.IsWhole) (arg10 : Memref sig .tc .vmem S1920x128 .f32) (harg10 : arg10.IsWhole) (arg11 : Memref sig .tc .vmem S1920x128 .f32) (harg11 : arg11.IsWhole) (arg12 : Memref sig .tc .smem S1 .f32) (harg12 : arg12.IsWhole) :
    Prog (TpuEff nD τ sig (Elt F) Λ₀ .tc) PUnit := do
  let v6 : Vec F S32x128 .f32 ← Prog.lift (.load arg10 (Rect.unit (s := S1920x128) (k1_off1 i) S32x128.size (k1_off1_inb i)).toLoadRect (View.loadsAt_vmem h_S32x128))
  let v8 : Vec F S32x128 .f32 ← Prog.lift (.load arg11 (Rect.unit (s := S1920x128) (k1_off1 i) S32x128.size (k1_off1_inb i)).toLoadRect (View.loadsAt_vmem h_S32x128))
  let v9 : Elt F .f32 ← smemLoad arg12 (Rect.unit (s := S1) ![0] S1.size inb_S1_S1_0) numel1_S1 rfl
  Scf.Loop.for k1_t1_loop k1_t1_ok ⟨⟩ (k1_t1_body i arg1 harg1 arg2 harg2 arg3 harg3 arg4 harg4 arg5 harg5 arg6 harg6 arg7 harg7 arg8 harg8 arg9 harg9 arg10 harg10 arg11 harg11 arg12 harg12 v6 v8 v9)
  pure ⟨⟩

set_option maxRecDepth 65536 in
/-- At the first grid step the body is the two parts in turn. -/
theorem body_first (i : grid1.Coords) (arg1 : Memref sig .tc .vmem S32x16384 .bf16) (harg1 : arg1.IsWhole) (arg2 : Memref sig .tc .vmem S1x960 .f32) (harg2 : arg2.IsWhole) (arg3 : Memref sig .tc .vmem S1x960 .f32) (harg3 : arg3.IsWhole) (arg4 : Memref sig .tc .vmem S1920x128 .f32) (harg4 : arg4.IsWhole) (arg5 : Memref sig .tc .vmem S1920x128 .f32) (harg5 : arg5.IsWhole) (arg6 : Memref sig .tc .vmem S1920x128 .bf16) (harg6 : arg6.IsWhole) (arg7 : Memref sig .tc .vmem S1920x128 .bf16) (harg7 : arg7.IsWhole) (arg8 : Memref sig .tc .vmem S32x16384 .fp8e4m3) (harg8 : arg8.IsWhole) (arg9 : Memref sig .tc .smem S1x1 .f32) (harg9 : arg9.IsWhole) (arg10 : Memref sig .tc .vmem S1920x128 .f32) (harg10 : arg10.IsWhole) (arg11 : Memref sig .tc .vmem S1920x128 .f32) (harg11 : arg11.IsWhole) (arg12 : Memref sig .tc .smem S1 .f32) (harg12 : arg12.IsWhole) (h : k1_cond1 i = 1#1) :
    cc1_quant (F := F) i arg1 harg1 arg2 harg2 arg3 harg3 arg4 harg4 arg5 harg5 arg6 harg6 arg7 harg7 arg8 harg8 arg9 harg9 arg10 harg10 arg11 harg11 arg12 harg12 = firstPart i arg1 harg1 arg2 harg2 arg3 harg3 arg4 harg4 arg5 harg5 arg6 harg6 arg7 harg7 arg8 harg8 arg9 harg9 arg10 harg10 arg11 harg11 arg12 harg12 >>= fun _ => everyPart i arg1 harg1 arg2 harg2 arg3 harg3 arg4 harg4 arg5 harg5 arg6 harg6 arg7 harg7 arg8 harg8 arg9 harg9 arg10 harg10 arg11 harg11 arg12 harg12 := by
  rw [cc1_quant_eq_skeleton]; unfold cc1_quant_skel; rw [dif_pos h]; rfl

/-- At any other grid step it is the second part. -/
theorem body_later (i : grid1.Coords) (arg1 : Memref sig .tc .vmem S32x16384 .bf16) (harg1 : arg1.IsWhole) (arg2 : Memref sig .tc .vmem S1x960 .f32) (harg2 : arg2.IsWhole) (arg3 : Memref sig .tc .vmem S1x960 .f32) (harg3 : arg3.IsWhole) (arg4 : Memref sig .tc .vmem S1920x128 .f32) (harg4 : arg4.IsWhole) (arg5 : Memref sig .tc .vmem S1920x128 .f32) (harg5 : arg5.IsWhole) (arg6 : Memref sig .tc .vmem S1920x128 .bf16) (harg6 : arg6.IsWhole) (arg7 : Memref sig .tc .vmem S1920x128 .bf16) (harg7 : arg7.IsWhole) (arg8 : Memref sig .tc .vmem S32x16384 .fp8e4m3) (harg8 : arg8.IsWhole) (arg9 : Memref sig .tc .smem S1x1 .f32) (harg9 : arg9.IsWhole) (arg10 : Memref sig .tc .vmem S1920x128 .f32) (harg10 : arg10.IsWhole) (arg11 : Memref sig .tc .vmem S1920x128 .f32) (harg11 : arg11.IsWhole) (arg12 : Memref sig .tc .smem S1 .f32) (harg12 : arg12.IsWhole) (h : ¬ k1_cond1 i = 1#1) :
    cc1_quant (F := F) i arg1 harg1 arg2 harg2 arg3 harg3 arg4 harg4 arg5 harg5 arg6 harg6 arg7 harg7 arg8 harg8 arg9 harg9 arg10 harg10 arg11 harg11 arg12 harg12 = everyPart i arg1 harg1 arg2 harg2 arg3 harg3 arg4 harg4 arg5 harg5 arg6 harg6 arg7 harg7 arg8 harg8 arg9 harg9 arg10 harg10 arg11 harg11 arg12 harg12 := by
  rw [cc1_quant_eq_skeleton]; unfold cc1_quant_skel; rw [dif_neg h]; rfl

set_option maxHeartbeats 4000000 in
/-- The first part leaves these stores in the scale, the per-row scale and shift and the inverse scale, from the two
    parameter rows and the four statistics. -/
noncomputable def firstRun (c : Dev nD) (i : grid1.Coords) (arg1 : Memref sig .tc .vmem S32x16384 .bf16) (harg1 : arg1.IsWhole) (arg2 : Memref sig .tc .vmem S1x960 .f32) (harg2 : arg2.IsWhole) (arg3 : Memref sig .tc .vmem S1x960 .f32) (harg3 : arg3.IsWhole) (arg4 : Memref sig .tc .vmem S1920x128 .f32) (harg4 : arg4.IsWhole) (arg5 : Memref sig .tc .vmem S1920x128 .f32) (harg5 : arg5.IsWhole) (arg6 : Memref sig .tc .vmem S1920x128 .bf16) (harg6 : arg6.IsWhole) (arg7 : Memref sig .tc .vmem S1920x128 .bf16) (harg7 : arg7.IsWhole) (arg8 : Memref sig .tc .vmem S32x16384 .fp8e4m3) (harg8 : arg8.IsWhole) (arg9 : Memref sig .tc .smem S1x1 .f32) (harg9 : arg9.IsWhole) (arg10 : Memref sig .tc .vmem S1920x128 .f32) (harg10 : arg10.IsWhole) (arg11 : Memref sig .tc .vmem S1920x128 .f32) (harg11 : arg11.IsWhole) (arg12 : Memref sig .tc .smem S1 .f32) (harg12 : arg12.IsWhole)
    (x1 : Vec F S1x960 .f32) (x2 : Vec F S1x960 .f32) (x3 : Vec F S1920x128 .f32) (x4 : Vec F S1920x128 .f32) (x5 : Vec F S1920x128 .bf16) (x6 : Vec F S1920x128 .bf16) :
    Σ' (L9 : List (View.Piece (Elt F) S1x1 .f32)), Σ' (L10 : List (View.Piece (Elt F) S1920x128 .f32)), Σ' (L11 : List (View.Piece (Elt F) S1920x128 .f32)), { L12 : List (View.Piece (Elt F) S1 .f32) //
      ∀ (E : Set ℕ) (K : PUnit → sProp 𝕄),
        iprop(owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12)) -∗ K ⟨⟩))
          ⊢ wp frame (wpE (defs₀ (F := F)) Variants.none c none) E (firstPart i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    unfold firstPart
    simp only [k1_part17_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%d9, %f9, -, H9⟩, ⟨%d10, %f10, -, H10⟩, ⟨%d11, %f11, -, H11⟩, Hk⟩
    obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H8]; · iexists _; iexact H8
    isplitl [H9]; · iexists _; iexact H9
    isplitl [H10]; · iexists _; iexact H10
    iexists _; iexact H11

set_option maxHeartbeats 2000000 in
/-- The second part leaves these stores in the block of codes, from the block of rows, the per-row scale and shift
    and the inverse scale. -/
noncomputable def everyRun (c : Dev nD) (i : grid1.Coords) (arg1 : Memref sig .tc .vmem S32x16384 .bf16) (harg1 : arg1.IsWhole) (arg2 : Memref sig .tc .vmem S1x960 .f32) (harg2 : arg2.IsWhole) (arg3 : Memref sig .tc .vmem S1x960 .f32) (harg3 : arg3.IsWhole) (arg4 : Memref sig .tc .vmem S1920x128 .f32) (harg4 : arg4.IsWhole) (arg5 : Memref sig .tc .vmem S1920x128 .f32) (harg5 : arg5.IsWhole) (arg6 : Memref sig .tc .vmem S1920x128 .bf16) (harg6 : arg6.IsWhole) (arg7 : Memref sig .tc .vmem S1920x128 .bf16) (harg7 : arg7.IsWhole) (arg8 : Memref sig .tc .vmem S32x16384 .fp8e4m3) (harg8 : arg8.IsWhole) (arg9 : Memref sig .tc .smem S1x1 .f32) (harg9 : arg9.IsWhole) (arg10 : Memref sig .tc .vmem S1920x128 .f32) (harg10 : arg10.IsWhole) (arg11 : Memref sig .tc .vmem S1920x128 .f32) (harg11 : arg11.IsWhole) (arg12 : Memref sig .tc .smem S1 .f32) (harg12 : arg12.IsWhole)
    (x0 : Vec F S32x16384 .bf16) (A : Vec F S1920x128 .f32) (B : Vec F S1920x128 .f32) (I : Vec F S1 .f32) :
    { L8 : List (View.Piece (Elt F) S32x16384 .fp8e4m3) //
      ∀ (E : Set ℕ) (K : PUnit → sProp 𝕄),
        iprop(owns (c : Thread nD τ) arg1 fullShare x0 ∗ (∃ d, owns (c : Thread nD τ) arg8 fullShare d) ∗ owns (c : Thread nD τ) arg10 fullShare A ∗ owns (c : Thread nD τ) arg11 fullShare B ∗ owns (c : Thread nD τ) arg12 fullShare I
            ∗ (iprop(owns (c : Thread nD τ) arg1 fullShare x0 ∗ (∃ f, arg8.view.loc (c : Thread nD τ) ↦[arg8.view.set]{fullShare} arg8.view.writes (Elt F) f L8) ∗ owns (c : Thread nD τ) arg10 fullShare A ∗ owns (c : Thread nD τ) arg11 fullShare B ∗ owns (c : Thread nD τ) arg12 fullShare I) -∗ K ⟨⟩))
          ⊢ wp frame (wpE (defs₀ (F := F)) Variants.none c none) E (everyPart i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    unfold everyPart
    unfold owns
    iintro ⟨⟨%f0, %hf0, H0⟩, ⟨%d7, %f7, -, H7⟩, ⟨%f9, %hf9, H9⟩, ⟨%f10, %hf10, H10⟩, ⟨%f11, %hf11, H11⟩, Hk⟩
    obtain rfl := harg1.eq_unread hf0; obtain rfl := harg10.eq_unread hf9; obtain rfl := harg11.eq_unread hf10; obtain rfl := harg12.eq_unread hf11
    sl_exec
    sl_step
    iapply Hk
    isplitl [H0]
    · iexists _; isplitr; · ipureintro; exact harg1.read_unread _
      iexact H0
    isplitl [H7]; · iexists _; iexact H7
    isplitl [H9]
    · iexists _; isplitr; · ipureintro; exact harg10.read_unread _
      iexact H9
    isplitl [H10]
    · iexists _; isplitr; · ipureintro; exact harg11.read_unread _
      iexact H10
    iexists _; isplitr; · ipureintro; exact harg12.read_unread _
    iexact H11

end Cert.Kernel.Two

end
-- ==== Proof.FRegion1.lean ====
/- The second launch ("quant"): what each grid step leaves in the codes and in the scale, what it carries in its
   scratch between steps, and the launch's proof data, from the arrays as the launch finds them. -/
module

public import proofs.«01_k».proof.Proof.FRegion0
public import proofs.«01_k».proof.Proof.FRun1
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel.Two

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents between the launches -/

/-- The unscoped buffers after the first launch: its four outputs at what its grid steps wrote back. -/
def W2 (c : Dev nD) : Valuation τ sig (Elt F) :=
  Function.update (Function.update (Function.update (Function.update (V1 m c) main_v3_0 ((dat0 m c).arrAt 2 cfg0.N)) main_v3_1 ((dat0 m c).arrAt 3 cfg0.N)) main_v3_2 ((dat0 m c).arrAt 4 cfg0.N)) main_v3_3 ((dat0 m c).arrAt 5 cfg0.N)

/-- The first launch's outputs, as the unknowns the later contents are written over. -/
def outs0 : Outs (F := F) := fun _ r c => W2 m c r

/-- The unscoped buffers as the second launch finds them. -/
abbrev E1 (c : Dev nD) : Valuation τ sig (Elt F) := V3 m (outs0 m) c

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (E1 m c (Pipeline.arrRef spec1 w))

/-- Input window 0's staging buffer holds its block at every point. -/
theorem before1_0_of {c : Dev nD} (dat : Dat τ (Elt F) Unit ℕ (UR sig nD τ) ℕ cfg1 c) (hA : dat.A 0 = E1 m c (Pipeline.arrRef spec1 0))
    (hafter : ∀ t, dat.after 0 t = iblk1 m c 0 t) (t : Fin cfg1.N) (d) : dat.before 0 t d = iblk1 m c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point. -/
theorem before1_1_of {c : Dev nD} (dat : Dat τ (Elt F) Unit ℕ (UR sig nD τ) ℕ cfg1 c) (hA : dat.A 1 = E1 m c (Pipeline.arrRef spec1 1))
    (hafter : ∀ t, dat.after 1 t = iblk1 m c 1 t) (t : Fin cfg1.N) (d) : dat.before 1 t d = iblk1 m c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point. -/
theorem before1_2_of {c : Dev nD} (dat : Dat τ (Elt F) Unit ℕ (UR sig nD τ) ℕ cfg1 c) (hA : dat.A 2 = E1 m c (Pipeline.arrRef spec1 2))
    (hafter : ∀ t, dat.after 2 t = iblk1 m c 2 t) (t : Fin cfg1.N) (d) : dat.before 2 t d = iblk1 m c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point. -/
theorem before1_3_of {c : Dev nD} (dat : Dat τ (Elt F) Unit ℕ (UR sig nD τ) ℕ cfg1 c) (hA : dat.A 3 = E1 m c (Pipeline.arrRef spec1 3))
    (hafter : ∀ t, dat.after 3 t = iblk1 m c 3 t) (t : Fin cfg1.N) (d) : dat.before 3 t d = iblk1 m c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point. -/
theorem before1_4_of {c : Dev nD} (dat : Dat τ (Elt F) Unit ℕ (UR sig nD τ) ℕ cfg1 c) (hA : dat.A 4 = E1 m c (Pipeline.arrRef spec1 4))
    (hafter : ∀ t, dat.after 4 t = iblk1 m c 4 t) (t : Fin cfg1.N) (d) : dat.before 4 t d = iblk1 m c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every point. -/
theorem before1_5_of {c : Dev nD} (dat : Dat τ (Elt F) Unit ℕ (UR sig nD τ) ℕ cfg1 c) (hA : dat.A 5 = E1 m c (Pipeline.arrRef spec1 5))
    (hafter : ∀ t, dat.after 5 t = iblk1 m c 5 t) (t : Fin cfg1.N) (d) : dat.before 5 t d = iblk1 m c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's staging buffer holds its block at every point. -/
theorem before1_6_of {c : Dev nD} (dat : Dat τ (Elt F) Unit ℕ (UR sig nD τ) ℕ cfg1 c) (hA : dat.A 6 = E1 m c (Pipeline.arrRef spec1 6))
    (hafter : ∀ t, dat.after 6 t = iblk1 m c 6 t) (t : Fin cfg1.N) (d) : dat.before 6 t d = iblk1 m c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The staging and scratch memrefs -/

abbrev ms1_0 (t : Fin cfg1.N) : Memref sig .tc .vmem S32x16384 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x960 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x960 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1920x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1920x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1920x128 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1920x128 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S32x16384 .fp8e4m3 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .smem S1x1 .f32 := win1_8.stage (cfg1.slots t 8)
abbrev hs1_8 (t : Fin cfg1.N) : (ms1_8 t).IsWhole := hstage1_8 ((cfg1.slots t 8).cast nbuf1_8)
abbrev scA : Memref sig .tc .vmem S1920x128 .f32 := Memref.whole cc1_scratch0
abbrev scB : Memref sig .tc .vmem S1920x128 .f32 := Memref.whole cc1_scratch1
abbrev scI : Memref sig .tc .smem S1 .f32 := Memref.whole cc1_scratch2
abbrev VO7 : View sig .tc .vmem S32x16384 .fp8e4m3 := (Memref.whole cc1_stg7_0 : Memref sig .tc .vmem S32x16384 .fp8e4m3).view
abbrev VO8 : View sig .tc .smem S1x1 .f32 := (Memref.whole cc1_stg8_0 : Memref sig .tc .smem S1x1 .f32).view

/-- The first grid point. -/
def pt0 : Fin cfg1.N := ⟨0, by rw [show cfg1.N = 60 from N_1]; decide⟩

theorem hcond1 : ∀ t : Fin cfg1.N, k1_cond1 (grid1.coords t) = 1#1 ↔ t.val % 60 = 0 :=
  (fun t => by
    have ht : t.val < 60 := Nat.lt_of_lt_of_eq t.isLt N_1
    have e0 : (grid1.coords t 0).val = t.val / 1 % 60 := Pipeline.Grid.coords_val t 0 (by decide) rfl
    simp only [k1_cond1, e0]
    word_cmp
   : ∀ t : Fin grid1.N, k1_cond1 (grid1.coords t) = 1#1 ↔ t.val % 60 = 0)

theorem hcond_pt0 : k1_cond1 (grid1.coords pt0) = 1#1 := (hcond1 pt0).mpr rfl

/-! ## What the first part leaves -/

theorem coverF_8 (c : Dev nD) (i : grid1.Coords) (arg1 : Memref sig .tc .vmem S32x16384 .bf16) (harg1 : arg1.IsWhole) (arg2 : Memref sig .tc .vmem S1x960 .f32) (harg2 : arg2.IsWhole) (arg3 : Memref sig .tc .vmem S1x960 .f32) (harg3 : arg3.IsWhole) (arg4 : Memref sig .tc .vmem S1920x128 .f32) (harg4 : arg4.IsWhole) (arg5 : Memref sig .tc .vmem S1920x128 .f32) (harg5 : arg5.IsWhole) (arg6 : Memref sig .tc .vmem S1920x128 .bf16) (harg6 : arg6.IsWhole) (arg7 : Memref sig .tc .vmem S1920x128 .bf16) (harg7 : arg7.IsWhole) (arg8 : Memref sig .tc .vmem S32x16384 .fp8e4m3) (harg8 : arg8.IsWhole) (arg9 : Memref sig .tc .smem S1x1 .f32) (harg9 : arg9.IsWhole) (arg10 : Memref sig .tc .vmem S1920x128 .f32) (harg10 : arg10.IsWhole) (arg11 : Memref sig .tc .vmem S1920x128 .f32) (harg11 : arg11.IsWhole) (arg12 : Memref sig .tc .smem S1 .f32) (harg12 : arg12.IsWhole) (x1 : Vec F S1x960 .f32) (x2 : Vec F S1x960 .f32) (x3 : Vec F S1920x128 .f32) (x4 : Vec F S1920x128 .f32) (x5 : Vec F S1920x128 .bf16) (x6 : Vec F S1920x128 .bf16) (y : S1x1.Idx) :
    ∃ pc ∈ (firstRun c i arg1 harg1 arg2 harg2 arg3 harg3 arg4 harg4 arg5 harg5 arg6 harg6 arg7 harg7 arg8 harg8 arg9 harg9 arg10 harg10 arg11 harg11 arg12 harg12 x1 x2 x3 x4 x5 x6).1, y ∈ pc.1.set :=
  View.cover_of_tiledL (firstRun c i arg1 harg1 arg2 harg2 arg3 harg3 arg4 harg4 arg5 harg5 arg6 harg6 arg7 harg7 arg8 harg8 arg9 harg9 arg10 harg10 arg11 harg11 arg12 harg12 x1 x2 x3 x4 x5 x6).1 S1x1.size (by sl_kernel_rfl) y

theorem coverF_A (c : Dev nD) (i : grid1.Coords) (arg1 : Memref sig .tc .vmem S32x16384 .bf16) (harg1 : arg1.IsWhole) (arg2 : Memref sig .tc .vmem S1x960 .f32) (harg2 : arg2.IsWhole) (arg3 : Memref sig .tc .vmem S1x960 .f32) (harg3 : arg3.IsWhole) (arg4 : Memref sig .tc .vmem S1920x128 .f32) (harg4 : arg4.IsWhole) (arg5 : Memref sig .tc .vmem S1920x128 .f32) (harg5 : arg5.IsWhole) (arg6 : Memref sig .tc .vmem S1920x128 .bf16) (harg6 : arg6.IsWhole) (arg7 : Memref sig .tc .vmem S1920x128 .bf16) (harg7 : arg7.IsWhole) (arg8 : Memref sig .tc .vmem S32x16384 .fp8e4m3) (harg8 : arg8.IsWhole) (arg9 : Memref sig .tc .smem S1x1 .f32) (harg9 : arg9.IsWhole) (arg10 : Memref sig .tc .vmem S1920x128 .f32) (harg10 : arg10.IsWhole) (arg11 : Memref sig .tc .vmem S1920x128 .f32) (harg11 : arg11.IsWhole) (arg12 : Memref sig .tc .smem S1 .f32) (harg12 : arg12.IsWhole) (x1 : Vec F S1x960 .f32) (x2 : Vec F S1x960 .f32) (x3 : Vec F S1920x128 .f32) (x4 : Vec F S1920x128 .f32) (x5 : Vec F S1920x128 .bf16) (x6 : Vec F S1920x128 .bf16) (y : S1920x128.Idx) :
    ∃ pc ∈ (firstRun c i arg1 harg1 arg2 harg2 arg3 harg3 arg4 harg4 arg5 harg5 arg6 harg6 arg7 harg7 arg8 harg8 arg9 harg9 arg10 harg10 arg11 harg11 arg12 harg12 x1 x2 x3 x4 x5 x6).2.1, y ∈ pc.1.set :=
  View.cover_of_tiledL (firstRun c i arg1 harg1 arg2 harg2 arg3 harg3 arg4 harg4 arg5 harg5 arg6 harg6 arg7 harg7 arg8 harg8 arg9 harg9 arg10 harg10 arg11 harg11 arg12 harg12 x1 x2 x3 x4 x5 x6).2.1 S480x128.size (by sl_kernel_rfl) y

theorem coverF_B (c : Dev nD) (i : grid1.Coords) (arg1 : Memref sig .tc .vmem S32x16384 .bf16) (harg1 : arg1.IsWhole) (arg2 : Memref sig .tc .vmem S1x960 .f32) (harg2 : arg2.IsWhole) (arg3 : Memref sig .tc .vmem S1x960 .f32) (harg3 : arg3.IsWhole) (arg4 : Memref sig .tc .vmem S1920x128 .f32) (harg4 : arg4.IsWhole) (arg5 : Memref sig .tc .vmem S1920x128 .f32) (harg5 : arg5.IsWhole) (arg6 : Memref sig .tc .vmem S1920x128 .bf16) (harg6 : arg6.IsWhole) (arg7 : Memref sig .tc .vmem S1920x128 .bf16) (harg7 : arg7.IsWhole) (arg8 : Memref sig .tc .vmem S32x16384 .fp8e4m3) (harg8 : arg8.IsWhole) (arg9 : Memref sig .tc .smem S1x1 .f32) (harg9 : arg9.IsWhole) (arg10 : Memref sig .tc .vmem S1920x128 .f32) (harg10 : arg10.IsWhole) (arg11 : Memref sig .tc .vmem S1920x128 .f32) (harg11 : arg11.IsWhole) (arg12 : Memref sig .tc .smem S1 .f32) (harg12 : arg12.IsWhole) (x1 : Vec F S1x960 .f32) (x2 : Vec F S1x960 .f32) (x3 : Vec F S1920x128 .f32) (x4 : Vec F S1920x128 .f32) (x5 : Vec F S1920x128 .bf16) (x6 : Vec F S1920x128 .bf16) (y : S1920x128.Idx) :
    ∃ pc ∈ (firstRun c i arg1 harg1 arg2 harg2 arg3 harg3 arg4 harg4 arg5 harg5 arg6 harg6 arg7 harg7 arg8 harg8 arg9 harg9 arg10 harg10 arg11 harg11 arg12 harg12 x1 x2 x3 x4 x5 x6).2.2.1, y ∈ pc.1.set :=
  View.cover_of_tiledL (firstRun c i arg1 harg1 arg2 harg2 arg3 harg3 arg4 harg4 arg5 harg5 arg6 harg6 arg7 harg7 arg8 harg8 arg9 harg9 arg10 harg10 arg11 harg11 arg12 harg12 x1 x2 x3 x4 x5 x6).2.2.1 S480x128.size (by sl_kernel_rfl) y

theorem coverF_I (c : Dev nD) (i : grid1.Coords) (arg1 : Memref sig .tc .vmem S32x16384 .bf16) (harg1 : arg1.IsWhole) (arg2 : Memref sig .tc .vmem S1x960 .f32) (harg2 : arg2.IsWhole) (arg3 : Memref sig .tc .vmem S1x960 .f32) (harg3 : arg3.IsWhole) (arg4 : Memref sig .tc .vmem S1920x128 .f32) (harg4 : arg4.IsWhole) (arg5 : Memref sig .tc .vmem S1920x128 .f32) (harg5 : arg5.IsWhole) (arg6 : Memref sig .tc .vmem S1920x128 .bf16) (harg6 : arg6.IsWhole) (arg7 : Memref sig .tc .vmem S1920x128 .bf16) (harg7 : arg7.IsWhole) (arg8 : Memref sig .tc .vmem S32x16384 .fp8e4m3) (harg8 : arg8.IsWhole) (arg9 : Memref sig .tc .smem S1x1 .f32) (harg9 : arg9.IsWhole) (arg10 : Memref sig .tc .vmem S1920x128 .f32) (harg10 : arg10.IsWhole) (arg11 : Memref sig .tc .vmem S1920x128 .f32) (harg11 : arg11.IsWhole) (arg12 : Memref sig .tc .smem S1 .f32) (harg12 : arg12.IsWhole) (x1 : Vec F S1x960 .f32) (x2 : Vec F S1x960 .f32) (x3 : Vec F S1920x128 .f32) (x4 : Vec F S1920x128 .f32) (x5 : Vec F S1920x128 .bf16) (x6 : Vec F S1920x128 .bf16) (y : S1.Idx) :
    ∃ pc ∈ (firstRun c i arg1 harg1 arg2 harg2 arg3 harg3 arg4 harg4 arg5 harg5 arg6 harg6 arg7 harg7 arg8 harg8 arg9 harg9 arg10 harg10 arg11 harg11 arg12 harg12 x1 x2 x3 x4 x5 x6).2.2.2.1, y ∈ pc.1.set :=
  View.cover_of_tiledL (firstRun c i arg1 harg1 arg2 harg2 arg3 harg3 arg4 harg4 arg5 harg5 arg6 harg6 arg7 harg7 arg8 harg8 arg9 harg9 arg10 harg10 arg11 harg11 arg12 harg12 x1 x2 x3 x4 x5 x6).2.2.2.1 S1.size (by sl_kernel_rfl) y

theorem coverE (c : Dev nD) (i : grid1.Coords) (arg1 : Memref sig .tc .vmem S32x16384 .bf16) (harg1 : arg1.IsWhole) (arg2 : Memref sig .tc .vmem S1x960 .f32) (harg2 : arg2.IsWhole) (arg3 : Memref sig .tc .vmem S1x960 .f32) (harg3 : arg3.IsWhole) (arg4 : Memref sig .tc .vmem S1920x128 .f32) (harg4 : arg4.IsWhole) (arg5 : Memref sig .tc .vmem S1920x128 .f32) (harg5 : arg5.IsWhole) (arg6 : Memref sig .tc .vmem S1920x128 .bf16) (harg6 : arg6.IsWhole) (arg7 : Memref sig .tc .vmem S1920x128 .bf16) (harg7 : arg7.IsWhole) (arg8 : Memref sig .tc .vmem S32x16384 .fp8e4m3) (harg8 : arg8.IsWhole) (arg9 : Memref sig .tc .smem S1x1 .f32) (harg9 : arg9.IsWhole) (arg10 : Memref sig .tc .vmem S1920x128 .f32) (harg10 : arg10.IsWhole) (arg11 : Memref sig .tc .vmem S1920x128 .f32) (harg11 : arg11.IsWhole) (arg12 : Memref sig .tc .smem S1 .f32) (harg12 : arg12.IsWhole) (x0 : Vec F S32x16384 .bf16) (A : Vec F S1920x128 .f32) (B : Vec F S1920x128 .f32) (I : Vec F S1 .f32) (y : S32x16384.Idx) :
    ∃ pc ∈ (everyRun c i arg1 harg1 arg2 harg2 arg3 harg3 arg4 harg4 arg5 harg5 arg6 harg6 arg7 harg7 arg8 harg8 arg9 harg9 arg10 harg10 arg11 harg11 arg12 harg12 x0 A B I).1, y ∈ pc.1.set :=
  View.cover_of_tiledL (everyRun c i arg1 harg1 arg2 harg2 arg3 harg3 arg4 harg4 arg5 harg5 arg6 harg6 arg7 harg7 arg8 harg8 arg9 harg9 arg10 harg10 arg11 harg11 arg12 harg12 x0 A B I).1 S32x128.size (by sl_kernel_rfl) y

/-- The scale the first grid step writes. -/
def outS (c : Dev nD) : Vec F S1x1 .f32 := VO8.read (Elt F) (VO8.writes (Elt F) VO8.junk (firstRun c (grid1.coords pt0) (ms1_0 pt0) (hs1_0 pt0) (ms1_1 pt0) (hs1_1 pt0) (ms1_2 pt0) (hs1_2 pt0) (ms1_3 pt0) (hs1_3 pt0) (ms1_4 pt0) (hs1_4 pt0) (ms1_5 pt0) (hs1_5 pt0) (ms1_6 pt0) (hs1_6 pt0) (ms1_7 pt0) (hs1_7 pt0) (ms1_8 pt0) (hs1_8 pt0) scA (Memref.isWhole_whole _) scB (Memref.isWhole_whole _) scI (Memref.isWhole_whole _) (iblk1 m c 1 pt0) (iblk1 m c 2 pt0) (iblk1 m c 3 pt0) (iblk1 m c 4 pt0) (iblk1 m c 5 pt0) (iblk1 m c 6 pt0)).1)
/-- The per-row scale it leaves in scratch, -/
def outA (c : Dev nD) : Vec F S1920x128 .f32 := scA.view.read (Elt F) (scA.view.writes (Elt F) scA.view.junk (firstRun c (grid1.coords pt0) (ms1_0 pt0) (hs1_0 pt0) (ms1_1 pt0) (hs1_1 pt0) (ms1_2 pt0) (hs1_2 pt0) (ms1_3 pt0) (hs1_3 pt0) (ms1_4 pt0) (hs1_4 pt0) (ms1_5 pt0) (hs1_5 pt0) (ms1_6 pt0) (hs1_6 pt0) (ms1_7 pt0) (hs1_7 pt0) (ms1_8 pt0) (hs1_8 pt0) scA (Memref.isWhole_whole _) scB (Memref.isWhole_whole _) scI (Memref.isWhole_whole _) (iblk1 m c 1 pt0) (iblk1 m c 2 pt0) (iblk1 m c 3 pt0) (iblk1 m c 4 pt0) (iblk1 m c 5 pt0) (iblk1 m c 6 pt0)).2.1)
/-- the per-row shift, -/
def outB (c : Dev nD) : Vec F S1920x128 .f32 := scB.view.read (Elt F) (scB.view.writes (Elt F) scB.view.junk (firstRun c (grid1.coords pt0) (ms1_0 pt0) (hs1_0 pt0) (ms1_1 pt0) (hs1_1 pt0) (ms1_2 pt0) (hs1_2 pt0) (ms1_3 pt0) (hs1_3 pt0) (ms1_4 pt0) (hs1_4 pt0) (ms1_5 pt0) (hs1_5 pt0) (ms1_6 pt0) (hs1_6 pt0) (ms1_7 pt0) (hs1_7 pt0) (ms1_8 pt0) (hs1_8 pt0) scA (Memref.isWhole_whole _) scB (Memref.isWhole_whole _) scI (Memref.isWhole_whole _) (iblk1 m c 1 pt0) (iblk1 m c 2 pt0) (iblk1 m c 3 pt0) (iblk1 m c 4 pt0) (iblk1 m c 5 pt0) (iblk1 m c 6 pt0)).2.2.1)
/-- and the inverse scale. -/
def outI (c : Dev nD) : Vec F S1 .f32 := scI.view.read (Elt F) (scI.view.writes (Elt F) scI.view.junk (firstRun c (grid1.coords pt0) (ms1_0 pt0) (hs1_0 pt0) (ms1_1 pt0) (hs1_1 pt0) (ms1_2 pt0) (hs1_2 pt0) (ms1_3 pt0) (hs1_3 pt0) (ms1_4 pt0) (hs1_4 pt0) (ms1_5 pt0) (hs1_5 pt0) (ms1_6 pt0) (hs1_6 pt0) (ms1_7 pt0) (hs1_7 pt0) (ms1_8 pt0) (hs1_8 pt0) scA (Memref.isWhole_whole _) scB (Memref.isWhole_whole _) scI (Memref.isWhole_whole _) (iblk1 m c 1 pt0) (iblk1 m c 2 pt0) (iblk1 m c 3 pt0) (iblk1 m c 4 pt0) (iblk1 m c 5 pt0) (iblk1 m c 6 pt0)).2.2.2.1)
/-- The codes grid step `t` writes. -/
def outC (c : Dev nD) (t : Fin cfg1.N) : Vec F S32x16384 .fp8e4m3 :=
  VO7.read (Elt F) (VO7.writes (Elt F) VO7.junk (everyRun c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scA (Memref.isWhole_whole _) scB (Memref.isWhole_whole _) scI (Memref.isWhole_whole _) (iblk1 m c 0 t) (outA m c) (outB m c) (outI m c)).1)

/-! ## The proof data -/

/-- The first launch's staging buffers, at some contents. -/
def stgRest (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- What the second launch carries between grid steps: before the first, its scratch at anything; afterwards the
    per-row scale and shift and the inverse scale. -/
def Phi1 (c : Dev nD) (t : Fin (cfg1.N + 1)) : sProp 𝕄 :=
  if t.val = 0 then Pipeline.ΦA spec1 c
  else iprop(stgRest c ∗ owns (c : Thread nD τ) scA fullShare (outA m c) ∗ owns (c : Thread nD τ) scB fullShare (outB m c) ∗ owns (c : Thread nD τ) scI fullShare (outI m c) ∗ ∃ r, prngReg c r)

theorem Phi1_zero (c : Dev nD) : (Pipeline.ΦA spec1 c : sProp 𝕄) ⊢ iprop(stgRest c ∗ (∃ d, owns (c : Thread nD τ) scA fullShare d) ∗ (∃ d, owns (c : Thread nD τ) scB fullShare d) ∗ (∃ d, owns (c : Thread nD τ) scI fullShare d) ∗ ∃ r, prngReg c r) := by
  unfold Pipeline.ΦA stgRest; rw [scopedRest1_eq]; simp only [scA, scB, scI, owns_whole]
  iintro ⟨⟨R0, R1, R2, R3, R4, R5, R6, R7, R8, R9, R10, A, B, I⟩, G⟩
  isplitl [R0 R1 R2 R3 R4 R5 R6 R7 R8 R9 R10]
  · (isplitl [R0]; · iexact R0); (isplitl [R1]; · iexact R1); (isplitl [R2]; · iexact R2); (isplitl [R3]; · iexact R3); (isplitl [R4]; · iexact R4); (isplitl [R5]; · iexact R5); (isplitl [R6]; · iexact R6); (isplitl [R7]; · iexact R7); (isplitl [R8]; · iexact R8); (isplitl [R9]; · iexact R9)
    iexact R10
  isplitl [A]; · iexact A
  isplitl [B]; · iexact B
  isplitl [I]; · iexact I
  iexact G

theorem Phi1_back (c : Dev nD) : iprop(stgRest c ∗ (∃ d, owns (c : Thread nD τ) scA fullShare d) ∗ (∃ d, owns (c : Thread nD τ) scB fullShare d) ∗ (∃ d, owns (c : Thread nD τ) scI fullShare d) ∗ ∃ r, prngReg c r) ⊢ (Pipeline.ΦA spec1 c : sProp 𝕄) := by
  unfold Pipeline.ΦA stgRest; rw [scopedRest1_eq]; simp only [scA, scB, scI, owns_whole]
  iintro ⟨⟨R0, R1, R2, R3, R4, R5, R6, R7, R8, R9, R10⟩, A, B, I, G⟩
  isplitr [G]
  · (isplitl [R0]; · iexact R0); (isplitl [R1]; · iexact R1); (isplitl [R2]; · iexact R2); (isplitl [R3]; · iexact R3); (isplitl [R4]; · iexact R4); (isplitl [R5]; · iexact R5); (isplitl [R6]; · iexact R6); (isplitl [R7]; · iexact R7); (isplitl [R8]; · iexact R8); (isplitl [R9]; · iexact R9); (isplitl [R10]; · iexact R10)
    isplitl [A]; · iexact A
    isplitl [B]; · iexact B
    iexact I
  iexact G

/-- The second launch's proof data. -/
def dat1 (c : Dev nD) : Dat τ (Elt F) Unit ℕ (UR sig nD τ) ℕ cfg1 c where
  A w := E1 m c (Pipeline.arrRef spec1 w)
  after w t := match w with
    | ⟨0, _⟩ => iblk1 m c 0 t
    | ⟨1, _⟩ => iblk1 m c 1 t
    | ⟨2, _⟩ => iblk1 m c 2 t
    | ⟨3, _⟩ => iblk1 m c 3 t
    | ⟨4, _⟩ => iblk1 m c 4 t
    | ⟨5, _⟩ => iblk1 m c 5 t
    | ⟨6, _⟩ => iblk1 m c 6 t
    | ⟨7, _⟩ => outC m c t
    | ⟨8, _⟩ => outS m c
  Φ t := Phi1 m c t
  q _ := fullShare
  owed _ := 0

theorem A_eq1 (c : Dev nD) (w : Fin cfg1.W) : (dat1 m c).A w = E1 m c (Pipeline.arrRef spec1 w) := by
  dsimp only [dat1]
theorem after1_0 (c : Dev nD) (t : Fin cfg1.N) : (dat1 m c).after 0 t = iblk1 m c 0 t := by dsimp only [dat1]
theorem after1_1 (c : Dev nD) (t : Fin cfg1.N) : (dat1 m c).after 1 t = iblk1 m c 1 t := by dsimp only [dat1]
theorem after1_2 (c : Dev nD) (t : Fin cfg1.N) : (dat1 m c).after 2 t = iblk1 m c 2 t := by dsimp only [dat1]
theorem after1_3 (c : Dev nD) (t : Fin cfg1.N) : (dat1 m c).after 3 t = iblk1 m c 3 t := by dsimp only [dat1]
theorem after1_4 (c : Dev nD) (t : Fin cfg1.N) : (dat1 m c).after 4 t = iblk1 m c 4 t := by dsimp only [dat1]
theorem after1_5 (c : Dev nD) (t : Fin cfg1.N) : (dat1 m c).after 5 t = iblk1 m c 5 t := by dsimp only [dat1]
theorem after1_6 (c : Dev nD) (t : Fin cfg1.N) : (dat1 m c).after 6 t = iblk1 m c 6 t := by dsimp only [dat1]
theorem after1_7 (c : Dev nD) (t : Fin cfg1.N) : (dat1 m c).after 7 t = outC m c t := by dsimp only [dat1]
theorem after1_8 (c : Dev nD) (t : Fin cfg1.N) : (dat1 m c).after 8 t = outS m c := by dsimp only [dat1]
theorem before1_0 (c : Dev nD) (t : Fin cfg1.N) (d) : (dat1 m c).before 0 t d = iblk1 m c 0 t :=
  before1_0_of m (dat1 m c) (A_eq1 m c 0) (after1_0 m c) t d
theorem before1_1 (c : Dev nD) (t : Fin cfg1.N) (d) : (dat1 m c).before 1 t d = iblk1 m c 1 t :=
  before1_1_of m (dat1 m c) (A_eq1 m c 1) (after1_1 m c) t d
theorem before1_2 (c : Dev nD) (t : Fin cfg1.N) (d) : (dat1 m c).before 2 t d = iblk1 m c 2 t :=
  before1_2_of m (dat1 m c) (A_eq1 m c 2) (after1_2 m c) t d
theorem before1_3 (c : Dev nD) (t : Fin cfg1.N) (d) : (dat1 m c).before 3 t d = iblk1 m c 3 t :=
  before1_3_of m (dat1 m c) (A_eq1 m c 3) (after1_3 m c) t d
theorem before1_4 (c : Dev nD) (t : Fin cfg1.N) (d) : (dat1 m c).before 4 t d = iblk1 m c 4 t :=
  before1_4_of m (dat1 m c) (A_eq1 m c 4) (after1_4 m c) t d
theorem before1_5 (c : Dev nD) (t : Fin cfg1.N) (d) : (dat1 m c).before 5 t d = iblk1 m c 5 t :=
  before1_5_of m (dat1 m c) (A_eq1 m c 5) (after1_5 m c) t d
theorem before1_6 (c : Dev nD) (t : Fin cfg1.N) (d) : (dat1 m c).before 6 t d = iblk1 m c 6 t :=
  before1_6_of m (dat1 m c) (A_eq1 m c 6) (after1_6 m c) t d

/-- After the first grid step the scale's buffer holds the scale: no later step stores to it. -/
theorem before1_8 (c : Dev nD) : ∀ (n : ℕ) (h : n + 1 < cfg1.N) (d), (dat1 m c).before 8 ⟨n + 1, h⟩ d = outS m c := by
  intro n
  induction n with
  | zero =>
    intro h d
    rw [(dat1 m c).before_of_pos 8 ⟨0 + 1, h⟩ (Nat.succ_ne_zero _) ((cfg1.win 8).fetch_out rfl _) d]
    have hf : (cfg1.win 8).flush ⟨(0 + 1) - 1, Nat.lt_of_le_of_lt (Nat.sub_le _ _) h⟩ = false := by
      rw [Bool.eq_false_iff]; intro hh; have := (flush1_8 _).mp hh; simp at this
    rw [hf, if_neg Bool.false_ne_true]
    unfold Dat.left
    have hi : cfg1.idle 8 (cfg1.grid.coords ⟨(0 + 1) - 1, Nat.lt_of_le_of_lt (Nat.sub_le _ _) h⟩) = false := by
      show (!(k1_cond1 _ == 1#1)) = false
      have := (hcond1 ⟨(0 + 1) - 1, Nat.lt_of_le_of_lt (Nat.sub_le _ _) h⟩).mpr rfl
      rw [show k1_cond1 (cfg1.grid.coords ⟨(0 + 1) - 1, Nat.lt_of_le_of_lt (Nat.sub_le _ _) h⟩) = 1#1 from this]; rfl
    rw [hi]
    show (dat1 m c).kept 8 _ d = _
    unfold Dat.kept
    rw [Pipeline.fill_of_clip_none (cfg := cfg1) 8 _ (fun _ => rfl) d ((dat1 m c).after 8 _), Pipeline.Window.fill_cut, after1_8]
  | succ n ih =>
    intro h d
    rw [(dat1 m c).before_of_pos 8 ⟨n + 1 + 1, h⟩ (Nat.succ_ne_zero _) ((cfg1.win 8).fetch_out rfl _) d]
    have hn : n + 1 + 1 < 60 := lt_of_lt_of_eq h (show cfg1.N = 60 from N_1)
    have hf : (cfg1.win 8).flush ⟨(n + 1 + 1) - 1, Nat.lt_of_le_of_lt (Nat.sub_le _ _) h⟩ = false := by
      rw [Bool.eq_false_iff]; intro hh; have := (flush1_8 _).mp hh; simp at this; omega
    rw [hf, if_neg Bool.false_ne_true]
    unfold Dat.left
    have hi : cfg1.idle 8 (cfg1.grid.coords ⟨(n + 1 + 1) - 1, Nat.lt_of_le_of_lt (Nat.sub_le _ _) h⟩) = true := by
      show (!(k1_cond1 _ == 1#1)) = true
      have := (not_congr (hcond1 ⟨(n + 1 + 1) - 1, Nat.lt_of_le_of_lt (Nat.sub_le _ _) h⟩)).mpr (by simp; omega)
      simpa using this
    rw [hi]
    exact ih (Nat.lt_of_succ_lt h) d

/-- What the body is called with at point `t`, the windows one by one, -/
def bodyPre1 (c : Dev nD) (t : Fin cfg1.N) : sProp 𝕄 :=
  iprop((dat1 m c).Φ t.castSucc ∗ (dat1 m c).owesAt () t.castSucc
    ∗ (∃ d, owns (c : Thread nD τ) (ms1_0 t) fullShare ((dat1 m c).before 0 t d))
    ∗ (∃ d, owns (c : Thread nD τ) (ms1_1 t) fullShare ((dat1 m c).before 1 t d))
    ∗ (∃ d, owns (c : Thread nD τ) (ms1_2 t) fullShare ((dat1 m c).before 2 t d))
    ∗ (∃ d, owns (c : Thread nD τ) (ms1_3 t) fullShare ((dat1 m c).before 3 t d))
    ∗ (∃ d, owns (c : Thread nD τ) (ms1_4 t) fullShare ((dat1 m c).before 4 t d))
    ∗ (∃ d, owns (c : Thread nD τ) (ms1_5 t) fullShare ((dat1 m c).before 5 t d))
    ∗ (∃ d, owns (c : Thread nD τ) (ms1_6 t) fullShare ((dat1 m c).before 6 t d))
    ∗ (∃ d, owns (c : Thread nD τ) (ms1_7 t) fullShare ((dat1 m c).before 7 t d))
    ∗ (∃ d, owns (c : Thread nD τ) (ms1_8 t) fullShare ((dat1 m c).before 8 t d)))

/-- and what it returns. -/
def bodyPost1 (c : Dev nD) (t : Fin cfg1.N) : sProp 𝕄 :=
  iprop((dat1 m c).Φ t.succ ∗ (dat1 m c).owesAt () t.succ
    ∗ (dat1 m c).leavesExact 0 t
    ∗ (dat1 m c).leavesExact 1 t
    ∗ (dat1 m c).leavesExact 2 t
    ∗ (dat1 m c).leavesExact 3 t
    ∗ (dat1 m c).leavesExact 4 t
    ∗ (dat1 m c).leavesExact 5 t
    ∗ (dat1 m c).leavesExact 6 t
    ∗ (dat1 m c).leavesExact 7 t
    ∗ (dat1 m c).leavesExact 8 t)

set_option maxHeartbeats 4000000 in
/-- The body at the first point: the first part, then the codes. -/
theorem sound_first (c : Dev nD) :
    bodyPre1 m c pt0 ⊢ wp frame (wpE (defs₀ (F := F)) Variants.none c none) Set.univ (bodyAt1 pt0) (fun _ => bodyPost1 m c pt0) := by
  unfold bodyPre1 bodyPost1 bodyAt1
  simp only [before1_0, before1_1, before1_2, before1_3, before1_4, before1_5, before1_6]
  rw [show (dat1 m c).Φ pt0.succ = iprop(stgRest c ∗ owns (c : Thread nD τ) scA fullShare (outA m c) ∗ owns (c : Thread nD τ) scB fullShare (outB m c) ∗ owns (c : Thread nD τ) scI fullShare (outI m c) ∗ ∃ r, prngReg c r) from by
      dsimp only [dat1]; unfold Phi1; rw [if_neg (by rw [Fin.val_succ]; exact Nat.succ_ne_zero _)],
    show (dat1 m c).owesAt () pt0.succ = (dat1 m c).owesAt () pt0.castSucc from rfl,
    show (dat1 m c).Φ pt0.castSucc = Pipeline.ΦA spec1 c from by
      dsimp only [dat1]; unfold Phi1; rw [if_pos (by rfl)]]
  rw [show (dat1 m c).leavesExact 8 pt0 = owns (c : Thread nD τ) (ms1_8 pt0) fullShare ((dat1 m c).after 8 pt0) from by
    unfold Dat.leavesExact
    rw [show cfg1.idle 8 (cfg1.grid.coords pt0) = false from by
      show (!(k1_cond1 (grid1.coords pt0) == 1#1)) = false
      rw [hcond_pt0]; rfl], after1_8]
  rw [show (dat1 m c).leavesExact 0 pt0 = owns (c : Thread nD τ) (ms1_0 pt0) fullShare ((dat1 m c).after 0 pt0) from rfl, after1_0]
  rw [show (dat1 m c).leavesExact 1 pt0 = owns (c : Thread nD τ) (ms1_1 pt0) fullShare ((dat1 m c).after 1 pt0) from rfl, after1_1]
  rw [show (dat1 m c).leavesExact 2 pt0 = owns (c : Thread nD τ) (ms1_2 pt0) fullShare ((dat1 m c).after 2 pt0) from rfl, after1_2]
  rw [show (dat1 m c).leavesExact 3 pt0 = owns (c : Thread nD τ) (ms1_3 pt0) fullShare ((dat1 m c).after 3 pt0) from rfl, after1_3]
  rw [show (dat1 m c).leavesExact 4 pt0 = owns (c : Thread nD τ) (ms1_4 pt0) fullShare ((dat1 m c).after 4 pt0) from rfl, after1_4]
  rw [show (dat1 m c).leavesExact 5 pt0 = owns (c : Thread nD τ) (ms1_5 pt0) fullShare ((dat1 m c).after 5 pt0) from rfl, after1_5]
  rw [show (dat1 m c).leavesExact 6 pt0 = owns (c : Thread nD τ) (ms1_6 pt0) fullShare ((dat1 m c).after 6 pt0) from rfl, after1_6]
  rw [show (dat1 m c).leavesExact 7 pt0 = owns (c : Thread nD τ) (ms1_7 pt0) fullShare ((dat1 m c).after 7 pt0) from rfl, after1_7]
  rw [body_first (h := hcond_pt0), wp_bind]
  refine (sep_mono (Phi1_zero c) .rfl).trans ?_
  iintro ⟨⟨HR, HA, HB, HI, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((firstRun c (grid1.coords pt0) (ms1_0 pt0) (hs1_0 pt0) (ms1_1 pt0) (hs1_1 pt0) (ms1_2 pt0) (hs1_2 pt0) (ms1_3 pt0) (hs1_3 pt0) (ms1_4 pt0) (hs1_4 pt0) (ms1_5 pt0) (hs1_5 pt0) (ms1_6 pt0) (hs1_6 pt0) (ms1_7 pt0) (hs1_7 pt0) (ms1_8 pt0) (hs1_8 pt0) scA (Memref.isWhole_whole _) scB (Memref.isWhole_whole _) scI (Memref.isWhole_whole _) (iblk1 m c 1 pt0) (iblk1 m c 2 pt0) (iblk1 m c 3 pt0) (iblk1 m c 4 pt0) (iblk1 m c 5 pt0) (iblk1 m c 6 pt0)).2.2.2.2 Set.univ _)
  isplitl [H1]; · iexact H1
  isplitl [H2]; · iexact H2
  isplitl [H3]; · iexact H3
  isplitl [H4]; · iexact H4
  isplitl [H5]; · iexact H5
  isplitl [H6]; · iexact H6
  isplitl [H8]; · iexists _; iexact H8
  isplitl [HA]; · iexact HA
  isplitl [HB]; · iexact HB
  isplitl [HI]; · iexact HI
  iintro ⟨H1, H2, H3, H4, H5, H6, ⟨%e8, H8⟩, ⟨%eA, HA⟩, ⟨%eB, HB⟩, ⟨%eI, HI⟩⟩
  iapply ((everyRun c (grid1.coords pt0) (ms1_0 pt0) (hs1_0 pt0) (ms1_1 pt0) (hs1_1 pt0) (ms1_2 pt0) (hs1_2 pt0) (ms1_3 pt0) (hs1_3 pt0) (ms1_4 pt0) (hs1_4 pt0) (ms1_5 pt0) (hs1_5 pt0) (ms1_6 pt0) (hs1_6 pt0) (ms1_7 pt0) (hs1_7 pt0) (ms1_8 pt0) (hs1_8 pt0) scA (Memref.isWhole_whole _) scB (Memref.isWhole_whole _) scI (Memref.isWhole_whole _) (iblk1 m c 0 pt0) (outA m c) (outB m c) (outI m c)).2 Set.univ _)
  isplitl [H0]; · iexact H0
  isplitl [H7]; · iexists _; iexact H7
  isplitl [HA]
  · unfold owns; iexists _; isplitr
    swap; · iexact HA
    ipureintro; exact View.read_writes_of_cover _ _ _ _ _ (coverF_A c _ _ _ _ _ _ _ _ _ _ _ _ _ _ _ _ _ _ _ _ _ _ _ _ _  _ _ _ _ _ _)
  isplitl [HB]
  · unfold owns; iexists _; isplitr
    swap; · iexact HB
    ipureintro; exact View.read_writes_of_cover _ _ _ _ _ (coverF_B c _ _ _ _ _ _ _ _ _ _ _ _ _ _ _ _ _ _ _ _ _ _ _ _ _  _ _ _ _ _ _)
  isplitl [HI]
  · unfold owns; iexists _; isplitr
    swap; · iexact HI
    ipureintro; exact View.read_writes_of_cover _ _ _ _ _ (coverF_I c _ _ _ _ _ _ _ _ _ _ _ _ _ _ _ _ _ _ _ _ _ _ _ _ _  _ _ _ _ _ _)
  iintro ⟨H0, ⟨%e7, H7⟩, HA, HB, HI⟩
  isplitl [HR HA HB HI Hg]
  · isplitl [HR]; · iexact HR
    isplitl [HA]; · iexact HA
    isplitl [HB]; · iexact HB
    isplitl [HI]; · iexact HI
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (coverE c _ _ _ _ _ _ _ _ _ _ _ _ _ _ _ _ _ _ _ _ _ _ _ _ _  _ _ _ _)
  unfold owns; iexists _; isplitr
  swap; · iexact H8
  ipureintro; exact View.read_writes_of_cover _ _ _ _ _ (coverF_8 c _ _ _ _ _ _ _ _ _ _ _ _ _ _ _ _ _ _ _ _ _ _ _ _ _  _ _ _ _ _ _)

set_option maxHeartbeats 4000000 in
/-- The body at a later point: the codes. -/
theorem sound_later (c : Dev nD) (t : Fin cfg1.N) (ht : t.val ≠ 0) :
    bodyPre1 m c t ⊢ wp frame (wpE (defs₀ (F := F)) Variants.none c none) Set.univ (bodyAt1 t) (fun _ => bodyPost1 m c t) := by
  have hN : t.val < 60 := lt_of_lt_of_eq t.isLt (show cfg1.N = 60 from N_1)
  have hc : ¬ k1_cond1 (grid1.coords t) = 1#1 := fun h => ht (by have := (hcond1 t).mp h; omega)
  have hb8 : ∀ d, (dat1 m c).before 8 t d = outS m c := by
    obtain ⟨n, hn⟩ := t
    obtain _ | n := n
    · exact absurd rfl ht
    · exact before1_8 m c n hn
  unfold bodyPre1 bodyPost1 bodyAt1
  simp only [before1_0, before1_1, before1_2, before1_3, before1_4, before1_5, before1_6, hb8]
  rw [show (dat1 m c).Φ t.succ = iprop(stgRest c ∗ owns (c : Thread nD τ) scA fullShare (outA m c) ∗ owns (c : Thread nD τ) scB fullShare (outB m c) ∗ owns (c : Thread nD τ) scI fullShare (outI m c) ∗ ∃ r, prngReg c r) from by
      dsimp only [dat1]; unfold Phi1; rw [if_neg (by rw [Fin.val_succ]; exact Nat.succ_ne_zero _)],
    show (dat1 m c).owesAt () t.succ = (dat1 m c).owesAt () t.castSucc from rfl,
    show (dat1 m c).Φ t.castSucc = iprop(stgRest c ∗ owns (c : Thread nD τ) scA fullShare (outA m c) ∗ owns (c : Thread nD τ) scB fullShare (outB m c) ∗ owns (c : Thread nD τ) scI fullShare (outI m c) ∗ ∃ r, prngReg c r) from by
      dsimp only [dat1]; unfold Phi1; rw [if_neg (by rw [Fin.val_castSucc]; exact ht)]]
  have h8 : (owns (c : Thread nD τ) (ms1_8 t) fullShare (outS m c) : sProp 𝕄) ⊢ (dat1 m c).leavesExact 8 t := by
    have hi : cfg1.idle 8 (cfg1.grid.coords t) = true := by
      show (!(k1_cond1 (grid1.coords t) == 1#1)) = true
      simpa using hc
    cases hf : (cfg1.win 8).flush t
    · rw [(dat1 m c).leavesExact_idle 8 t hi hf]
      simp only [hb8]
      iintro H
      iexists (outS m c); iexact H
    · unfold Dat.leavesExact; rw [hi, hf]; simp only [after1_8]; exact .rfl
  rw [show (dat1 m c).leavesExact 0 t = owns (c : Thread nD τ) (ms1_0 t) fullShare ((dat1 m c).after 0 t) from rfl, after1_0]
  rw [show (dat1 m c).leavesExact 1 t = owns (c : Thread nD τ) (ms1_1 t) fullShare ((dat1 m c).after 1 t) from rfl, after1_1]
  rw [show (dat1 m c).leavesExact 2 t = owns (c : Thread nD τ) (ms1_2 t) fullShare ((dat1 m c).after 2 t) from rfl, after1_2]
  rw [show (dat1 m c).leavesExact 3 t = owns (c : Thread nD τ) (ms1_3 t) fullShare ((dat1 m c).after 3 t) from rfl, after1_3]
  rw [show (dat1 m c).leavesExact 4 t = owns (c : Thread nD τ) (ms1_4 t) fullShare ((dat1 m c).after 4 t) from rfl, after1_4]
  rw [show (dat1 m c).leavesExact 5 t = owns (c : Thread nD τ) (ms1_5 t) fullShare ((dat1 m c).after 5 t) from rfl, after1_5]
  rw [show (dat1 m c).leavesExact 6 t = owns (c : Thread nD τ) (ms1_6 t) fullShare ((dat1 m c).after 6 t) from rfl, after1_6]
  rw [show (dat1 m c).leavesExact 7 t = owns (c : Thread nD τ) (ms1_7 t) fullShare ((dat1 m c).after 7 t) from rfl, after1_7]
  rw [body_later (h := hc)]
  iintro ⟨⟨HR, HA, HB, HI, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((everyRun c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scA (Memref.isWhole_whole _) scB (Memref.isWhole_whole _) scI (Memref.isWhole_whole _) (iblk1 m c 0 t) (outA m c) (outB m c) (outI m c)).2 Set.univ _)
  isplitl [H0]; · iexact H0
  isplitl [H7]; · iexists _; iexact H7
  isplitl [HA]; · iexact HA
  isplitl [HB]; · iexact HB
  isplitl [HI]; · iexact HI
  iintro ⟨H0, ⟨%e7, H7⟩, HA, HB, HI⟩
  isplitl [HR HA HB HI Hg]
  · isplitl [HR]; · iexact HR
    isplitl [HA]; · iexact HA
    isplitl [HB]; · iexact HB
    isplitl [HI]; · iexact HI
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (coverE c _ _ _ _ _ _ _ _ _ _ _ _ _ _ _ _ _ _ _ _ _ _ _ _ _  _ _ _ _)
  iapply h8; iexact H8

theorem defs₀_row1 (t : Fin cfg1.N) :
    defs₀ (F := F) .tc cfg1.body (cfg1.bodyArgs t (cfg1.slots t)) = bodyAt1 t := by
  unfold defs₀; rw [Defs.onTc_tc]

/-- The body obligation at every point. -/
theorem body_obligation1 (c : Dev nD) : BodyObligation (dat1 (F := F) m c) (defs₀ (F := F)) Variants.none () Set.univ := fun t => by
  rw [bigSep_W1, bigSep_W1, defs₀_row1]
  refine triple_restated (P := bodyPre1 m c t) (Q := fun _ => bodyPost1 m c t) ?_ rfl .rfl fun _ => .rfl
  by_cases ht : t.val = 0
  · obtain rfl : t = pt0 := Fin.ext ht
    exact sound_first m c
  · exact sound_later m c t ht

end Cert.Kernel.Two

end
-- ==== Proof.FRun.lean ====
/- The whole run: the two launches between the host operations, every buffer's contents at the end. -/
module

public import proofs.«01_k».proof.Proof.FRegion0
public import proofs.«01_k».proof.Proof.FRegion1
public import proofs.«01_k».proof.Proof.Gen.Kernel.Regions
public import Idealize.ShloMosaic.Lib.Pipeline.RegionArraysS
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel.Two

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)

variable {F : FTy → Type} [FloatOps F]

local notation "𝕄" => MT nD τ sig Unit (Elt F) ℕ (UR sig nD τ) ℕ

variable (m : (ℓ : Loc nD τ sig) → Buf (Elt F) ℓ)

/-! ## The proof data of both launches -/

/-- The unscoped buffers after the second launch: its two outputs at what its grid steps wrote back. -/
def W4 (c : Dev nD) : Valuation τ sig (Elt F) :=
  Function.update (Function.update (E1 m c) main_v6_0 ((dat1 m c).arrAt 7 cfg1.N)) main_v6_1 ((dat1 m c).arrAt 8 cfg1.N)

/-- What the launches leave. -/
def outs : Outs (F := F) := fun J r c => match J with
  | 2 => W2 m c r
  | _ => W4 m c r

def pdats (p : Fin 2) (c : Dev nD) : Dat τ (Elt F) Unit ℕ (UR sig nD τ) ℕ (cfgs p) c := match p with
  | ⟨0, _⟩ => dat0 m c
  | ⟨1, _⟩ => dat1 m c

theorem outs_two (r : Ref sig .tc) (c : Dev nD) : outs m 2 r c = W2 m c r := rfl
theorem outs_four (r : Ref sig .tc) (c : Dev nD) : outs m 4 r c = W4 m c r := rfl
theorem outs0_two (r : Ref sig .tc) (c : Dev nD) : outs0 m 2 r c = W2 m c r := rfl

theorem V3_outs (c : Dev nD) : V3 m (outs m) c = E1 m c := by
  have h : V2 m (outs m) c = V2 m (outs0 m) c := by
    dsimp only [V2]
    rw [outs_two, outs_two, outs_two, outs_two, outs0_two, outs0_two, outs0_two, outs0_two]
  exact congrArg (StableHlo.after hostOps1) h

theorem V4_off (c : Dev nD) (r : Ref sig .tc) (h : r ∉ ([main_v6_0, main_v6_1] : List (Ref sig .tc))) : V4 m (outs m) c r = E1 m c r :=
  (V4_of m (outs m) c r h).trans (congrFun (V3_outs m c) _)

theorem W2_0 (c : Dev nD) : W2 m c main_v3_0 = (dat0 m c).arrAt 2 cfg0.N := by
  unfold W2
  exact (Function.update_of_ne (StableHlo.devRef_ne_of_ne (by decide) : (Proc.devRef .tc main_v3_0 : DevRef τ sig) ≠ Proc.devRef .tc main_v3_3) _ _).trans <| (Function.update_of_ne (StableHlo.devRef_ne_of_ne (by decide) : (Proc.devRef .tc main_v3_0 : DevRef τ sig) ≠ Proc.devRef .tc main_v3_2) _ _).trans <| (Function.update_of_ne (StableHlo.devRef_ne_of_ne (by decide) : (Proc.devRef .tc main_v3_0 : DevRef τ sig) ≠ Proc.devRef .tc main_v3_1) _ _).trans <| Function.update_self _ _ _
theorem V2_0 (c : Dev nD) : V2 m (outs m) c main_v3_0 = (dat0 m c).arrAt 2 cfg0.N := by
  refine Eq.trans ?_ ((outs_two m main_v3_0 c).trans (W2_0 m c))
  exact (Function.update_of_ne (StableHlo.devRef_ne_of_ne (by decide) : (Proc.devRef .tc main_v3_0 : DevRef τ sig) ≠ Proc.devRef .tc main_v3_3) _ _).trans <| (Function.update_of_ne (StableHlo.devRef_ne_of_ne (by decide) : (Proc.devRef .tc main_v3_0 : DevRef τ sig) ≠ Proc.devRef .tc main_v3_2) _ _).trans <| (Function.update_of_ne (StableHlo.devRef_ne_of_ne (by decide) : (Proc.devRef .tc main_v3_0 : DevRef τ sig) ≠ Proc.devRef .tc main_v3_1) _ _).trans <| Function.update_self _ _ _
theorem W2_1 (c : Dev nD) : W2 m c main_v3_1 = (dat0 m c).arrAt 3 cfg0.N := by
  unfold W2
  exact (Function.update_of_ne (StableHlo.devRef_ne_of_ne (by decide) : (Proc.devRef .tc main_v3_1 : DevRef τ sig) ≠ Proc.devRef .tc main_v3_3) _ _).trans <| (Function.update_of_ne (StableHlo.devRef_ne_of_ne (by decide) : (Proc.devRef .tc main_v3_1 : DevRef τ sig) ≠ Proc.devRef .tc main_v3_2) _ _).trans <| Function.update_self _ _ _
theorem V2_1 (c : Dev nD) : V2 m (outs m) c main_v3_1 = (dat0 m c).arrAt 3 cfg0.N := by
  refine Eq.trans ?_ ((outs_two m main_v3_1 c).trans (W2_1 m c))
  exact (Function.update_of_ne (StableHlo.devRef_ne_of_ne (by decide) : (Proc.devRef .tc main_v3_1 : DevRef τ sig) ≠ Proc.devRef .tc main_v3_3) _ _).trans <| (Function.update_of_ne (StableHlo.devRef_ne_of_ne (by decide) : (Proc.devRef .tc main_v3_1 : DevRef τ sig) ≠ Proc.devRef .tc main_v3_2) _ _).trans <| Function.update_self _ _ _
theorem W2_2 (c : Dev nD) : W2 m c main_v3_2 = (dat0 m c).arrAt 4 cfg0.N := by
  unfold W2
  exact (Function.update_of_ne (StableHlo.devRef_ne_of_ne (by decide) : (Proc.devRef .tc main_v3_2 : DevRef τ sig) ≠ Proc.devRef .tc main_v3_3) _ _).trans <| Function.update_self _ _ _
theorem V2_2 (c : Dev nD) : V2 m (outs m) c main_v3_2 = (dat0 m c).arrAt 4 cfg0.N := by
  refine Eq.trans ?_ ((outs_two m main_v3_2 c).trans (W2_2 m c))
  exact (Function.update_of_ne (StableHlo.devRef_ne_of_ne (by decide) : (Proc.devRef .tc main_v3_2 : DevRef τ sig) ≠ Proc.devRef .tc main_v3_3) _ _).trans <| Function.update_self _ _ _
theorem W2_3 (c : Dev nD) : W2 m c main_v3_3 = (dat0 m c).arrAt 5 cfg0.N := by
  unfold W2
  exact Function.update_self _ _ _
theorem V2_3 (c : Dev nD) : V2 m (outs m) c main_v3_3 = (dat0 m c).arrAt 5 cfg0.N := by
  refine Eq.trans ?_ ((outs_two m main_v3_3 c).trans (W2_3 m c))
  exact Function.update_self _ _ _
theorem W4_0 (c : Dev nD) : W4 m c main_v6_0 = (dat1 m c).arrAt 7 cfg1.N := by
  unfold W4
  exact (Function.update_of_ne (StableHlo.devRef_ne_of_ne (by decide) : (Proc.devRef .tc main_v6_0 : DevRef τ sig) ≠ Proc.devRef .tc main_v6_1) _ _).trans <| Function.update_self _ _ _
theorem V4_0 (c : Dev nD) : V4 m (outs m) c main_v6_0 = (dat1 m c).arrAt 7 cfg1.N := by
  refine Eq.trans ?_ ((outs_four m main_v6_0 c).trans (W4_0 m c))
  exact (Function.update_of_ne (StableHlo.devRef_ne_of_ne (by decide) : (Proc.devRef .tc main_v6_0 : DevRef τ sig) ≠ Proc.devRef .tc main_v6_1) _ _).trans <| Function.update_self _ _ _
theorem W4_1 (c : Dev nD) : W4 m c main_v6_1 = (dat1 m c).arrAt 8 cfg1.N := by
  unfold W4
  exact Function.update_self _ _ _
theorem V4_1 (c : Dev nD) : V4 m (outs m) c main_v6_1 = (dat1 m c).arrAt 8 cfg1.N := by
  refine Eq.trans ?_ ((outs_four m main_v6_1 c).trans (W4_1 m c))
  exact Function.update_self _ _ _

theorem after0 (c : Dev nD) (b : DevRef τ sig) (hb : b ∈ Pipeline.ucRefs τ sig) :
    Pipeline.afterRegion (dat0 m c) (V1 m c) b = V2 m (outs m) c b := by
  obtain ⟨hb1, -⟩ := Finset.mem_filter.mp hb
  obtain ⟨r, -, rfl⟩ := Finset.mem_map.mp hb1
  by_cases hw : ∃ w, Pipeline.arrRef spec0 w = r
  · obtain ⟨w, rfl⟩ := hw
    refine (Pipeline.afterRegion_arr (dat0 m c) (V1 m c) launch0.win.arr_inj w).trans ?_
    match w with
    | ⟨0, _⟩ => exact ((dat0 m c).arrAt_in 0 rfl _).trans ((A_eq0 m c 0).trans (V2_of m (outs m) c _ (by decide)).symm)
    | ⟨1, _⟩ => exact ((dat0 m c).arrAt_in 1 rfl _).trans ((A_eq0 m c 1).trans (V2_of m (outs m) c _ (by decide)).symm)
    | ⟨2, _⟩ => exact (V2_0 m c).symm
    | ⟨3, _⟩ => exact (V2_1 m c).symm
    | ⟨4, _⟩ => exact (V2_2 m c).symm
    | ⟨5, _⟩ => exact (V2_3 m c).symm
  · refine (Pipeline.afterRegion_of_not_arr (dat0 m c) (V1 m c) fun w e => hw ⟨w, e.symm⟩).trans (V2_of m (outs m) c r ?_).symm
    intro h
    simp only [List.mem_cons, List.not_mem_nil, or_false] at h
    rcases h with h | h | h | h
    · exact hw ⟨2, h.symm⟩
    · exact hw ⟨3, h.symm⟩
    · exact hw ⟨4, h.symm⟩
    · exact hw ⟨5, h.symm⟩

theorem after1 (c : Dev nD) (b : DevRef τ sig) (hb : b ∈ Pipeline.ucRefs τ sig) :
    Pipeline.afterRegion (dat1 m c) (E1 m c) b = V4 m (outs m) c b := by
  obtain ⟨hb1, -⟩ := Finset.mem_filter.mp hb
  obtain ⟨r, -, rfl⟩ := Finset.mem_map.mp hb1
  by_cases hw : ∃ w, Pipeline.arrRef spec1 w = r
  · obtain ⟨w, rfl⟩ := hw
    refine (Pipeline.afterRegion_arr (dat1 m c) (E1 m c) launch1.win.arr_inj w).trans ?_
    match w with
    | ⟨0, _⟩ => exact ((dat1 m c).arrAt_in 0 rfl _).trans ((A_eq1 m c 0).trans (V4_off m c _ (by decide)).symm)
    | ⟨1, _⟩ => exact ((dat1 m c).arrAt_in 1 rfl _).trans ((A_eq1 m c 1).trans (V4_off m c _ (by decide)).symm)
    | ⟨2, _⟩ => exact ((dat1 m c).arrAt_in 2 rfl _).trans ((A_eq1 m c 2).trans (V4_off m c _ (by decide)).symm)
    | ⟨3, _⟩ => exact ((dat1 m c).arrAt_in 3 rfl _).trans ((A_eq1 m c 3).trans (V4_off m c _ (by decide)).symm)
    | ⟨4, _⟩ => exact ((dat1 m c).arrAt_in 4 rfl _).trans ((A_eq1 m c 4).trans (V4_off m c _ (by decide)).symm)
    | ⟨5, _⟩ => exact ((dat1 m c).arrAt_in 5 rfl _).trans ((A_eq1 m c 5).trans (V4_off m c _ (by decide)).symm)
    | ⟨6, _⟩ => exact ((dat1 m c).arrAt_in 6 rfl _).trans ((A_eq1 m c 6).trans (V4_off m c _ (by decide)).symm)
    | ⟨7, _⟩ => exact (V4_0 m c).symm
    | ⟨8, _⟩ => exact (V4_1 m c).symm
  · refine (Pipeline.afterRegion_of_not_arr (dat1 m c) (E1 m c) fun w e => hw ⟨w, e.symm⟩).trans (V4_off m c r ?_).symm
    intro h
    simp only [List.mem_cons, List.not_mem_nil, or_false] at h
    rcases h with h | h
    · exact hw ⟨7, h.symm⟩
    · exact hw ⟨8, h.symm⟩

/-! ## The launches as segments of the run -/

/-- The staging waits' index is assigned at the TensorCore's cells alone. -/
def Lr : GSem nD τ sig → Finset Unit := fun g => if g.1.2 = .tc then {()} else ∅
def lvr : GSem nD τ sig → Unit → ℕ := fun _ _ => 0
theorem hLr (g : GSem nD τ sig) (h : g.1.2 ≠ .tc) : Lr g = ∅ := if_neg h

theorem cut (p : Fin 2) : Pipeline.LevelCut (pcfgs (F := F)) adm () Lr lvr p (fun _ => (0 : CellTallies nD τ sig Unit)) (fun _ => 0) where
  hι c w s := by unfold Lr; rw [if_pos rfl]; exact Finset.mem_singleton_self _
  hιb _ _ _ := le_rfl
  hD _ _ _ h := absurd h (lt_irrefl _)

/-- The generator's register. -/
abbrev X (c : Dev nD) : sProp 𝕄 := iprop(∃ r, prngReg c r)
/-- What rides beside the buffers through the run. -/
def E (c : Dev nD) : sProp 𝕄 := iprop((∃ Wd, owes (c : Thread nD τ) (0 : CellTallies nD τ sig Unit) Wd) ∗ X c ∗ iprop(emp))

theorem hin1 (c : Dev nD) : iprop(Pipeline.scopedRest spec1 c ∗ X c) ⊢ (dat1 m c).Φ 0 := by
  rw [show (dat1 m c).Φ 0 = Pipeline.ΦA spec1 c from by dsimp only [dat1]; unfold Phi1; rw [if_pos (by rfl)]]
  exact .rfl

theorem howed1 (c : Dev nD) (t) : (pdats m 1 c).owed t = 0 := by show (dat1 m c).owed t = 0; dsimp only [dat1]
theorem hshare1 (c : Dev nD) (w) : (pdats m 1 c).share w = fullShare := by show (dat1 m c).share w = fullShare; exact (dat1 m c).share_full (fun _ => by dsimp only [dat1]) w
theorem hrec1 (c : Dev nD)  : (pdats m 1 c).recorded 0 = Set.univ := by show (dat1 m c).recorded 0 = _; dsimp only [dat1]
theorem hb1 (c : Dev nD) : Pipeline.BodyObligationLoose (pdats m 1 c) defs₀ Variants.none () Set.univ := (body_obligation1 m c).loose

theorem hout1 (c : Dev nD) : (dat1 m c).Φ (Fin.last cfg1.N) ⊢ iprop(Pipeline.scopedRest spec1 c ∗ X c) := by
  rw [show (dat1 m c).Φ (Fin.last cfg1.N) = iprop(stgRest c ∗ owns (c : Thread nD τ) scA fullShare (outA m c) ∗ owns (c : Thread nD τ) scB fullShare (outB m c) ∗ owns (c : Thread nD τ) scI fullShare (outI m c) ∗ ∃ r, prngReg c r) from by
    dsimp only [dat1]; unfold Phi1; rw [if_neg (by rw [Fin.val_last, show cfg1.N = 60 from N_1]; decide)]]
  refine BIBase.Entails.trans ?_ (Phi1_back c)
  iintro ⟨R, A, B, I, G⟩
  isplitl [R]; · iexact R
  isplitl [A]; · iexists _; iexact A
  isplitl [B]; · iexists _; iexact B
  isplitl [I]; · iexists _; iexact I
  iexact G

set_option backward.isDefEq.respectTransparency.types false in
def reg0 : Pipeline.RegionSeg (pcfgs (F := F)) adm (pdats m) () defs₀ Variants.none Lr lvr 0 :=
  Pipeline.RegionSeg.ofHeldIn (pcfgs (F := F)) adm (pdats m) () defs₀ Variants.none Lr lvr 0 (fun _ => 0) (Pipeline.ucRefs τ sig) X X launch0.toP rfl
    (fun c => (body_obligation0 m c).loose) (fun _ _ => rfl) (fun _ => rfl) (fun c => (dat0 m c).share_full fun _ => rfl)
    (fun c => .rfl) (fun c => .rfl) (fun _ => 0) (cut 0) (fun _ => iprop(emp)) (V1 m) (fun c w => A_eq0 m c w)

set_option backward.isDefEq.respectTransparency.types false in
def reg1 : Pipeline.RegionSeg (pcfgs (F := F)) adm (pdats m) () defs₀ Variants.none Lr lvr 1 :=
  Pipeline.RegionSeg.ofHeldIn (pcfgs (F := F)) adm (pdats m) () defs₀ Variants.none Lr lvr 1 (fun _ => 0) (Pipeline.ucRefs τ sig) X X launch1.toP rfl
    (hb1 m) (howed1 m) (hrec1 m) (hshare1 m)
    (fun c => hin1 m c) (fun c => hout1 m c) (fun _ => 0) (cut 1) (fun _ => iprop(emp)) (E1 m) (fun c w => A_eq1 m c w)

set_option backward.isDefEq.respectTransparency.types false in
theorem hpre0_aux (c : Dev nD) : iprop(StableHlo.held (c : Thread nD τ) (Pipeline.ucRefs τ sig) (V1 m c) ∗ ((∃ Wd, owes (c : Thread nD τ) (0 : CellTallies nD τ sig Unit) Wd) ∗ X c ∗ iprop(emp))) ⊢ (reg0 m).pre c := by
  have h := Pipeline.RegionSeg.ofHeldIn_pre (pcs := pcfgs (F := F)) (a := adm) (pdats := pdats m) (ι := ()) (defs₀ := defs₀) (𝒱₀ := Variants.none) (L := Lr) (lv := lvr) (p := 0) (D := fun _ => 0) (S := Pipeline.ucRefs τ sig) (Pipeline.arrRefs_sub_ucRefs _ winFacts0.arr_unscoped) (X := X) (Y := X) (kit := launch0.toP) (hK := rfl)
    (hbody := fun c => (body_obligation0 m c).loose) (howed := fun _ _ => rfl) (hrec := fun _ => rfl) (hshare := fun c => (dat0 m c).share_full fun _ => rfl)
    (hin := fun c => .rfl) (hout := fun c => .rfl) (b := fun _ => 0) (hcut := cut 0) (R := fun _ => iprop(emp)) (W := V1 m) (hW := fun c w => A_eq0 m c w) c
  exact h
set_option backward.isDefEq.respectTransparency.types false in
theorem hpost0_aux (c : Dev nD) : (reg0 m).post c ⊢ iprop(StableHlo.held (c : Thread nD τ) (Pipeline.ucRefs τ sig) (Pipeline.afterRegion (dat0 m c) (V1 m c)) ∗ ((∃ Wd, owes (c : Thread nD τ) (0 : CellTallies nD τ sig Unit) Wd) ∗ X c ∗ iprop(emp))) := by
  have h := Pipeline.RegionSeg.ofHeldIn_post (pcs := pcfgs (F := F)) (a := adm) (pdats := pdats m) (ι := ()) (defs₀ := defs₀) (𝒱₀ := Variants.none) (L := Lr) (lv := lvr) (p := 0) (D := fun _ => 0) (S := Pipeline.ucRefs τ sig) (Pipeline.arrRefs_sub_ucRefs _ winFacts0.arr_unscoped) (X := X) (Y := X) (kit := launch0.toP) (hK := rfl)
    (hbody := fun c => (body_obligation0 m c).loose) (howed := fun _ _ => rfl) (hrec := fun _ => rfl) (hshare := fun c => (dat0 m c).share_full fun _ => rfl)
    (hin := fun c => .rfl) (hout := fun c => .rfl) (b := fun _ => 0) (hcut := cut 0) (R := fun _ => iprop(emp)) (W := V1 m) (hW := fun c w => A_eq0 m c w) c
  exact h
theorem hpre0 (c : Dev nD) : iprop(StableHlo.held (c : Thread nD τ) (Pipeline.ucRefs τ sig) (V1 m c) ∗ E c) ⊢ (reg0 m).pre c := by
  unfold E
  exact hpre0_aux m c
theorem hpost0 (c : Dev nD) : (reg0 m).post c ⊢ iprop(StableHlo.held (c : Thread nD τ) (Pipeline.ucRefs τ sig) (V2 m (outs m) c) ∗ E c) := by
  unfold E
  have h := hpost0_aux m c
  have e : (StableHlo.held (c : Thread nD τ) (Pipeline.ucRefs τ sig) (Pipeline.afterRegion (dat0 m c) (V1 m c)) : sProp 𝕄) = StableHlo.held (c : Thread nD τ) (Pipeline.ucRefs τ sig) (V2 m (outs m) c) :=
    StableHlo.held_congr _ (after0 m c)
  rw [e] at h
  exact h

set_option backward.isDefEq.respectTransparency.types false in
theorem hpre1_aux (c : Dev nD) : iprop(StableHlo.held (c : Thread nD τ) (Pipeline.ucRefs τ sig) (E1 m c) ∗ ((∃ Wd, owes (c : Thread nD τ) (0 : CellTallies nD τ sig Unit) Wd) ∗ X c ∗ iprop(emp))) ⊢ (reg1 m).pre c := by
  have h := Pipeline.RegionSeg.ofHeldIn_pre (pcs := pcfgs (F := F)) (a := adm) (pdats := pdats m) (ι := ()) (defs₀ := defs₀) (𝒱₀ := Variants.none) (L := Lr) (lv := lvr) (p := 1) (D := fun _ => 0) (S := Pipeline.ucRefs τ sig) (Pipeline.arrRefs_sub_ucRefs _ winFacts1.arr_unscoped) (X := X) (Y := X) (kit := launch1.toP) (hK := rfl)
    (hbody := hb1 m) (howed := howed1 m) (hrec := hrec1 m) (hshare := hshare1 m)
    (hin := fun c => hin1 m c) (hout := fun c => hout1 m c) (b := fun _ => 0) (hcut := cut 1) (R := fun _ => iprop(emp)) (W := E1 m) (hW := fun c w => A_eq1 m c w) c
  exact h
set_option backward.isDefEq.respectTransparency.types false in
theorem hpost1_aux (c : Dev nD) : (reg1 m).post c ⊢ iprop(StableHlo.held (c : Thread nD τ) (Pipeline.ucRefs τ sig) (Pipeline.afterRegion (dat1 m c) (E1 m c)) ∗ ((∃ Wd, owes (c : Thread nD τ) (0 : CellTallies nD τ sig Unit) Wd) ∗ X c ∗ iprop(emp))) := by
  have h := Pipeline.RegionSeg.ofHeldIn_post (pcs := pcfgs (F := F)) (a := adm) (pdats := pdats m) (ι := ()) (defs₀ := defs₀) (𝒱₀ := Variants.none) (L := Lr) (lv := lvr) (p := 1) (D := fun _ => 0) (S := Pipeline.ucRefs τ sig) (Pipeline.arrRefs_sub_ucRefs _ winFacts1.arr_unscoped) (X := X) (Y := X) (kit := launch1.toP) (hK := rfl)
    (hbody := hb1 m) (howed := howed1 m) (hrec := hrec1 m) (hshare := hshare1 m)
    (hin := fun c => hin1 m c) (hout := fun c => hout1 m c) (b := fun _ => 0) (hcut := cut 1) (R := fun _ => iprop(emp)) (W := E1 m) (hW := fun c w => A_eq1 m c w) c
  exact h
theorem hpre1 (c : Dev nD) : iprop(StableHlo.held (c : Thread nD τ) (Pipeline.ucRefs τ sig) (V3 m (outs m) c) ∗ E c) ⊢ (reg1 m).pre c := by
  unfold E
  rw [V3_outs]
  exact hpre1_aux m c
theorem hpost1 (c : Dev nD) : (reg1 m).post c ⊢ iprop(StableHlo.held (c : Thread nD τ) (Pipeline.ucRefs τ sig) (V4 m (outs m) c) ∗ E c) := by
  unfold E
  have h := hpost1_aux m c
  have e : (StableHlo.held (c : Thread nD τ) (Pipeline.ucRefs τ sig) (Pipeline.afterRegion (dat1 m c) (E1 m c)) : sProp 𝕄) = StableHlo.held (c : Thread nD τ) (Pipeline.ucRefs τ sig) (V4 m (outs m) c) :=
    StableHlo.held_congr _ (after1 m c)
  rw [e] at h
  exact h

theorem hE2 (c : Dev nD) : E c ⊢ (iprop(∃ W, owes (c : Thread nD τ) (0 : CellTallies nD τ sig Unit) W) : sProp 𝕄) := by
  unfold E
  iintro ⟨H, -⟩
  iexact H

theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp))) ∗ levAts Lr lvr)
      ⊢ (|={Set.univ}=> bigSep Finset.univ (E (F := F)) : sProp 𝕄) := by
  refine Pipeline.initEach Lr lvr fun c => ?_
  iintro ⟨⟨-, HO, -, HP, -⟩, -⟩
  imodintro
  unfold E
  isplitl [HO]; · iexists ∅; iexact HO
  isplitl [HP]; · iexists _; iexact HP
  iempintro

omit [FloatOps F] in
theorem hu₀ : (ownU (initOf (Pipeline.cells cfgs cellOf_inj) (Pipeline.launchToks cfgs cellOf_inj)) : sProp 𝕄) ⊢
    |={Set.univ}=> iprop(BI.own ((emb₁ : Emb _ 𝕄) (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU _ : sProp 𝕄) ⊢ BI.own (emb₁ (initOf (Pipeline.cells cfgs cellOf_inj) (Pipeline.launchToks cfgs cellOf_inj))) from .rfl); iexact Hu
  iapply (show (BI.emp : sProp 𝕄) ⊢ bigSep Finset.univ (fun _ : Dev nD => (BI.emp : sProp 𝕄)) from by rw [BI.bigSep_emp_const])
  iempintro

set_option backward.isDefEq.respectTransparency.types false in
/-- Every weakly fair execution ends, with the arguments unchanged, the two results at the contents computed, and
    every counter at zero. -/
theorem run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v8) = V5 m (outs m) c main_v8
      ∧ r.2.mem ((c.tc : Thread nD τ).loc main_v9) = V5 m (outs m) c main_v9)
      ∧ r.2.sem = fun _ => 0) := by
  refine Pipeline.θ_run_regions_kit_dev_sems (pcfgs (F := F)) adm (pdats m) () cellOf_inj emb₁ defs₀ Variants.none Lr lvr m ρ main
    (segs m (outs m) Variants.none Lr lvr (fun _ => E) () (pdats m) (reg0 m) (reg1 m))
    (fun c Q => by
      rewrite [main_chain c, Seg.run_eq_chain,
        show (segs m (outs m) Variants.none Lr lvr (fun _ => E) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (0 : Dev nD → CellTallies nD τ sig Unit) hLr (fun _ => iprop(emp)) (initOf (Pipeline.cells cfgs cellOf_inj) (Pipeline.launchToks cfgs cellOf_inj)) hu₀
    (T₀ := fun c => iprop(StableHlo.held (c : Thread nD τ) (Pipeline.ucRefs τ sig) (V0 m c) ∗ E c))
    (Tₙ := fun c => StableHlo.held (c : Thread nD τ) (Pipeline.ucRefs τ sig) (V5 m (outs m) c))
    (hch := fun c => ⟨.rfl, hpre0 m c, hpost0 m c, hpre1 m c, hpost1 m c, sep_mono .rfl (hE2 c)⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_v8) = V5 m (outs m) c main_v8 ∧ s.mem ((c.tc : Thread nD τ).loc main_v9) = V5 m (outs m) c main_v9)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ iprop(emp)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V5_main_arg0 m (outs m) c),
        (h (Proc.devRef .tc main_arg1) (Finset.mem_filter.mpr ⟨StableHlo.devRef_mem_tcRefs main_arg1, by decide⟩)).trans (V5_main_arg1 m (outs m) c),
        (h (Proc.devRef .tc main_arg2) (Finset.mem_filter.mpr ⟨StableHlo.devRef_mem_tcRefs main_arg2, by decide⟩)).trans (V5_main_arg2 m (outs m) c),
        h (Proc.devRef .tc main_v8) (Finset.mem_filter.mpr ⟨StableHlo.devRef_mem_tcRefs main_v8, by decide⟩),
        h (Proc.devRef .tc main_v9) (Finset.mem_filter.mpr ⟨StableHlo.devRef_mem_tcRefs main_v9, by decide⟩)⟩
    · iexact HSI

end Cert.Kernel.Two

end
-- ==== Proof.Stats.lean ====
/- What a trip of each row loop of the first launch adds: sums, sums of squares, greatest and least of sixteen tiles. -/
module

public import proofs.«01_k».proof.Proof.Region0
public import Idealize.ShloMosaic.Lib.ValueIdx
public import Idealize.ShloMosaic.Lib.WholeRead
public import Idealize.ShloMosaic.Lib.Pipeline.Value
public import Idealize.ShloMosaic.Lib.Pipeline.ValueKit.Tiles

@[expose] public section

set_option maxRecDepth 16384
set_option maxHeartbeats 1000000

noncomputable section

namespace Cert.KernelIdeal.Two

open Cert.KernelIdeal.Gen
open Idealize.ShloMosaic Idealize.ShloMosaic.TcCoe Idealize.ShloMosaic.Tactic Idealize.ShloMosaic.ValueIdx

/-- The running maximum of `a` and the first `n` values of `f`. -/
def mxU (a : EReal) (f : ℕ → EReal) : ℕ → EReal
  | 0 => a
  | n + 1 => max (mxU a f n) (f n)
/-- The running minimum of `a` and the first `n` values of `f`. -/
def mnU (a : EReal) (f : ℕ → EReal) : ℕ → EReal
  | 0 => a
  | n + 1 => min (mnU a f n) (f n)

theorem mxU_add (a : EReal) (f : ℕ → EReal) (n k : ℕ) : mxU a f (n + k) = mxU (mxU a f n) (fun j => f (n + j)) k := by
  induction k with
  | zero => rfl
  | succ k ih => show max (mxU a f (n + k)) (f (n + k)) = max _ _; rw [ih]
theorem mnU_add (a : EReal) (f : ℕ → EReal) (n k : ℕ) : mnU a f (n + k) = mnU (mnU a f n) (fun j => f (n + j)) k := by
  induction k with
  | zero => rfl
  | succ k ih => show min (mnU a f (n + k)) (f (n + k)) = min _ _; rw [ih]
theorem mxU_congr (a : EReal) (f g : ℕ → EReal) (n : ℕ) (h : ∀ j < n, f j = g j) : mxU a f n = mxU a g n := by
  induction n with
  | zero => rfl
  | succ n ih => show max _ _ = max _ _; rw [ih fun j hj => h j (by omega), h n (by omega)]
theorem mnU_congr (a : EReal) (f g : ℕ → EReal) (n : ℕ) (h : ∀ j < n, f j = g j) : mnU a f n = mnU a g n := by
  induction n with
  | zero => rfl
  | succ n ih => show min _ _ = min _ _; rw [ih fun j hj => h j (by omega), h n (by omega)]
theorem mxU_le (a : EReal) (f : ℕ → EReal) (z : EReal) (n : ℕ) : mxU a f n ≤ z ↔ a ≤ z ∧ ∀ j < n, f j ≤ z := by
  induction n with
  | zero => simp [mxU]
  | succ n ih => show max _ _ ≤ z ↔ _; rw [max_le_iff, ih, Nat.forall_lt_succ_right, and_assoc]
theorem le_mnU (a : EReal) (f : ℕ → EReal) (z : EReal) (n : ℕ) : z ≤ mnU a f n ↔ z ≤ a ∧ ∀ j < n, z ≤ f j := by
  induction n with
  | zero => simp [mnU]
  | succ n ih => show z ≤ min _ _ ↔ _; rw [le_min_iff, ih, Nat.forall_lt_succ_right, and_assoc]

/-- The tile of the block at an offset. -/
def tlD (X : S32x16384.Idx → EReal) (off : Fin 2 → ℕ) : S16x128.Idx → EReal := fun j =>
  X (ix2 (⟨(off 0 + (j 0).val) % 32, Nat.mod_lt _ (by norm_num)⟩ : Fin 32) (⟨(off 1 + (j 1).val) % 16384, Nat.mod_lt _ (by norm_num)⟩ : Fin 16384))

theorem rd_tl (M : Memref sig .tc .vmem S32x16384 .bf16) (h : M.IsWhole) (X : S32x16384.Idx → EReal) (off : Fin 2 → ℕ)
    (inb : ∀ a : Fin 2, off a + (![16, 128] : Fin 2 → ℕ) a ≤ S32x16384.size a) :
    View.readAt (Elt Ideal) M.view (Rect.unit (s := S32x16384) off ![16, 128] inb).toLoadRect (h.unread (Val := Elt Ideal) X) = tlD X off := by
  funext x
  refine (h.readAt_unread (Val := Elt Ideal) X _ x).trans (congrArg X ?_)
  have h0 : off 0 + (x (0 : Fin 2)).val < 32 := by
    have h1 : off 0 + 16 ≤ 32 := inb 0
    have h2 : (x (0 : Fin 2)).val < 16 := (x (0 : Fin 2)).isLt
    omega
  have h1 : off 1 + (x (1 : Fin 2)).val < 16384 := by
    have h1 : off 1 + 128 ≤ 16384 := inb 1
    have h2 : (x (1 : Fin 2)).val < 128 := (x (1 : Fin 2)).isLt
    omega
  funext a; apply Fin.ext
  match a with
  | ⟨0, _⟩ =>
    refine (Rect.idx_unit_val (s := S32x16384) off ![16, 128] inb x (0 : Fin 2)).trans ?_
    exact (Nat.mod_eq_of_lt h0).symm
  | ⟨1, _⟩ =>
    refine (Rect.idx_unit_val (s := S32x16384) off ![16, 128] inb x (1 : Fin 2)).trans ?_
    exact (Nat.mod_eq_of_lt h1).symm

theorem rd_tl' (M : Memref sig .tc .vmem S32x16384 .bf16) (h : M.IsWhole) (X : S32x16384.Idx → EReal) (off : Fin 2 → ℕ)
    (inb : ∀ a : Fin 2, off a + S16x128.size a ≤ S32x16384.size a) :
    View.readAt (Elt Ideal) M.view (Rect.unit (s := S32x16384) off S16x128.size inb).toLoadRect (h.unread (Val := Elt Ideal) X) = tlD X off :=
  rd_tl M h X off inb

theorem mulf_at (a b : FVec Ideal S16x128 .f32) (j : S16x128.Idx) : mulf a b j = (a j : EReal) * b j := rfl
theorem addf_at (a b : FVec Ideal S16x128 .f32) (j : S16x128.Idx) : addf a b j = (a j : EReal) + b j := rfl
theorem maxf_at (a b : FVec Ideal S16x128 .bf16) (j : S16x128.Idx) : maximumf a b j = max (a j : EReal) (b j) := rfl
theorem minf_at (a b : FVec Ideal S16x128 .bf16) (j : S16x128.Idx) : minimumf a b j = min (a j : EReal) (b j) := rfl
theorem extf_at (a : FVec Ideal S16x128 .bf16) (j : S16x128.Idx) : extf .f32 a bitsLt_bf16_f32 j = (a j : EReal) := rfl

section
variable (𝒱 : Variants) (c : Dev nD) (bd : Option 𝒱.V) (i : grid0.Coords) (arg1 : Memref sig .tc .vmem S32x16384 .bf16) (harg1 : arg1.IsWhole) (arg2 : Memref sig .tc .vmem S16x128 .bf16) (harg2 : arg2.IsWhole) (arg3 : Memref sig .tc .vmem S32x128 .f32) (harg3 : arg3.IsWhole) (arg4 : Memref sig .tc .vmem S32x128 .f32) (harg4 : arg4.IsWhole) (arg5 : Memref sig .tc .vmem S32x128 .bf16) (harg5 : arg5.IsWhole) (arg6 : Memref sig .tc .vmem S32x128 .bf16) (harg6 : arg6.IsWhole)
  (v0 : Vec Ideal S16x128 .bf16) (X : S32x16384.Idx → EReal)

/-- Tile `n` of a row of the block, at a lane. -/
def tile (X : S32x16384.Idx → EReal) (r : Fin 32) (l : Fin 128) (n : ℕ) : EReal := X (ix2 r (⟨(128 * n + l.val) % 16384, Nat.mod_lt _ (by norm_num)⟩ : Fin 16384))

theorem off1_eq : ∀ (k : Fin k0_t1_loop.trips) (j : Fin 16), k0_off1 k (BitVec.ofNat 32 (128 * j.val)) (0 : Fin 2) = 0
    ∧ k0_off1 k (BitVec.ofNat 32 (128 * j.val)) (1 : Fin 2) = 128 * (16 * k.val + j.val) := by decide +kernel
theorem off2_eq : ∀ (k : Fin k0_t2_loop.trips) (j : Fin 16), k0_off2 k (BitVec.ofNat 32 (128 * j.val)) (0 : Fin 2) = 16
    ∧ k0_off2 k (BitVec.ofNat 32 (128 * j.val)) (1 : Fin 2) = 128 * (16 * k.val + j.val) := by decide +kernel

theorem tlD_tile (X : S32x16384.Idx → EReal) (off : Fin 2 → ℕ) (r0 n : ℕ) (h : off 0 = r0 ∧ off 1 = 128 * n) (hr : r0 + 16 ≤ 32) (i : Fin 16) (l : Fin 128) :
    tlD X off (ix2 i l) = tile X ⟨r0 + i.val, by have := i.isLt; omega⟩ l n := by
  unfold tlD tile
  have := i.isLt
  refine congrArg X (congrArg₂ (fun a b => ix2 (n0 := 32) (n1 := 16384) a b) (Fin.ext ?_) (Fin.ext ?_))
  · show (off 0 + i.val) % 32 = r0 + i.val
    rw [h.1]; exact Nat.mod_eq_of_lt (by omega)
  · show (off 1 + l.val) % 16384 = (128 * n + l.val) % 16384
    rw [h.2]

/-- One trip over rows 0 to 15. -/
theorem trip1_eq (k : Fin k0_t1_loop.trips) (acc : FVec Ideal S16x128 .f32 × FVec Ideal S16x128 .f32 × FVec Ideal S16x128 .bf16 × FVec Ideal S16x128 .bf16) (p : S16x128.Idx) (hv : v0 p = (1 : EReal)) :
    (tripR_k0_t1 (F := Ideal) 𝒱 c bd i arg1 harg1 arg2 harg2 arg3 harg3 arg4 harg4 arg5 harg5 arg6 harg6 v0 (harg1.unread (Val := Elt Ideal) X) k acc).1 p = (acc.1 p : EReal) + ∑ j ∈ Finset.range 16, tlD X (k0_off1 k (BitVec.ofNat 32 (128 * j))) p
    ∧ (tripR_k0_t1 (F := Ideal) 𝒱 c bd i arg1 harg1 arg2 harg2 arg3 harg3 arg4 harg4 arg5 harg5 arg6 harg6 v0 (harg1.unread (Val := Elt Ideal) X) k acc).2.1 p = (acc.2.1 p : EReal) + ∑ j ∈ Finset.range 16, tlD X (k0_off1 k (BitVec.ofNat 32 (128 * j))) p * tlD X (k0_off1 k (BitVec.ofNat 32 (128 * j))) p
    ∧ (tripR_k0_t1 (F := Ideal) 𝒱 c bd i arg1 harg1 arg2 harg2 arg3 harg3 arg4 harg4 arg5 harg5 arg6 harg6 v0 (harg1.unread (Val := Elt Ideal) X) k acc).2.2.1 p = mxU (acc.2.2.1 p) (fun j => tlD X (k0_off1 k (BitVec.ofNat 32 (128 * j))) p) 16
    ∧ (tripR_k0_t1 (F := Ideal) 𝒱 c bd i arg1 harg1 arg2 harg2 arg3 harg3 arg4 harg4 arg5 harg5 arg6 harg6 v0 (harg1.unread (Val := Elt Ideal) X) k acc).2.2.2 p = mnU (acc.2.2.2 p) (fun j => tlD X (k0_off1 k (BitVec.ofNat 32 (128 * j))) p) 16 := by
  refine ⟨?_, ?_, ?_, ?_⟩ <;>
  · unfold tripR_k0_t1 trip_k0_t1
    dsimp only
    simp only [trip_k0_t1.sl.v22, trip_k0_t1.sl.v26, trip_k0_t1.sl.v27, trip_k0_t1.sl.v28, trip_k0_t1.sl.v29, trip_k0_t1.sl.v30, trip_k0_t1.sl.v31, trip_k0_t1.sl.v35, trip_k0_t1.sl.v36, trip_k0_t1.sl.v37, trip_k0_t1.sl.v38, trip_k0_t1.sl.v39, trip_k0_t1.sl.v40, trip_k0_t1.sl.v41, trip_k0_t1.sl.v42, trip_k0_t1.sl.v46, trip_k0_t1.sl.v47, trip_k0_t1.sl.v48, trip_k0_t1.sl.v49, trip_k0_t1.sl.v50, trip_k0_t1.sl.v51, trip_k0_t1.sl.v52, trip_k0_t1.sl.v53, trip_k0_t1.sl.v57, trip_k0_t1.sl.v58, trip_k0_t1.sl.v59, trip_k0_t1.sl.v60, trip_k0_t1.sl.v61, trip_k0_t1.sl.v62, trip_k0_t1.sl.v63, trip_k0_t1.sl.v64, trip_k0_t1.sl.v68, trip_k0_t1.sl.v69, trip_k0_t1.sl.v70, trip_k0_t1.sl.v71, trip_k0_t1.sl.v72, trip_k0_t1.sl.v73, trip_k0_t1.sl.v74, trip_k0_t1.sl.v75, trip_k0_t1.sl.v79, trip_k0_t1.sl.v80, trip_k0_t1.sl.v81, trip_k0_t1.sl.v82, trip_k0_t1.sl.v83, trip_k0_t1.sl.v84, trip_k0_t1.sl.v85, trip_k0_t1.sl.v86, trip_k0_t1.sl.v90, trip_k0_t1.sl.v91, trip_k0_t1.sl.v92, trip_k0_t1.sl.v93, trip_k0_t1.sl.v94, trip_k0_t1.sl.v95, trip_k0_t1.sl.v96, trip_k0_t1.sl.v97, trip_k0_t1.sl.v101, trip_k0_t1.sl.v102, trip_k0_t1.sl.v103, trip_k0_t1.sl.v104, trip_k0_t1.sl.v105, trip_k0_t1.sl.v106, trip_k0_t1.sl.v107, trip_k0_t1.sl.v108, trip_k0_t1.sl.v112, trip_k0_t1.sl.v113, trip_k0_t1.sl.v114, trip_k0_t1.sl.v115, trip_k0_t1.sl.v116, trip_k0_t1.sl.v117, trip_k0_t1.sl.v118, trip_k0_t1.sl.v119, trip_k0_t1.sl.v123, trip_k0_t1.sl.v124, trip_k0_t1.sl.v125, trip_k0_t1.sl.v126, trip_k0_t1.sl.v127, trip_k0_t1.sl.v128, trip_k0_t1.sl.v129, trip_k0_t1.sl.v130, trip_k0_t1.sl.v134, trip_k0_t1.sl.v135, trip_k0_t1.sl.v136, trip_k0_t1.sl.v137, trip_k0_t1.sl.v138, trip_k0_t1.sl.v139, trip_k0_t1.sl.v140, trip_k0_t1.sl.v141, trip_k0_t1.sl.v145, trip_k0_t1.sl.v146, trip_k0_t1.sl.v147, trip_k0_t1.sl.v148, trip_k0_t1.sl.v149, trip_k0_t1.sl.v150, trip_k0_t1.sl.v151, trip_k0_t1.sl.v152, trip_k0_t1.sl.v156, trip_k0_t1.sl.v157, trip_k0_t1.sl.v158, trip_k0_t1.sl.v159, trip_k0_t1.sl.v160, trip_k0_t1.sl.v161, trip_k0_t1.sl.v162, trip_k0_t1.sl.v163, trip_k0_t1.sl.v167, trip_k0_t1.sl.v168, trip_k0_t1.sl.v169, trip_k0_t1.sl.r, rd_tl, rd_tl', k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, shapeCast_self, mulf_at, addf_at, maxf_at, minf_at, extf_at, hv, mul_one,
      Finset.sum_range_succ, Finset.sum_range_zero, zero_add, Nat.reduceMul, mul_zero, mxU, mnU]
end

section
variable (𝒱 : Variants) (c : Dev nD) (bd : Option 𝒱.V) (i : grid0.Coords) (arg1 : Memref sig .tc .vmem S32x16384 .bf16) (harg1 : arg1.IsWhole) (arg2 : Memref sig .tc .vmem S16x128 .bf16) (harg2 : arg2.IsWhole) (arg3 : Memref sig .tc .vmem S32x128 .f32) (harg3 : arg3.IsWhole) (arg4 : Memref sig .tc .vmem S32x128 .f32) (harg4 : arg4.IsWhole) (arg5 : Memref sig .tc .vmem S32x128 .bf16) (harg5 : arg5.IsWhole) (arg6 : Memref sig .tc .vmem S32x128 .bf16) (harg6 : arg6.IsWhole)
  (v0 : Vec Ideal S16x128 .bf16) (X : S32x16384.Idx → EReal)

/-- One trip over rows 16 to 31. -/
theorem trip2_eq (k : Fin k0_t2_loop.trips) (acc : FVec Ideal S16x128 .f32 × FVec Ideal S16x128 .f32 × FVec Ideal S16x128 .bf16 × FVec Ideal S16x128 .bf16) (p : S16x128.Idx) (hv : v0 p = (1 : EReal)) :
    (tripR_k0_t2 (F := Ideal) 𝒱 c bd i arg1 harg1 arg2 harg2 arg3 harg3 arg4 harg4 arg5 harg5 arg6 harg6 v0 (harg1.unread (Val := Elt Ideal) X) k acc).1 p = (acc.1 p : EReal) + ∑ j ∈ Finset.range 16, tlD X (k0_off2 k (BitVec.ofNat 32 (128 * j))) p
    ∧ (tripR_k0_t2 (F := Ideal) 𝒱 c bd i arg1 harg1 arg2 harg2 arg3 harg3 arg4 harg4 arg5 harg5 arg6 harg6 v0 (harg1.unread (Val := Elt Ideal) X) k acc).2.1 p = (acc.2.1 p : EReal) + ∑ j ∈ Finset.range 16, tlD X (k0_off2 k (BitVec.ofNat 32 (128 * j))) p * tlD X (k0_off2 k (BitVec.ofNat 32 (128 * j))) p
    ∧ (tripR_k0_t2 (F := Ideal) 𝒱 c bd i arg1 harg1 arg2 harg2 arg3 harg3 arg4 harg4 arg5 harg5 arg6 harg6 v0 (harg1.unread (Val := Elt Ideal) X) k acc).2.2.1 p = mxU (acc.2.2.1 p) (fun j => tlD X (k0_off2 k (BitVec.ofNat 32 (128 * j))) p) 16
    ∧ (tripR_k0_t2 (F := Ideal) 𝒱 c bd i arg1 harg1 arg2 harg2 arg3 harg3 arg4 harg4 arg5 harg5 arg6 harg6 v0 (harg1.unread (Val := Elt Ideal) X) k acc).2.2.2 p = mnU (acc.2.2.2 p) (fun j => tlD X (k0_off2 k (BitVec.ofNat 32 (128 * j))) p) 16 := by
  refine ⟨?_, ?_, ?_, ?_⟩ <;>
  · unfold tripR_k0_t2 trip_k0_t2
    dsimp only
    simp only [trip_k0_t2.sl.v22, trip_k0_t2.sl.v26, trip_k0_t2.sl.v27, trip_k0_t2.sl.v28, trip_k0_t2.sl.v29, trip_k0_t2.sl.v30, trip_k0_t2.sl.v31, trip_k0_t2.sl.v35, trip_k0_t2.sl.v36, trip_k0_t2.sl.v37, trip_k0_t2.sl.v38, trip_k0_t2.sl.v39, trip_k0_t2.sl.v40, trip_k0_t2.sl.v41, trip_k0_t2.sl.v42, trip_k0_t2.sl.v46, trip_k0_t2.sl.v47, trip_k0_t2.sl.v48, trip_k0_t2.sl.v49, trip_k0_t2.sl.v50, trip_k0_t2.sl.v51, trip_k0_t2.sl.v52, trip_k0_t2.sl.v53, trip_k0_t2.sl.v57, trip_k0_t2.sl.v58, trip_k0_t2.sl.v59, trip_k0_t2.sl.v60, trip_k0_t2.sl.v61, trip_k0_t2.sl.v62, trip_k0_t2.sl.v63, trip_k0_t2.sl.v64, trip_k0_t2.sl.v68, trip_k0_t2.sl.v69, trip_k0_t2.sl.v70, trip_k0_t2.sl.v71, trip_k0_t2.sl.v72, trip_k0_t2.sl.v73, trip_k0_t2.sl.v74, trip_k0_t2.sl.v75, trip_k0_t2.sl.v79, trip_k0_t2.sl.v80, trip_k0_t2.sl.v81, trip_k0_t2.sl.v82, trip_k0_t2.sl.v83, trip_k0_t2.sl.v84, trip_k0_t2.sl.v85, trip_k0_t2.sl.v86, trip_k0_t2.sl.v90, trip_k0_t2.sl.v91, trip_k0_t2.sl.v92, trip_k0_t2.sl.v93, trip_k0_t2.sl.v94, trip_k0_t2.sl.v95, trip_k0_t2.sl.v96, trip_k0_t2.sl.v97, trip_k0_t2.sl.v101, trip_k0_t2.sl.v102, trip_k0_t2.sl.v103, trip_k0_t2.sl.v104, trip_k0_t2.sl.v105, trip_k0_t2.sl.v106, trip_k0_t2.sl.v107, trip_k0_t2.sl.v108, trip_k0_t2.sl.v112, trip_k0_t2.sl.v113, trip_k0_t2.sl.v114, trip_k0_t2.sl.v115, trip_k0_t2.sl.v116, trip_k0_t2.sl.v117, trip_k0_t2.sl.v118, trip_k0_t2.sl.v119, trip_k0_t2.sl.v123, trip_k0_t2.sl.v124, trip_k0_t2.sl.v125, trip_k0_t2.sl.v126, trip_k0_t2.sl.v127, trip_k0_t2.sl.v128, trip_k0_t2.sl.v129, trip_k0_t2.sl.v130, trip_k0_t2.sl.v134, trip_k0_t2.sl.v135, trip_k0_t2.sl.v136, trip_k0_t2.sl.v137, trip_k0_t2.sl.v138, trip_k0_t2.sl.v139, trip_k0_t2.sl.v140, trip_k0_t2.sl.v141, trip_k0_t2.sl.v145, trip_k0_t2.sl.v146, trip_k0_t2.sl.v147, trip_k0_t2.sl.v148, trip_k0_t2.sl.v149, trip_k0_t2.sl.v150, trip_k0_t2.sl.v151, trip_k0_t2.sl.v152, trip_k0_t2.sl.v156, trip_k0_t2.sl.v157, trip_k0_t2.sl.v158, trip_k0_t2.sl.v159, trip_k0_t2.sl.v160, trip_k0_t2.sl.v161, trip_k0_t2.sl.v162, trip_k0_t2.sl.v163, trip_k0_t2.sl.v167, trip_k0_t2.sl.v168, trip_k0_t2.sl.v169, trip_k0_t2.sl.r, rd_tl, rd_tl', k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, shapeCast_self, mulf_at, addf_at, maxf_at, minf_at, extf_at, hv, mul_one,
      Finset.sum_range_succ, Finset.sum_range_zero, zero_add, Nat.reduceMul, mul_zero, mxU, mnU]
end

section
variable (𝒱 : Variants) (c : Dev nD) (bd : Option 𝒱.V) (i₀ : grid0.Coords) (arg1 : Memref sig .tc .vmem S32x16384 .bf16) (harg1 : arg1.IsWhole) (arg2 : Memref sig .tc .vmem S16x128 .bf16) (harg2 : arg2.IsWhole) (arg3 : Memref sig .tc .vmem S32x128 .f32) (harg3 : arg3.IsWhole) (arg4 : Memref sig .tc .vmem S32x128 .f32) (harg4 : arg4.IsWhole) (arg5 : Memref sig .tc .vmem S32x128 .bf16) (harg5 : arg5.IsWhole) (arg6 : Memref sig .tc .vmem S32x128 .bf16) (harg6 : arg6.IsWhole)
  (v0 : Vec Ideal S16x128 .bf16) (X : S32x16384.Idx → EReal)

/-- The running values before trip `n` over rows 0 to 15. -/
theorem st1_eq (i : Fin 16) (l : Fin 128) (hv : v0 (ix2 i l) = (1 : EReal)) (init : FVec Ideal S16x128 .f32 × FVec Ideal S16x128 .f32 × FVec Ideal S16x128 .bf16 × FVec Ideal S16x128 .bf16) (n : ℕ) (hn : n ≤ 8) :
    (st_k0_t1 (F := Ideal) 𝒱 c bd i₀ arg1 harg1 arg2 harg2 arg3 harg3 arg4 harg4 arg5 harg5 arg6 harg6 v0 (harg1.unread (Val := Elt Ideal) X) init n).1 (ix2 i l) = (init.1 (ix2 i l) : EReal) + ∑ j ∈ Finset.range (16 * n), tile X ⟨0 + i.val, by have := i.isLt; omega⟩ l j
    ∧ (st_k0_t1 (F := Ideal) 𝒱 c bd i₀ arg1 harg1 arg2 harg2 arg3 harg3 arg4 harg4 arg5 harg5 arg6 harg6 v0 (harg1.unread (Val := Elt Ideal) X) init n).2.1 (ix2 i l) = (init.2.1 (ix2 i l) : EReal) + ∑ j ∈ Finset.range (16 * n), tile X ⟨0 + i.val, by have := i.isLt; omega⟩ l j * tile X ⟨0 + i.val, by have := i.isLt; omega⟩ l j
    ∧ (st_k0_t1 (F := Ideal) 𝒱 c bd i₀ arg1 harg1 arg2 harg2 arg3 harg3 arg4 harg4 arg5 harg5 arg6 harg6 v0 (harg1.unread (Val := Elt Ideal) X) init n).2.2.1 (ix2 i l) = mxU (init.2.2.1 (ix2 i l)) (tile X ⟨0 + i.val, by have := i.isLt; omega⟩ l) (16 * n)
    ∧ (st_k0_t1 (F := Ideal) 𝒱 c bd i₀ arg1 harg1 arg2 harg2 arg3 harg3 arg4 harg4 arg5 harg5 arg6 harg6 v0 (harg1.unread (Val := Elt Ideal) X) init n).2.2.2 (ix2 i l) = mnU (init.2.2.2 (ix2 i l)) (tile X ⟨0 + i.val, by have := i.isLt; omega⟩ l) (16 * n) := by
  induction n with
  | zero =>
    rw [st_k0_t1_zero]
    exact ⟨(add_zero _).symm, (add_zero _).symm, rfl, rfl⟩
  | succ n ih =>
    have ht : k0_t1_loop.trips = 8 := by decide +kernel
    obtain ⟨i1, i2, i3, i4⟩ := ih (by omega)
    have e := st_k0_t1_succ (F := Ideal) 𝒱 c bd i₀ arg1 harg1 arg2 harg2 arg3 harg3 arg4 harg4 arg5 harg5 arg6 harg6 v0 (harg1.unread (Val := Elt Ideal) X) init ⟨n, by omega⟩
    obtain ⟨t1, t2, t3, t4⟩ := trip1_eq 𝒱 c bd i₀ arg1 harg1 arg2 harg2 arg3 harg3 arg4 harg4 arg5 harg5 arg6 harg6 v0 X ⟨n, by omega⟩ (st_k0_t1 (F := Ideal) 𝒱 c bd i₀ arg1 harg1 arg2 harg2 arg3 harg3 arg4 harg4 arg5 harg5 arg6 harg6 v0 (harg1.unread (Val := Elt Ideal) X) init n) (ix2 i l) hv
    have ho : ∀ j < 16, tlD X (k0_off1 (⟨n, by omega⟩ : Fin k0_t1_loop.trips) (BitVec.ofNat 32 (128 * j))) (ix2 i l) = tile X ⟨0 + i.val, by have := i.isLt; omega⟩ l (16 * n + j) :=
      fun j hj => tlD_tile X _ 0 (16 * n + j) (off1_eq ⟨n, by omega⟩ ⟨j, hj⟩) (by norm_num) i l
    have hs : 16 * (n + 1) = 16 * n + 16 := by ring
    refine ⟨?_, ?_, ?_, ?_⟩
    · refine ((congrArg (fun s => s.1 (ix2 i l)) e).trans t1).trans ?_
      rw [i1, hs, Finset.sum_range_add, add_assoc]
      exact congrArg _ (congrArg _ (Finset.sum_congr rfl fun j hj => ho j (Finset.mem_range.mp hj)))
    · refine ((congrArg (fun s => s.2.1 (ix2 i l)) e).trans t2).trans ?_
      rw [i2, hs, Finset.sum_range_add, add_assoc]
      exact congrArg _ (congrArg _ (Finset.sum_congr rfl fun j hj => by rw [ho j (Finset.mem_range.mp hj)]))
    · refine ((congrArg (fun s => s.2.2.1 (ix2 i l)) e).trans t3).trans ?_
      rw [i3, hs, mxU_add]
      exact mxU_congr _ _ _ 16 ho
    · refine ((congrArg (fun s => s.2.2.2 (ix2 i l)) e).trans t4).trans ?_
      rw [i4, hs, mnU_add]
      exact mnU_congr _ _ _ 16 ho
end

section
variable (𝒱 : Variants) (c : Dev nD) (bd : Option 𝒱.V) (i₀ : grid0.Coords) (arg1 : Memref sig .tc .vmem S32x16384 .bf16) (harg1 : arg1.IsWhole) (arg2 : Memref sig .tc .vmem S16x128 .bf16) (harg2 : arg2.IsWhole) (arg3 : Memref sig .tc .vmem S32x128 .f32) (harg3 : arg3.IsWhole) (arg4 : Memref sig .tc .vmem S32x128 .f32) (harg4 : arg4.IsWhole) (arg5 : Memref sig .tc .vmem S32x128 .bf16) (harg5 : arg5.IsWhole) (arg6 : Memref sig .tc .vmem S32x128 .bf16) (harg6 : arg6.IsWhole)
  (v0 : Vec Ideal S16x128 .bf16) (X : S32x16384.Idx → EReal)

/-- The running values before trip `n` over rows 16 to 31. -/
theorem st2_eq (i : Fin 16) (l : Fin 128) (hv : v0 (ix2 i l) = (1 : EReal)) (init : FVec Ideal S16x128 .f32 × FVec Ideal S16x128 .f32 × FVec Ideal S16x128 .bf16 × FVec Ideal S16x128 .bf16) (n : ℕ) (hn : n ≤ 8) :
    (st_k0_t2 (F := Ideal) 𝒱 c bd i₀ arg1 harg1 arg2 harg2 arg3 harg3 arg4 harg4 arg5 harg5 arg6 harg6 v0 (harg1.unread (Val := Elt Ideal) X) init n).1 (ix2 i l) = (init.1 (ix2 i l) : EReal) + ∑ j ∈ Finset.range (16 * n), tile X ⟨16 + i.val, by have := i.isLt; omega⟩ l j
    ∧ (st_k0_t2 (F := Ideal) 𝒱 c bd i₀ arg1 harg1 arg2 harg2 arg3 harg3 arg4 harg4 arg5 harg5 arg6 harg6 v0 (harg1.unread (Val := Elt Ideal) X) init n).2.1 (ix2 i l) = (init.2.1 (ix2 i l) : EReal) + ∑ j ∈ Finset.range (16 * n), tile X ⟨16 + i.val, by have := i.isLt; omega⟩ l j * tile X ⟨16 + i.val, by have := i.isLt; omega⟩ l j
    ∧ (st_k0_t2 (F := Ideal) 𝒱 c bd i₀ arg1 harg1 arg2 harg2 arg3 harg3 arg4 harg4 arg5 harg5 arg6 harg6 v0 (harg1.unread (Val := Elt Ideal) X) init n).2.2.1 (ix2 i l) = mxU (init.2.2.1 (ix2 i l)) (tile X ⟨16 + i.val, by have := i.isLt; omega⟩ l) (16 * n)
    ∧ (st_k0_t2 (F := Ideal) 𝒱 c bd i₀ arg1 harg1 arg2 harg2 arg3 harg3 arg4 harg4 arg5 harg5 arg6 harg6 v0 (harg1.unread (Val := Elt Ideal) X) init n).2.2.2 (ix2 i l) = mnU (init.2.2.2 (ix2 i l)) (tile X ⟨16 + i.val, by have := i.isLt; omega⟩ l) (16 * n) := by
  induction n with
  | zero =>
    rw [st_k0_t2_zero]
    exact ⟨(add_zero _).symm, (add_zero _).symm, rfl, rfl⟩
  | succ n ih =>
    have ht : k0_t2_loop.trips = 8 := by decide +kernel
    obtain ⟨i1, i2, i3, i4⟩ := ih (by omega)
    have e := st_k0_t2_succ (F := Ideal) 𝒱 c bd i₀ arg1 harg1 arg2 harg2 arg3 harg3 arg4 harg4 arg5 harg5 arg6 harg6 v0 (harg1.unread (Val := Elt Ideal) X) init ⟨n, by omega⟩
    obtain ⟨t1, t2, t3, t4⟩ := trip2_eq 𝒱 c bd i₀ arg1 harg1 arg2 harg2 arg3 harg3 arg4 harg4 arg5 harg5 arg6 harg6 v0 X ⟨n, by omega⟩ (st_k0_t2 (F := Ideal) 𝒱 c bd i₀ arg1 harg1 arg2 harg2 arg3 harg3 arg4 harg4 arg5 harg5 arg6 harg6 v0 (harg1.unread (Val := Elt Ideal) X) init n) (ix2 i l) hv
    have ho : ∀ j < 16, tlD X (k0_off2 (⟨n, by omega⟩ : Fin k0_t2_loop.trips) (BitVec.ofNat 32 (128 * j))) (ix2 i l) = tile X ⟨16 + i.val, by have := i.isLt; omega⟩ l (16 * n + j) :=
      fun j hj => tlD_tile X _ 16 (16 * n + j) (off2_eq ⟨n, by omega⟩ ⟨j, hj⟩) (by norm_num) i l
    have hs : 16 * (n + 1) = 16 * n + 16 := by ring
    refine ⟨?_, ?_, ?_, ?_⟩
    · refine ((congrArg (fun s => s.1 (ix2 i l)) e).trans t1).trans ?_
      rw [i1, hs, Finset.sum_range_add, add_assoc]
      exact congrArg _ (congrArg _ (Finset.sum_congr rfl fun j hj => ho j (Finset.mem_range.mp hj)))
    · refine ((congrArg (fun s => s.2.1 (ix2 i l)) e).trans t2).trans ?_
      rw [i2, hs, Finset.sum_range_add, add_assoc]
      exact congrArg _ (congrArg _ (Finset.sum_congr rfl fun j hj => by rw [ho j (Finset.mem_range.mp hj)]))
    · refine ((congrArg (fun s => s.2.2.1 (ix2 i l)) e).trans t3).trans ?_
      rw [i3, hs, mxU_add]
      exact mxU_congr _ _ _ 16 ho
    · refine ((congrArg (fun s => s.2.2.2 (ix2 i l)) e).trans t4).trans ?_
      rw [i4, hs, mnU_add]
      exact mnU_congr _ _ _ 16 ho
end

end Cert.KernelIdeal.Two

end
-- ==== Proof.StatsOut.lean ====
/- What a step of the first launch leaves: each row's sums, sums of squares, greatest and least values over the tiles. -/
module

public import proofs.«01_k».proof.Proof.Stats
public import Idealize.ShloMosaic.Lib.WritesUnit
public import Idealize.ShloMosaic.PureOps.Ideal.Laws

@[expose] public section

set_option maxRecDepth 16384
set_option maxHeartbeats 1000000

noncomputable section

namespace Cert.KernelIdeal.Two

open Cert.KernelIdeal.Gen
open Idealize.ShloMosaic Idealize.ShloMosaic.TcCoe Idealize.ShloMosaic.Tactic Idealize.ShloMosaic.ValueIdx

theorem rd_ones (M : Memref sig .tc .vmem S16x128 .bf16) (h : M.IsWhole) (X : S16x128.Idx → Elt Ideal .bf16)
    (inb : ∀ a : Fin 2, (![0, 0] : Fin 2 → ℕ) a + (![16, 128] : Fin 2 → ℕ) a ≤ S16x128.size a) :
    View.readAt (Elt Ideal) M.view (Rect.unit (s := S16x128) ![0, 0] ![16, 128] inb).toLoadRect (h.unread X) = X := by
  funext x
  refine (h.readAt_unread X _ x).trans (congrArg X ?_)
  funext a; apply Fin.ext
  refine (Rect.idx_unit_val (s := S16x128) ![0, 0] ![16, 128] inb x a).trans ?_
  match a with
  | ⟨0, _⟩ => exact Nat.zero_add _
  | ⟨1, _⟩ => exact Nat.zero_add _

theorem trips8 : Scf.trips (0#32) (Scalar.addi 0#32 8#32) 1#32 = 8 := by decide +kernel

/-- Two pieces of sixteen rows read back at a row. -/
theorem read_two {e : EltTy} (v : View sig .tc .vmem S32x128 e) (P0 P1 : S16x128.Idx → Elt Ideal e) (G : Fin 32 → Fin 128 → Elt Ideal e)
    (i1 : ∀ a : Fin 2, (![16, 0] : Fin 2 → ℕ) a + (![16, 128] : Fin 2 → ℕ) a ≤ S32x128.size a)
    (i0 : ∀ a : Fin 2, (![0, 0] : Fin 2 → ℕ) a + (![16, 128] : Fin 2 → ℕ) a ≤ S32x128.size a)
    (h0 : ∀ (i : Fin 16) l, P0 (ix2 i l) = G ⟨0 + i.val, by have := i.isLt; omega⟩ l) (h1 : ∀ (i : Fin 16) l, P1 (ix2 i l) = G ⟨16 + i.val, by have := i.isLt; omega⟩ l)
    (r : Fin 32) (l : Fin 128) :
    View.read (Elt Ideal) v (v.writes (Elt Ideal) v.junk
    [⟨Rect.unit (s := S32x128) ![16, 0] ![16, 128] i1, P1⟩, ⟨Rect.unit (s := S32x128) ![0, 0] ![16, 128] i0, P0⟩]) (ix2 r l) = G r l := by
  have hr := r.isLt
  rcases lt_or_ge r.val 16 with a1 | a1
  · refine (View.read_writes_cons_rows_of_not_mem v _ _ _ _ (ix2 r l) rfl rfl (Or.inl a1)).trans ?_
    refine (View.read_writes_cons_rows_of_mem v _ _ _ _ (ix2 r l) (ix2 (⟨r.val, a1⟩ : Fin 16) l) rfl (Nat.zero_add _).symm rfl).trans ?_
    refine (h0 _ _).trans (congrArg (fun n => G n l) (Fin.ext ?_)); exact Nat.zero_add _
  · refine (View.read_writes_cons_rows_of_mem v _ _ _ _ (ix2 r l) (ix2 (⟨r.val - 16, by omega⟩ : Fin 16) l) rfl (Nat.add_sub_of_le a1).symm rfl).trans ?_
    refine (h1 _ _).trans (congrArg (fun n => G n l) (Fin.ext ?_)); exact Nat.add_sub_of_le a1

theorem first16 (M : Memref sig .tc .vmem S32x16384 .bf16) (h : M.IsWhole) (X : S32x16384.Idx → Elt Ideal .bf16) (i : Fin 16) (l : Fin 128) :
    kernelRun0_A.sl.v13 (F := Ideal) M h X (ix2 i l) = tile X ⟨16 + i.val, by have := i.isLt; omega⟩ l 0 := by
  simp only [kernelRun0_A.sl.v13, shapeCast_self, rd_tl, rd_tl', k0_pay83, k0_pay1, k0_pay82]
  exact tlD_tile X _ 16 0 ⟨rfl, rfl⟩ (by norm_num) i l
theorem first0 (c : Dev nD) (M : Memref sig .tc .vmem S32x16384 .bf16) (h : M.IsWhole) (X : S32x16384.Idx → Elt Ideal .bf16) (i : Fin 16) (l : Fin 128) :
    kernelRun0_A.sl.v4 (F := Ideal) c M h X (ix2 i l) = tile X ⟨0 + i.val, by have := i.isLt; omega⟩ l 0 := by
  simp only [kernelRun0_A.sl.v4, shapeCast_self, rd_tl, rd_tl', k0_pay83, k0_pay1, k0_pay82]
  exact tlD_tile X _ 0 0 ⟨rfl, rfl⟩ (by norm_num) i l
theorem zero16 (p : S16x128.Idx) : kernelRun0_A.sl.v11 (F := Ideal) p = (0 : EReal) := Idealize.ShloMosaic.Ideal.ofBits_zero_f32
theorem zero0 (p : S16x128.Idx) : kernelRun0_A.sl.v2 (F := Ideal) p = (0 : EReal) := Idealize.ShloMosaic.Ideal.ofBits_zero_f32

variable (m : (ℓ : Loc nD τ sig) → Buf (Elt Ideal) ℓ) (c : Dev nD) (t : Fin cfg0.N) (hone : ∀ p : S16x128.Idx, iblk0 (F := Ideal) m c 1 t p = (1 : EReal)) (r : Fin 32) (l : Fin 128)
include hone

/-- The sum over a row's tiles. -/
theorem outsAt0_s : (outsAt0 (F := Ideal) m c t).1 (ix2 r l) = ∑ j ∈ Finset.range 128, tile (iblk0 (F := Ideal) m c 0 t) r l j := by
  unfold outsAt0 out0_A_2 kernelRun0_A
  dsimp only
  simp only [kernelRun0_A.sl.r, trips8]
  refine read_two VO0_2 _ _ (fun r l => ∑ j ∈ Finset.range 128, tile (iblk0 (F := Ideal) m c 0 t) r l j) _ _ (fun i l => ?_) (fun i l => ?_) r l
  · refine (st1_eq Variants.none c none (grid0.coords t) _ _ _ _ _ _ _ _ _ _ _ _ _ _ i l (by rw [rd_ones]; exact hone _) _ 8 le_rfl).1.trans ?_
    dsimp only
    rw [zero0, zero_add]
  · refine (st2_eq Variants.none c none (grid0.coords t) _ _ _ _ _ _ _ _ _ _ _ _ _ _ i l (by rw [rd_ones]; exact hone _) _ 8 le_rfl).1.trans ?_
    dsimp only
    rw [zero16, zero_add]

/-- The sum of squares over a row's tiles. -/
theorem outsAt0_q : (outsAt0 (F := Ideal) m c t).2.1 (ix2 r l) = ∑ j ∈ Finset.range 128, tile (iblk0 (F := Ideal) m c 0 t) r l j * tile (iblk0 (F := Ideal) m c 0 t) r l j := by
  unfold outsAt0 out0_A_3 kernelRun0_A
  dsimp only
  simp only [kernelRun0_A.sl.r, trips8]
  refine read_two VO0_3 _ _ (fun r l => ∑ j ∈ Finset.range 128, tile (iblk0 (F := Ideal) m c 0 t) r l j * tile (iblk0 (F := Ideal) m c 0 t) r l j) _ _ (fun i l => ?_) (fun i l => ?_) r l
  · refine (st1_eq Variants.none c none (grid0.coords t) _ _ _ _ _ _ _ _ _ _ _ _ _ _ i l (by rw [rd_ones]; exact hone _) _ 8 le_rfl).2.1.trans ?_
    dsimp only
    rw [zero0, zero_add]
  · refine (st2_eq Variants.none c none (grid0.coords t) _ _ _ _ _ _ _ _ _ _ _ _ _ _ i l (by rw [rd_ones]; exact hone _) _ 8 le_rfl).2.1.trans ?_
    dsimp only
    rw [zero16, zero_add]

/-- The greatest over a row's tiles. -/
theorem outsAt0_mx : (outsAt0 (F := Ideal) m c t).2.2.1 (ix2 r l) = mxU (tile (iblk0 (F := Ideal) m c 0 t) r l 0) (tile (iblk0 (F := Ideal) m c 0 t) r l) 128 := by
  unfold outsAt0 out0_A_4 kernelRun0_A
  dsimp only
  simp only [kernelRun0_A.sl.r, trips8]
  refine read_two VO0_4 _ _ (fun r l => mxU (tile (iblk0 (F := Ideal) m c 0 t) r l 0) (tile (iblk0 (F := Ideal) m c 0 t) r l) 128) _ _ (fun i l => ?_) (fun i l => ?_) r l
  · refine (st1_eq Variants.none c none (grid0.coords t) _ _ _ _ _ _ _ _ _ _ _ _ _ _ i l (by rw [rd_ones]; exact hone _) _ 8 le_rfl).2.2.1.trans ?_
    dsimp only
    rw [first0]
  · refine (st2_eq Variants.none c none (grid0.coords t) _ _ _ _ _ _ _ _ _ _ _ _ _ _ i l (by rw [rd_ones]; exact hone _) _ 8 le_rfl).2.2.1.trans ?_
    dsimp only
    rw [first16]

/-- The least over a row's tiles. -/
theorem outsAt0_mn : (outsAt0 (F := Ideal) m c t).2.2.2 (ix2 r l) = mnU (tile (iblk0 (F := Ideal) m c 0 t) r l 0) (tile (iblk0 (F := Ideal) m c 0 t) r l) 128 := by
  unfold outsAt0 out0_A_5 kernelRun0_A
  dsimp only
  simp only [kernelRun0_A.sl.r, trips8]
  refine read_two VO0_5 _ _ (fun r l => mnU (tile (iblk0 (F := Ideal) m c 0 t) r l 0) (tile (iblk0 (F := Ideal) m c 0 t) r l) 128) _ _ (fun i l => ?_) (fun i l => ?_) r l
  · refine (st1_eq Variants.none c none (grid0.coords t) _ _ _ _ _ _ _ _ _ _ _ _ _ _ i l (by rw [rd_ones]; exact hone _) _ 8 le_rfl).2.2.2.trans ?_
    dsimp only
    rw [first0]
  · refine (st2_eq Variants.none c none (grid0.coords t) _ _ _ _ _ _ _ _ _ _ _ _ _ _ i l (by rw [rd_ones]; exact hone _) _ 8 le_rfl).2.2.2.trans ?_
    dsimp only
    rw [first16]

end Cert.KernelIdeal.Two

end
-- ==== Proof.Units.lean ====
/- The per-channel scale and shift of one half of a batch entry (480 rows): the four unrolled copies of the code are the
   same function of the rows they read, and its value at an index. -/
module

public import proofs.«01_k».proof.Proof.Gen.KernelIdeal.Skeleton
public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.PureOps.Ideal.Laws

@[expose] public section

set_option maxRecDepth 16384

noncomputable section

namespace Cert.KernelIdeal.Two

open Cert.KernelIdeal.Gen
open Idealize.ShloMosaic Idealize.ShloMosaic.ValueIdx

/-- One more than zero where two rows are of one group. -/
def ind : FVec Ideal S480x480 .f32 := k1_pay8 k1_pay5 k1_pay6 k1_pay7
/-- The group mean of each row. -/
def uMean (s : FVec Ideal S480x128 .f32) : FVec Ideal S480x128 .f32 := k1_pay24 ind s
/-- The group variance of each row, as the mean of the squares less the square of the mean. -/
def uVar0 (s q : FVec Ideal S480x128 .f32) : FVec Ideal S480x128 .f32 := subf (uMean q) (mulf (uMean s) (uMean s))
/-- The same, not under zero. -/
def uVar (s q : FVec Ideal S480x128 .f32) : FVec Ideal S480x128 .f32 :=
  maximumf (uVar0 s q) (broadcast S480x128 (Scalar.ofBits .f32 0x00000000#32))
/-- The first half of a channel row, one channel to a row. -/
def half0 (g : FVec Ideal S1x960 .f32) : FVec Ideal S480x128 .f32 := k1_pay12 g
/-- The second half of a channel row, one channel to a row. -/
def half1 (g : FVec Ideal S1x960 .f32) : FVec Ideal S480x128 .f32 :=
  extractStridedSlice S480x128 ![480, 0] (transpose S960x128 [1, 0] (broadcastTo S128x960 g broadcasts_S1x960_S128x960)
    transposes_S128x960_p1_0_S960x128) slices_S960x128_o480_0_S480x128
/-- The multiplier of each row. -/
def uA (s q g : FVec Ideal S480x128 .f32) : FVec Ideal S480x128 .f32 := mulf (rsqrt (addf (uVar s q) k1_pay14)) g
/-- The shift of each row. -/
def uB (s q g t : FVec Ideal S480x128 .f32) : FVec Ideal S480x128 .f32 := subf t (mulf (uMean s) (uA s q g))
/-- v / (1 + e⁻ᵛ), lane by lane. -/
def siluV (v : FVec Ideal S480x128 .f32) : FVec Ideal S480x128 .f32 :=
  mulf v (divf (broadcast S480x128 (Scalar.ofBits .f32 0x3F800000#32))
    (addf (broadcast S480x128 (Scalar.ofBits .f32 0x3F800000#32))
      (exp (subf (broadcast S480x128 (Scalar.ofBits .f32 0x00000000#32)) v))))
/-- The greater of the absolute values at the two ends of each row's range. -/
def uY (a b : FVec Ideal S480x128 .f32) (mx mn : FVec Ideal S480x128 .bf16) : FVec Ideal S480x128 .f32 :=
  maximumf (absf (siluV (addf (mulf (extf .f32 mx bitsLt_bf16_f32) a) b)))
    (absf (siluV (addf (mulf (extf .f32 mn bitsLt_bf16_f32) a) b)))

variable (s q : FVec Ideal S480x128 .f32) (g t : FVec Ideal S1x960 .f32) (mx mn : FVec Ideal S480x128 .bf16)
  (a b : FVec Ideal S480x128 .f32)

theorem half0_eq : half0 g = extractStridedSlice S480x128 ![0, 0] (transpose S960x128 [1, 0] (broadcastTo S128x960 g broadcasts_S1x960_S128x960)
    transposes_S128x960_p1_0_S960x128) slices_S960x128_o0_0_S480x128 := by
  simp only [half0, k1_pay12, shapeCast_self]

theorem p10 : k1_pay10 k1_pay5 k1_pay6 k1_pay7 s = uMean s := by
  simp only [k1_pay10, uMean, k1_pay24, shapeCast_self]; rfl
theorem p11 : k1_pay11 k1_pay5 k1_pay6 k1_pay7 s q = uVar s q := by
  simp only [k1_pay11, p10, uVar, uVar0, uMean, k1_pay24, shapeCast_self]; rfl
theorem p13 : k1_pay13 t = half0 t := by
  simp only [k1_pay13, half0, k1_pay12]
theorem p17 : k1_pay17 (uVar s q) (half0 g) k1_pay14 = uA s q (half0 g) := by
  simp only [k1_pay17, k1_pay15, shapeCast_self]; rfl
theorem p18 : k1_pay18 (uMean s) (uVar s q) (half0 g) (half0 t) k1_pay14 = uB s q (half0 g) (half0 t) := by
  simp only [k1_pay18, k1_pay16, k1_pay15, shapeCast_self]; rfl
theorem p19 : k1_pay19 (uMean s) (uVar s q) (half0 g) (half0 t) k1_pay14 mx mn
    = uY (uA s q (half0 g)) (uB s q (half0 g) (half0 t)) mx mn := by
  simp only [k1_pay19, k1_pay16, k1_pay15, shapeCast_self]; rfl

theorem p23 : k1_pay23 s = s := by simp only [k1_pay23, shapeCast_self]
theorem p25 : k1_pay25 ind s q g = uA s q (half1 g) := by
  simp only [k1_pay25, uA, uVar, uVar0, uMean, k1_pay24, half1, shapeCast_self]; rfl
theorem p26 : k1_pay26 ind s q g t = uB s q (half1 g) (half1 t) := by
  simp only [k1_pay26, p25, shapeCast_self]; rfl
theorem p27 : k1_pay27 ind s q g = uA s q (half1 g) := by
  simp only [k1_pay27, p25, shapeCast_self]
theorem p28 : k1_pay28 a = a := by simp only [k1_pay28, shapeCast_self]
theorem p29 : k1_pay29 a b mx mn = uY a b mx mn := by
  simp only [k1_pay29, shapeCast_self]; rfl

theorem p38 : k1_pay38 ind (k1_pay35 s) (k1_pay36 q) g = uA s q (half0 g) := by
  simp only [k1_pay38, k1_pay37, k1_pay35, k1_pay36, uA, uVar, uVar0, uMean, k1_pay24, half0_eq, shapeCast_self]; rfl
theorem p39 : k1_pay39 ind (k1_pay35 s) (k1_pay36 q) g t = uB s q (half0 g) (half0 t) := by
  simp only [k1_pay39, p38, shapeCast_self]
  simp only [k1_pay37, k1_pay35, uB, uMean, k1_pay24, half0_eq, shapeCast_self]
theorem p40 : k1_pay40 ind (k1_pay35 s) (k1_pay36 q) g = uA s q (half0 g) := by
  simp only [k1_pay40, p38, shapeCast_self]
theorem p41 : k1_pay41 ind (k1_pay35 s) (k1_pay36 q) g t = uB s q (half0 g) (half0 t) := by
  simp only [k1_pay41, p39, shapeCast_self]
theorem p44 : k1_pay44 (uA s q (half0 g)) (uB s q (half0 g) (half0 t)) (k1_pay42 ind (k1_pay35 s) (k1_pay36 q) g t mx) k1_pay43 mn
    = uY (uA s q (half0 g)) (uB s q (half0 g) (half0 t)) mx mn := by
  simp only [k1_pay44, k1_pay42, k1_pay43, p38, p39, shapeCast_self]; rfl

theorem p48 : k1_pay48 ind s = uMean s := by
  simp only [k1_pay48, uMean, k1_pay24, shapeCast_self]
theorem p49 : k1_pay49 ind s q = uVar0 s q := by
  simp only [k1_pay49, p48, uVar0, uMean, k1_pay24, shapeCast_self]
theorem p50 : k1_pay50 (uVar0 s q) g = uA s q (half1 g) := by
  simp only [k1_pay50, uA, half1, shapeCast_self]; rfl
theorem p51 : k1_pay51 (uMean s) (uVar0 s q) g t = uB s q (half1 g) (half1 t) := by
  simp only [k1_pay51, p50, half1, uB, shapeCast_self]
theorem p52 : k1_pay52 (uVar0 s q) g = uA s q (half1 g) := by
  simp only [k1_pay52, p50, shapeCast_self]
theorem p53 : k1_pay53 (uMean s) (uVar0 s q) g t = uB s q (half1 g) (half1 t) := by
  simp only [k1_pay53, p51, shapeCast_self]
theorem p55 : k1_pay55 (uA s q (half1 g)) (uB s q (half1 g) (half1 t)) (k1_pay54 (uMean s) (uVar0 s q) g t mx) mn
    = uY (uA s q (half1 g)) (uB s q (half1 g) (half1 t)) mx mn := by
  simp only [k1_pay55, k1_pay54, p50, p51, shapeCast_self]; rfl

theorem pay5_apply (i j : Fin 480) : k1_pay5 (ix2 i j) = BitVec.ofNat 32 (i.val / 30) := by
  have h : ∀ i : Fin 480, k1_pay5 (ix2 i (0 : Fin 480)) = BitVec.ofNat 32 (i.val / 30) := by decide +kernel
  exact (show k1_pay5 (ix2 i j) = k1_pay5 (ix2 i (0 : Fin 480)) from rfl).trans (h i)

theorem pay67_apply (i j : Fin 480) : select k1_pay7 (subi k1_pay6 (broadcast S480x480 1#32)) k1_pay6 (ix2 i j) = BitVec.ofNat 32 (j.val / 30) := by
  have h : ∀ j : Fin 480, select k1_pay7 (subi k1_pay6 (broadcast S480x480 1#32)) k1_pay6 (ix2 (0 : Fin 480) j) = BitVec.ofNat 32 (j.val / 30) := by decide +kernel
  exact (show _ = select k1_pay7 (subi k1_pay6 (broadcast S480x480 1#32)) k1_pay6 (ix2 (0 : Fin 480) j) from rfl).trans (h j)

theorem ind_apply (i j : Fin 480) : ind (ix2 i j) = if i.val / 30 = j.val / 30 then (1 : EReal) else 0 := by
  have h : ind (ix2 i j) = sitofp (F := Ideal) .f32 (extui 32 (cmpi .eq k1_pay5 (select k1_pay7 (subi k1_pay6 (broadcast S480x480 1#32)) k1_pay6)) natLt_1_32) (ix2 i j) := rfl
  rw [h]
  have h2 : sitofp (F := Ideal) .f32 (extui 32 (cmpi .eq k1_pay5 (select k1_pay7 (subi k1_pay6 (broadcast S480x480 1#32)) k1_pay6)) natLt_1_32) (ix2 i j)
      = (((BitVec.setWidth 32 (BitVec.ofBool (k1_pay5 (ix2 i j) == select k1_pay7 (subi k1_pay6 (broadcast S480x480 1#32)) k1_pay6 (ix2 i j)))).toInt : ℝ) : EReal) := rfl
  rw [h2, pay5_apply, pay67_apply]
  by_cases e : i.val / 30 = j.val / 30
  · simp [e]
  · have : ¬ (BitVec.ofNat 32 (i.val / 30) = BitVec.ofNat 32 (j.val / 30)) := by
      intro h
      apply e
      have h3 := congrArg BitVec.toNat h
      rw [BitVec.toNat_ofNat, BitVec.toNat_ofNat, Nat.mod_eq_of_lt (by omega), Nat.mod_eq_of_lt (by omega)] at h3
      exact h3
    simp [e, beq_eq_false_iff_ne.mpr this]

theorem inv_n_eq : (Named.named κ "inv_n" 0x36088889#32 : Ideal .f32) = ((491520⁻¹ : ℝ) : EReal) :=
  (IdealRules.named_const.statement κ "inv_n" .f32 0x36088889#32 _ rfl).2.2

theorem rowSum_apply (i : Fin 480) (l : Fin 128) : broadcastTo S480x128
          (shapeCast S480x1
            (multiReduction FKind.add [1] S480 s (0#32) reduces_S480x128_S480 (.inl rfl) rfl)
            shapeCasts_S480_S480x1)
          broadcasts_S480x1_S480x128 (ix2 i l) = ∑ l' : Fin 128, s (ix2 i l') := by
  refine (broadcastTo_apply _ _ (ix2 i l) (ix2 i (0 : Fin 1)) fun ax => ?_).trans ?_
  · match ax with
    | ⟨0, _⟩ => rfl
    | ⟨1, _⟩ => rfl
  rw [shapeCast_a_a1_apply]
  refine (Ideal.multiReduction_add_single s _ _ _ _ _).trans (Finset.sum_congr rfl fun k _ => congrArg s ?_)
  funext a; match a with
    | ⟨0, _⟩ => rfl
    | ⟨1, _⟩ => rfl

theorem uMean_apply (i : Fin 480) (l : Fin 128) : uMean s (ix2 i l)
    = (∑ k : Fin 480, (if i.val / 30 = k.val / 30 then (1 : EReal) else 0) * ∑ l' : Fin 128, s (ix2 k l')) * ((491520⁻¹ : ℝ) : EReal) := by
  simp only [uMean, k1_pay24, shapeCast_self]
  rw [mulf_apply, broadcast_apply, inv_n_eq]
  refine congrArg (· * _) ?_
  refine (Ideal.matmul_plain_apply (M := 480) (K := 480) (N := 128) _ _ _ _ i l).trans ?_
  rw [show constant (F := Ideal) S480x128 FTy.f32 0#32 (ix2 i l) = (0 : EReal) from Ideal.ofBits_zero_f32, zero_add]
  refine Finset.sum_congr rfl fun k _ => ?_
  rw [ind_apply, rowSum_apply]

theorem half0_apply (i : Fin 480) (l : Fin 128) : half0 g (ix2 i l) = g (ix2 (0 : Fin 1) (⟨i.val, by omega⟩ : Fin 960)) := by
  rw [half0_eq]
  refine (slice2_axis0_apply 0 _ _ i l ⟨i.val, by omega⟩ (by simp)).trans ?_
  rw [transpose_ix2_apply, broadcastTo_1b_ab_apply]

theorem half1_apply (i : Fin 480) (l : Fin 128) : half1 g (ix2 i l) = g (ix2 (0 : Fin 1) (⟨480 + i.val, by omega⟩ : Fin 960)) := by
  unfold half1
  refine (slice2_axis0_apply 480 _ _ i l ⟨480 + i.val, by omega⟩ rfl).trans ?_
  rw [transpose_ix2_apply, broadcastTo_1b_ab_apply]

end Cert.KernelIdeal.Two

end
-- ==== Proof.Tops.lean ====
/- The running greatest value over the rows of one half of a batch entry: what bounds it. -/
module

public import proofs.«01_k».proof.Proof.Units

@[expose] public section

set_option maxRecDepth 16384
set_option maxHeartbeats 1000000

noncomputable section

namespace Cert.KernelIdeal.Two

open Cert.KernelIdeal.Gen
open Idealize.ShloMosaic Idealize.ShloMosaic.ValueIdx

/-- A row's entry, and the bottom where there is no such row. -/
def yext (y : FVec Ideal S480x128 .f32) (n : ℕ) (l : Fin 128) : EReal :=
  if h : n < 480 then y (ix2 (⟨n, h⟩ : Fin 480) l) else ⊥

theorem slice_yext (y : FVec Ideal S480x128 .f32) (o : ℕ) (h : S480x128.Slices ![o, 0] S8x128) (i : Fin 8) (l : Fin 128) :
    extractStridedSlice S8x128 ![o, 0] y h (ix2 i l) = yext y (o + i.val) l := by
  have hb : o + 8 ≤ 480 := by
    have := h.2 (0 : Fin 2)
    exact this
  have hi : o + i.val < 480 := by have := i.isLt; omega
  rw [yext, dif_pos hi]
  exact slice2_axis0_apply o y h i l ⟨o + i.val, hi⟩ rfl

variable (y : FVec Ideal S480x128 .f32) (t t' : FVec Ideal S8x128 .f32) (i : Fin 8) (l : Fin 128) (z : EReal)

/-- The rows numbered r with n₀ ≤ r < n₁, in steps of eight, have entries at most z. -/
def Bd (y : FVec Ideal S480x128 .f32) (i : Fin 8) (l : Fin 128) (z : EReal) (n₀ n₁ : ℕ) : Prop :=
  ∀ r, n₀ ≤ r → r < n₁ → yext y (8 * r + i.val) l ≤ z

theorem Bd_nil (n : ℕ) : Bd y i l z n n ↔ True := ⟨fun _ => trivial, fun _ r h1 h2 => by omega⟩
theorem Bd_succ (n₀ n₁ : ℕ) (h : n₀ ≤ n₁) : Bd y i l z n₀ (n₁ + 1) ↔ Bd y i l z n₀ n₁ ∧ yext y (8 * n₁ + i.val) l ≤ z :=
  ⟨fun hb => ⟨fun r h1 h2 => hb r h1 (by omega), hb n₁ h (by omega)⟩, fun hb r h1 h2 => by
    rcases Nat.lt_succ_iff_lt_or_eq.mp h2 with h3 | rfl
    · exact hb.1 r h1 h3
    · exact hb.2⟩
theorem Bd_split (n₀ n₁ n₂ : ℕ) (h1 : n₀ ≤ n₁) (h2 : n₁ ≤ n₂) : Bd y i l z n₀ n₂ ↔ Bd y i l z n₀ n₁ ∧ Bd y i l z n₁ n₂ :=
  ⟨fun hb => ⟨fun r a b => hb r a (by omega), fun r a b => hb r (by omega) b⟩, fun hb r a b => by
    rcases lt_or_ge r n₁ with h | h
    · exact hb.1 r a h
    · exact hb.2 r h b⟩

theorem maximumf_le (a b : FVec Ideal S8x128 .f32) (j : S8x128.Idx) (z : EReal) : maximumf a b j ≤ z ↔ a j ≤ z ∧ b j ≤ z := max_le_iff

theorem Bd_step' (n₀ n₁ n₂ o : ℕ) (h : n₀ ≤ n₁) (h2 : n₂ = n₁ + 1) (ho : o = 8 * n₁) :
    Bd y i l z n₀ n₂ ↔ Bd y i l z n₀ n₁ ∧ yext y (o + i.val) l ≤ z := by
  subst ho; subst h2; exact Bd_succ y i l z n₀ n₁ h

theorem t21 : k1_pay21 y t (ix2 i l) ≤ z ↔ t (ix2 i l) ≤ z ∧ Bd y i l z 2 32 := by
  rw [
    Bd_step' y i l z 2 31 32 248 (by norm_num) (by norm_num) (by norm_num),
    Bd_step' y i l z 2 30 31 240 (by norm_num) (by norm_num) (by norm_num),
    Bd_step' y i l z 2 29 30 232 (by norm_num) (by norm_num) (by norm_num),
    Bd_step' y i l z 2 28 29 224 (by norm_num) (by norm_num) (by norm_num),
    Bd_step' y i l z 2 27 28 216 (by norm_num) (by norm_num) (by norm_num),
    Bd_step' y i l z 2 26 27 208 (by norm_num) (by norm_num) (by norm_num),
    Bd_step' y i l z 2 25 26 200 (by norm_num) (by norm_num) (by norm_num),
    Bd_step' y i l z 2 24 25 192 (by norm_num) (by norm_num) (by norm_num),
    Bd_step' y i l z 2 23 24 184 (by norm_num) (by norm_num) (by norm_num),
    Bd_step' y i l z 2 22 23 176 (by norm_num) (by norm_num) (by norm_num),
    Bd_step' y i l z 2 21 22 168 (by norm_num) (by norm_num) (by norm_num),
    Bd_step' y i l z 2 20 21 160 (by norm_num) (by norm_num) (by norm_num),
    Bd_step' y i l z 2 19 20 152 (by norm_num) (by norm_num) (by norm_num),
    Bd_step' y i l z 2 18 19 144 (by norm_num) (by norm_num) (by norm_num),
    Bd_step' y i l z 2 17 18 136 (by norm_num) (by norm_num) (by norm_num),
    Bd_step' y i l z 2 16 17 128 (by norm_num) (by norm_num) (by norm_num),
    Bd_step' y i l z 2 15 16 120 (by norm_num) (by norm_num) (by norm_num),
    Bd_step' y i l z 2 14 15 112 (by norm_num) (by norm_num) (by norm_num),
    Bd_step' y i l z 2 13 14 104 (by norm_num) (by norm_num) (by norm_num),
    Bd_step' y i l z 2 12 13 96 (by norm_num) (by norm_num) (by norm_num),
    Bd_step' y i l z 2 11 12 88 (by norm_num) (by norm_num) (by norm_num),
    Bd_step' y i l z 2 10 11 80 (by norm_num) (by norm_num) (by norm_num),
    Bd_step' y i l z 2 9 10 72 (by norm_num) (by norm_num) (by norm_num),
    Bd_step' y i l z 2 8 9 64 (by norm_num) (by norm_num) (by norm_num),
    Bd_step' y i l z 2 7 8 56 (by norm_num) (by norm_num) (by norm_num),
    Bd_step' y i l z 2 6 7 48 (by norm_num) (by norm_num) (by norm_num),
    Bd_step' y i l z 2 5 6 40 (by norm_num) (by norm_num) (by norm_num),
    Bd_step' y i l z 2 4 5 32 (by norm_num) (by norm_num) (by norm_num),
    Bd_step' y i l z 2 3 4 24 (by norm_num) (by norm_num) (by norm_num),
    Bd_step' y i l z 2 2 3 16 (by norm_num) (by norm_num) (by norm_num), Bd_nil]
  simp only [k1_pay21, maximumf_le, slice_yext, and_assoc, true_and]

theorem t22 : k1_pay22 y t (ix2 i l) ≤ z ↔ t (ix2 i l) ≤ z ∧ Bd y i l z 32 60 := by
  rw [
    Bd_step' y i l z 32 59 60 472 (by norm_num) (by norm_num) (by norm_num),
    Bd_step' y i l z 32 58 59 464 (by norm_num) (by norm_num) (by norm_num),
    Bd_step' y i l z 32 57 58 456 (by norm_num) (by norm_num) (by norm_num),
    Bd_step' y i l z 32 56 57 448 (by norm_num) (by norm_num) (by norm_num),
    Bd_step' y i l z 32 55 56 440 (by norm_num) (by norm_num) (by norm_num),
    Bd_step' y i l z 32 54 55 432 (by norm_num) (by norm_num) (by norm_num),
    Bd_step' y i l z 32 53 54 424 (by norm_num) (by norm_num) (by norm_num),
    Bd_step' y i l z 32 52 53 416 (by norm_num) (by norm_num) (by norm_num),
    Bd_step' y i l z 32 51 52 408 (by norm_num) (by norm_num) (by norm_num),
    Bd_step' y i l z 32 50 51 400 (by norm_num) (by norm_num) (by norm_num),
    Bd_step' y i l z 32 49 50 392 (by norm_num) (by norm_num) (by norm_num),
    Bd_step' y i l z 32 48 49 384 (by norm_num) (by norm_num) (by norm_num),
    Bd_step' y i l z 32 47 48 376 (by norm_num) (by norm_num) (by norm_num),
    Bd_step' y i l z 32 46 47 368 (by norm_num) (by norm_num) (by norm_num),
    Bd_step' y i l z 32 45 46 360 (by norm_num) (by norm_num) (by norm_num),
    Bd_step' y i l z 32 44 45 352 (by norm_num) (by norm_num) (by norm_num),
    Bd_step' y i l z 32 43 44 344 (by norm_num) (by norm_num) (by norm_num),
    Bd_step' y i l z 32 42 43 336 (by norm_num) (by norm_num) (by norm_num),
    Bd_step' y i l z 32 41 42 328 (by norm_num) (by norm_num) (by norm_num),
    Bd_step' y i l z 32 40 41 320 (by norm_num) (by norm_num) (by norm_num),
    Bd_step' y i l z 32 39 40 312 (by norm_num) (by norm_num) (by norm_num),
    Bd_step' y i l z 32 38 39 304 (by norm_num) (by norm_num) (by norm_num),
    Bd_step' y i l z 32 37 38 296 (by norm_num) (by norm_num) (by norm_num),
    Bd_step' y i l z 32 36 37 288 (by norm_num) (by norm_num) (by norm_num),
    Bd_step' y i l z 32 35 36 280 (by norm_num) (by norm_num) (by norm_num),
    Bd_step' y i l z 32 34 35 272 (by norm_num) (by norm_num) (by norm_num),
    Bd_step' y i l z 32 33 34 264 (by norm_num) (by norm_num) (by norm_num),
    Bd_step' y i l z 32 32 33 256 (by norm_num) (by norm_num) (by norm_num), Bd_nil]
  simp only [k1_pay22, maximumf_le, slice_yext, and_assoc, true_and]

theorem t32 : k1_pay32 y t t' (ix2 i l) ≤ z ↔ (t (ix2 i l) ≤ z ∧ t' (ix2 i l) ≤ z) ∧ Bd y i l z 9 38 := by
  rw [
    Bd_step' y i l z 9 37 38 296 (by norm_num) (by norm_num) (by norm_num),
    Bd_step' y i l z 9 36 37 288 (by norm_num) (by norm_num) (by norm_num),
    Bd_step' y i l z 9 35 36 280 (by norm_num) (by norm_num) (by norm_num),
    Bd_step' y i l z 9 34 35 272 (by norm_num) (by norm_num) (by norm_num),
    Bd_step' y i l z 9 33 34 264 (by norm_num) (by norm_num) (by norm_num),
    Bd_step' y i l z 9 32 33 256 (by norm_num) (by norm_num) (by norm_num),
    Bd_step' y i l z 9 31 32 248 (by norm_num) (by norm_num) (by norm_num),
    Bd_step' y i l z 9 30 31 240 (by norm_num) (by norm_num) (by norm_num),
    Bd_step' y i l z 9 29 30 232 (by norm_num) (by norm_num) (by norm_num),
    Bd_step' y i l z 9 28 29 224 (by norm_num) (by norm_num) (by norm_num),
    Bd_step' y i l z 9 27 28 216 (by norm_num) (by norm_num) (by norm_num),
    Bd_step' y i l z 9 26 27 208 (by norm_num) (by norm_num) (by norm_num),
    Bd_step' y i l z 9 25 26 200 (by norm_num) (by norm_num) (by norm_num),
    Bd_step' y i l z 9 24 25 192 (by norm_num) (by norm_num) (by norm_num),
    Bd_step' y i l z 9 23 24 184 (by norm_num) (by norm_num) (by norm_num),
    Bd_step' y i l z 9 22 23 176 (by norm_num) (by norm_num) (by norm_num),
    Bd_step' y i l z 9 21 22 168 (by norm_num) (by norm_num) (by norm_num),
    Bd_step' y i l z 9 20 21 160 (by norm_num) (by norm_num) (by norm_num),
    Bd_step' y i l z 9 19 20 152 (by norm_num) (by norm_num) (by norm_num),
    Bd_step' y i l z 9 18 19 144 (by norm_num) (by norm_num) (by norm_num),
    Bd_step' y i l z 9 17 18 136 (by norm_num) (by norm_num) (by norm_num),
    Bd_step' y i l z 9 16 17 128 (by norm_num) (by norm_num) (by norm_num),
    Bd_step' y i l z 9 15 16 120 (by norm_num) (by norm_num) (by norm_num),
    Bd_step' y i l z 9 14 15 112 (by norm_num) (by norm_num) (by norm_num),
    Bd_step' y i l z 9 13 14 104 (by norm_num) (by norm_num) (by norm_num),
    Bd_step' y i l z 9 12 13 96 (by norm_num) (by norm_num) (by norm_num),
    Bd_step' y i l z 9 11 12 88 (by norm_num) (by norm_num) (by norm_num),
    Bd_step' y i l z 9 10 11 80 (by norm_num) (by norm_num) (by norm_num),
    Bd_step' y i l z 9 9 10 72 (by norm_num) (by norm_num) (by norm_num), Bd_nil]
  simp only [k1_pay32, maximumf_le, slice_yext, and_assoc, true_and]

theorem t34 : k1_pay34 y t t' (ix2 i l) ≤ z ↔ (t (ix2 i l) ≤ z ∧ t' (ix2 i l) ≤ z) ∧ Bd y i l z 39 60 := by
  rw [
    Bd_step' y i l z 39 59 60 472 (by norm_num) (by norm_num) (by norm_num),
    Bd_step' y i l z 39 58 59 464 (by norm_num) (by norm_num) (by norm_num),
    Bd_step' y i l z 39 57 58 456 (by norm_num) (by norm_num) (by norm_num),
    Bd_step' y i l z 39 56 57 448 (by norm_num) (by norm_num) (by norm_num),
    Bd_step' y i l z 39 55 56 440 (by norm_num) (by norm_num) (by norm_num),
    Bd_step' y i l z 39 54 55 432 (by norm_num) (by norm_num) (by norm_num),
    Bd_step' y i l z 39 53 54 424 (by norm_num) (by norm_num) (by norm_num),
    Bd_step' y i l z 39 52 53 416 (by norm_num) (by norm_num) (by norm_num),
    Bd_step' y i l z 39 51 52 408 (by norm_num) (by norm_num) (by norm_num),
    Bd_step' y i l z 39 50 51 400 (by norm_num) (by norm_num) (by norm_num),
    Bd_step' y i l z 39 49 50 392 (by norm_num) (by norm_num) (by norm_num),
    Bd_step' y i l z 39 48 49 384 (by norm_num) (by norm_num) (by norm_num),
    Bd_step' y i l z 39 47 48 376 (by norm_num) (by norm_num) (by norm_num),
    Bd_step' y i l z 39 46 47 368 (by norm_num) (by norm_num) (by norm_num),
    Bd_step' y i l z 39 45 46 360 (by norm_num) (by norm_num) (by norm_num),
    Bd_step' y i l z 39 44 45 352 (by norm_num) (by norm_num) (by norm_num),
    Bd_step' y i l z 39 43 44 344 (by norm_num) (by norm_num) (by norm_num),
    Bd_step' y i l z 39 42 43 336 (by norm_num) (by norm_num) (by norm_num),
    Bd_step' y i l z 39 41 42 328 (by norm_num) (by norm_num) (by norm_num),
    Bd_step' y i l z 39 40 41 320 (by norm_num) (by norm_num) (by norm_num),
    Bd_step' y i l z 39 39 40 312 (by norm_num) (by norm_num) (by norm_num), Bd_nil]
  simp only [k1_pay34, maximumf_le, slice_yext, and_assoc, true_and]

theorem t46 : k1_pay46 y t (ix2 i l) ≤ z ↔ t (ix2 i l) ≤ z ∧ Bd y i l z 15 45 := by
  rw [
    Bd_step' y i l z 15 44 45 352 (by norm_num) (by norm_num) (by norm_num),
    Bd_step' y i l z 15 43 44 344 (by norm_num) (by norm_num) (by norm_num),
    Bd_step' y i l z 15 42 43 336 (by norm_num) (by norm_num) (by norm_num),
    Bd_step' y i l z 15 41 42 328 (by norm_num) (by norm_num) (by norm_num),
    Bd_step' y i l z 15 40 41 320 (by norm_num) (by norm_num) (by norm_num),
    Bd_step' y i l z 15 39 40 312 (by norm_num) (by norm_num) (by norm_num),
    Bd_step' y i l z 15 38 39 304 (by norm_num) (by norm_num) (by norm_num),
    Bd_step' y i l z 15 37 38 296 (by norm_num) (by norm_num) (by norm_num),
    Bd_step' y i l z 15 36 37 288 (by norm_num) (by norm_num) (by norm_num),
    Bd_step' y i l z 15 35 36 280 (by norm_num) (by norm_num) (by norm_num),
    Bd_step' y i l z 15 34 35 272 (by norm_num) (by norm_num) (by norm_num),
    Bd_step' y i l z 15 33 34 264 (by norm_num) (by norm_num) (by norm_num),
    Bd_step' y i l z 15 32 33 256 (by norm_num) (by norm_num) (by norm_num),
    Bd_step' y i l z 15 31 32 248 (by norm_num) (by norm_num) (by norm_num),
    Bd_step' y i l z 15 30 31 240 (by norm_num) (by norm_num) (by norm_num),
    Bd_step' y i l z 15 29 30 232 (by norm_num) (by norm_num) (by norm_num),
    Bd_step' y i l z 15 28 29 224 (by norm_num) (by norm_num) (by norm_num),
    Bd_step' y i l z 15 27 28 216 (by norm_num) (by norm_num) (by norm_num),
    Bd_step' y i l z 15 26 27 208 (by norm_num) (by norm_num) (by norm_num),
    Bd_step' y i l z 15 25 26 200 (by norm_num) (by norm_num) (by norm_num),
    Bd_step' y i l z 15 24 25 192 (by norm_num) (by norm_num) (by norm_num),
    Bd_step' y i l z 15 23 24 184 (by norm_num) (by norm_num) (by norm_num),
    Bd_step' y i l z 15 22 23 176 (by norm_num) (by norm_num) (by norm_num),
    Bd_step' y i l z 15 21 22 168 (by norm_num) (by norm_num) (by norm_num),
    Bd_step' y i l z 15 20 21 160 (by norm_num) (by norm_num) (by norm_num),
    Bd_step' y i l z 15 19 20 152 (by norm_num) (by norm_num) (by norm_num),
    Bd_step' y i l z 15 18 19 144 (by norm_num) (by norm_num) (by norm_num),
    Bd_step' y i l z 15 17 18 136 (by norm_num) (by norm_num) (by norm_num),
    Bd_step' y i l z 15 16 17 128 (by norm_num) (by norm_num) (by norm_num),
    Bd_step' y i l z 15 15 16 120 (by norm_num) (by norm_num) (by norm_num), Bd_nil]
  simp only [k1_pay46, maximumf_le, slice_yext, and_assoc, true_and]

theorem t47 : k1_pay47 y t (ix2 i l) ≤ z ↔ t (ix2 i l) ≤ z ∧ Bd y i l z 45 60 := by
  rw [
    Bd_step' y i l z 45 59 60 472 (by norm_num) (by norm_num) (by norm_num),
    Bd_step' y i l z 45 58 59 464 (by norm_num) (by norm_num) (by norm_num),
    Bd_step' y i l z 45 57 58 456 (by norm_num) (by norm_num) (by norm_num),
    Bd_step' y i l z 45 56 57 448 (by norm_num) (by norm_num) (by norm_num),
    Bd_step' y i l z 45 55 56 440 (by norm_num) (by norm_num) (by norm_num),
    Bd_step' y i l z 45 54 55 432 (by norm_num) (by norm_num) (by norm_num),
    Bd_step' y i l z 45 53 54 424 (by norm_num) (by norm_num) (by norm_num),
    Bd_step' y i l z 45 52 53 416 (by norm_num) (by norm_num) (by norm_num),
    Bd_step' y i l z 45 51 52 408 (by norm_num) (by norm_num) (by norm_num),
    Bd_step' y i l z 45 50 51 400 (by norm_num) (by norm_num) (by norm_num),
    Bd_step' y i l z 45 49 50 392 (by norm_num) (by norm_num) (by norm_num),
    Bd_step' y i l z 45 48 49 384 (by norm_num) (by norm_num) (by norm_num),
    Bd_step' y i l z 45 47 48 376 (by norm_num) (by norm_num) (by norm_num),
    Bd_step' y i l z 45 46 47 368 (by norm_num) (by norm_num) (by norm_num),
    Bd_step' y i l z 45 45 46 360 (by norm_num) (by norm_num) (by norm_num), Bd_nil]
  simp only [k1_pay47, maximumf_le, slice_yext, and_assoc, true_and]

theorem t58 : k1_pay58 y t t' (ix2 i l) ≤ z ↔ (t (ix2 i l) ≤ z ∧ t' (ix2 i l) ≤ z) ∧ Bd y i l z 22 51 := by
  rw [
    Bd_step' y i l z 22 50 51 400 (by norm_num) (by norm_num) (by norm_num),
    Bd_step' y i l z 22 49 50 392 (by norm_num) (by norm_num) (by norm_num),
    Bd_step' y i l z 22 48 49 384 (by norm_num) (by norm_num) (by norm_num),
    Bd_step' y i l z 22 47 48 376 (by norm_num) (by norm_num) (by norm_num),
    Bd_step' y i l z 22 46 47 368 (by norm_num) (by norm_num) (by norm_num),
    Bd_step' y i l z 22 45 46 360 (by norm_num) (by norm_num) (by norm_num),
    Bd_step' y i l z 22 44 45 352 (by norm_num) (by norm_num) (by norm_num),
    Bd_step' y i l z 22 43 44 344 (by norm_num) (by norm_num) (by norm_num),
    Bd_step' y i l z 22 42 43 336 (by norm_num) (by norm_num) (by norm_num),
    Bd_step' y i l z 22 41 42 328 (by norm_num) (by norm_num) (by norm_num),
    Bd_step' y i l z 22 40 41 320 (by norm_num) (by norm_num) (by norm_num),
    Bd_step' y i l z 22 39 40 312 (by norm_num) (by norm_num) (by norm_num),
    Bd_step' y i l z 22 38 39 304 (by norm_num) (by norm_num) (by norm_num),
    Bd_step' y i l z 22 37 38 296 (by norm_num) (by norm_num) (by norm_num),
    Bd_step' y i l z 22 36 37 288 (by norm_num) (by norm_num) (by norm_num),
    Bd_step' y i l z 22 35 36 280 (by norm_num) (by norm_num) (by norm_num),
    Bd_step' y i l z 22 34 35 272 (by norm_num) (by norm_num) (by norm_num),
    Bd_step' y i l z 22 33 34 264 (by norm_num) (by norm_num) (by norm_num),
    Bd_step' y i l z 22 32 33 256 (by norm_num) (by norm_num) (by norm_num),
    Bd_step' y i l z 22 31 32 248 (by norm_num) (by norm_num) (by norm_num),
    Bd_step' y i l z 22 30 31 240 (by norm_num) (by norm_num) (by norm_num),
    Bd_step' y i l z 22 29 30 232 (by norm_num) (by norm_num) (by norm_num),
    Bd_step' y i l z 22 28 29 224 (by norm_num) (by norm_num) (by norm_num),
    Bd_step' y i l z 22 27 28 216 (by norm_num) (by norm_num) (by norm_num),
    Bd_step' y i l z 22 26 27 208 (by norm_num) (by norm_num) (by norm_num),
    Bd_step' y i l z 22 25 26 200 (by norm_num) (by norm_num) (by norm_num),
    Bd_step' y i l z 22 24 25 192 (by norm_num) (by norm_num) (by norm_num),
    Bd_step' y i l z 22 23 24 184 (by norm_num) (by norm_num) (by norm_num),
    Bd_step' y i l z 22 22 23 176 (by norm_num) (by norm_num) (by norm_num), Bd_nil]
  simp only [k1_pay58, maximumf_le, slice_yext, and_assoc, true_and]

section
variable (a b c d e : FVec Ideal S480x128 .f32) (f g : FVec Ideal S480x128 .bf16)

theorem t20 : k1_pay20 t a b c d e f g (ix2 i l) ≤ z ↔ t (ix2 i l) ≤ z ∧ Bd (k1_pay19 a b c d e f g) i l z 0 2 := by
  rw [
    Bd_step' (k1_pay19 a b c d e f g) i l z 0 1 2 8 (by norm_num) (by norm_num) (by norm_num),
    Bd_step' (k1_pay19 a b c d e f g) i l z 0 0 1 0 (by norm_num) (by norm_num) (by norm_num), Bd_nil]
  simp only [k1_pay20, maximumf_le, slice_yext, and_assoc, true_and]

theorem t30 : k1_pay30 t a b f g (ix2 i l) ≤ z ↔ t (ix2 i l) ≤ z ∧ Bd (k1_pay29 a b f g) i l z 0 8 := by
  rw [
    Bd_step' (k1_pay29 a b f g) i l z 0 7 8 56 (by norm_num) (by norm_num) (by norm_num),
    Bd_step' (k1_pay29 a b f g) i l z 0 6 7 48 (by norm_num) (by norm_num) (by norm_num),
    Bd_step' (k1_pay29 a b f g) i l z 0 5 6 40 (by norm_num) (by norm_num) (by norm_num),
    Bd_step' (k1_pay29 a b f g) i l z 0 4 5 32 (by norm_num) (by norm_num) (by norm_num),
    Bd_step' (k1_pay29 a b f g) i l z 0 3 4 24 (by norm_num) (by norm_num) (by norm_num),
    Bd_step' (k1_pay29 a b f g) i l z 0 2 3 16 (by norm_num) (by norm_num) (by norm_num),
    Bd_step' (k1_pay29 a b f g) i l z 0 1 2 8 (by norm_num) (by norm_num) (by norm_num),
    Bd_step' (k1_pay29 a b f g) i l z 0 0 1 0 (by norm_num) (by norm_num) (by norm_num), Bd_nil]
  simp only [k1_pay30, maximumf_le, slice_yext, and_assoc, true_and]

theorem t45 : k1_pay45 t a b c d f (ix2 i l) ≤ z ↔ t (ix2 i l) ≤ z ∧ Bd (k1_pay44 a b c d f) i l z 0 15 := by
  rw [
    Bd_step' (k1_pay44 a b c d f) i l z 0 14 15 112 (by norm_num) (by norm_num) (by norm_num),
    Bd_step' (k1_pay44 a b c d f) i l z 0 13 14 104 (by norm_num) (by norm_num) (by norm_num),
    Bd_step' (k1_pay44 a b c d f) i l z 0 12 13 96 (by norm_num) (by norm_num) (by norm_num),
    Bd_step' (k1_pay44 a b c d f) i l z 0 11 12 88 (by norm_num) (by norm_num) (by norm_num),
    Bd_step' (k1_pay44 a b c d f) i l z 0 10 11 80 (by norm_num) (by norm_num) (by norm_num),
    Bd_step' (k1_pay44 a b c d f) i l z 0 9 10 72 (by norm_num) (by norm_num) (by norm_num),
    Bd_step' (k1_pay44 a b c d f) i l z 0 8 9 64 (by norm_num) (by norm_num) (by norm_num),
    Bd_step' (k1_pay44 a b c d f) i l z 0 7 8 56 (by norm_num) (by norm_num) (by norm_num),
    Bd_step' (k1_pay44 a b c d f) i l z 0 6 7 48 (by norm_num) (by norm_num) (by norm_num),
    Bd_step' (k1_pay44 a b c d f) i l z 0 5 6 40 (by norm_num) (by norm_num) (by norm_num),
    Bd_step' (k1_pay44 a b c d f) i l z 0 4 5 32 (by norm_num) (by norm_num) (by norm_num),
    Bd_step' (k1_pay44 a b c d f) i l z 0 3 4 24 (by norm_num) (by norm_num) (by norm_num),
    Bd_step' (k1_pay44 a b c d f) i l z 0 2 3 16 (by norm_num) (by norm_num) (by norm_num),
    Bd_step' (k1_pay44 a b c d f) i l z 0 1 2 8 (by norm_num) (by norm_num) (by norm_num),
    Bd_step' (k1_pay44 a b c d f) i l z 0 0 1 0 (by norm_num) (by norm_num) (by norm_num), Bd_nil]
  simp only [k1_pay45, maximumf_le, slice_yext, and_assoc, true_and]

theorem t56 : k1_pay56 t a b c f (ix2 i l) ≤ z ↔ t (ix2 i l) ≤ z ∧ Bd (k1_pay55 a b c f) i l z 0 21 := by
  rw [
    Bd_step' (k1_pay55 a b c f) i l z 0 20 21 160 (by norm_num) (by norm_num) (by norm_num),
    Bd_step' (k1_pay55 a b c f) i l z 0 19 20 152 (by norm_num) (by norm_num) (by norm_num),
    Bd_step' (k1_pay55 a b c f) i l z 0 18 19 144 (by norm_num) (by norm_num) (by norm_num),
    Bd_step' (k1_pay55 a b c f) i l z 0 17 18 136 (by norm_num) (by norm_num) (by norm_num),
    Bd_step' (k1_pay55 a b c f) i l z 0 16 17 128 (by norm_num) (by norm_num) (by norm_num),
    Bd_step' (k1_pay55 a b c f) i l z 0 15 16 120 (by norm_num) (by norm_num) (by norm_num),
    Bd_step' (k1_pay55 a b c f) i l z 0 14 15 112 (by norm_num) (by norm_num) (by norm_num),
    Bd_step' (k1_pay55 a b c f) i l z 0 13 14 104 (by norm_num) (by norm_num) (by norm_num),
    Bd_step' (k1_pay55 a b c f) i l z 0 12 13 96 (by norm_num) (by norm_num) (by norm_num),
    Bd_step' (k1_pay55 a b c f) i l z 0 11 12 88 (by norm_num) (by norm_num) (by norm_num),
    Bd_step' (k1_pay55 a b c f) i l z 0 10 11 80 (by norm_num) (by norm_num) (by norm_num),
    Bd_step' (k1_pay55 a b c f) i l z 0 9 10 72 (by norm_num) (by norm_num) (by norm_num),
    Bd_step' (k1_pay55 a b c f) i l z 0 8 9 64 (by norm_num) (by norm_num) (by norm_num),
    Bd_step' (k1_pay55 a b c f) i l z 0 7 8 56 (by norm_num) (by norm_num) (by norm_num),
    Bd_step' (k1_pay55 a b c f) i l z 0 6 7 48 (by norm_num) (by norm_num) (by norm_num),
    Bd_step' (k1_pay55 a b c f) i l z 0 5 6 40 (by norm_num) (by norm_num) (by norm_num),
    Bd_step' (k1_pay55 a b c f) i l z 0 4 5 32 (by norm_num) (by norm_num) (by norm_num),
    Bd_step' (k1_pay55 a b c f) i l z 0 3 4 24 (by norm_num) (by norm_num) (by norm_num),
    Bd_step' (k1_pay55 a b c f) i l z 0 2 3 16 (by norm_num) (by norm_num) (by norm_num),
    Bd_step' (k1_pay55 a b c f) i l z 0 1 2 8 (by norm_num) (by norm_num) (by norm_num),
    Bd_step' (k1_pay55 a b c f) i l z 0 0 1 0 (by norm_num) (by norm_num) (by norm_num), Bd_nil]
  simp only [k1_pay56, maximumf_le, slice_yext, and_assoc, true_and]

end

theorem one_Bd (o n : ℕ) (h : o = 8 * n) : yext y (o + i.val) l ≤ z ↔ Bd y i l z n (n + 1) := by
  rw [Bd_step' y i l z n n (n + 1) o le_rfl rfl h, Bd_nil, true_and]

theorem t31 (a b : FVec Ideal S480x128 .f32) (f g : FVec Ideal S480x128 .bf16) :
    k1_pay31 a b f g (ix2 i l) ≤ z ↔ Bd (k1_pay29 a b f g) i l z 8 9 := by
  rw [← one_Bd _ i l z 64 8 rfl]; simp only [k1_pay31, slice_yext]
theorem t33 : k1_pay33 y (ix2 i l) ≤ z ↔ Bd y i l z 38 39 := by
  rw [← one_Bd _ i l z 304 38 rfl]; simp only [k1_pay33, slice_yext]
theorem t57 (a b c : FVec Ideal S480x128 .f32) (f : FVec Ideal S480x128 .bf16) :
    k1_pay57 a b c f (ix2 i l) ≤ z ↔ Bd (k1_pay55 a b c f) i l z 21 22 := by
  rw [← one_Bd _ i l z 168 21 rfl]; simp only [k1_pay57, slice_yext]
theorem t59 : k1_pay59 y (ix2 i l) ≤ z ↔ Bd y i l z 51 52 := by
  rw [← one_Bd _ i l z 408 51 rfl]; simp only [k1_pay59, slice_yext]

/-- The 8×128 array of running maxima at the end. -/
def last : FVec Ideal S8x128 .f32 := maximumf (maximumf (maximumf (maximumf (maximumf (maximumf (maximumf (maximumf (maximumf t t')
  (extractStridedSlice S8x128 ![416, 0] y slices_S480x128_o416_0_S8x128)) (extractStridedSlice S8x128 ![424, 0] y slices_S480x128_o424_0_S8x128))
  (extractStridedSlice S8x128 ![432, 0] y slices_S480x128_o432_0_S8x128)) (extractStridedSlice S8x128 ![440, 0] y slices_S480x128_o440_0_S8x128))
  (extractStridedSlice S8x128 ![448, 0] y slices_S480x128_o448_0_S8x128)) (extractStridedSlice S8x128 ![456, 0] y slices_S480x128_o456_0_S8x128))
  (extractStridedSlice S8x128 ![464, 0] y slices_S480x128_o464_0_S8x128)) (extractStridedSlice S8x128 ![472, 0] y slices_S480x128_o472_0_S8x128)

theorem tlast : last y t t' (ix2 i l) ≤ z ↔ (t (ix2 i l) ≤ z ∧ t' (ix2 i l) ≤ z) ∧ Bd y i l z 52 60 := by
  rw [
    Bd_step' y i l z 52 59 60 472 (by norm_num) (by norm_num) (by norm_num),
    Bd_step' y i l z 52 58 59 464 (by norm_num) (by norm_num) (by norm_num),
    Bd_step' y i l z 52 57 58 456 (by norm_num) (by norm_num) (by norm_num),
    Bd_step' y i l z 52 56 57 448 (by norm_num) (by norm_num) (by norm_num),
    Bd_step' y i l z 52 55 56 440 (by norm_num) (by norm_num) (by norm_num),
    Bd_step' y i l z 52 54 55 432 (by norm_num) (by norm_num) (by norm_num),
    Bd_step' y i l z 52 53 54 424 (by norm_num) (by norm_num) (by norm_num),
    Bd_step' y i l z 52 52 53 416 (by norm_num) (by norm_num) (by norm_num), Bd_nil]
  simp only [last, maximumf_le, slice_yext, and_assoc, true_and]

/-- Its greatest entry. -/
def peak : EReal := extractAt ![0, 0, 0] (shapeCast S1x1x1 (multiReduction (F := Ideal) (φ := .f32) .maximumf [1, 2] S1
  (shapeCast S1x8x128 (last y t t') shapeCasts_S8x128_S1x8x128) 0xFF800000#32 reduces_S1x8x128_S1 (.inl rfl) rfl) shapeCasts_S1_S1x1x1) inpos_S1x1x1_p0_0_0

theorem pay60_eq : k1_pay60 y t t' = peak y t t' * (Scalar.ofBits .f32 0x3B124925#32 : Ideal .f32) := by
  rfl

theorem ofBits_negInf : (FloatOps.ofBits .f32 0xFF800000#32 : Ideal .f32) = (⊥ : EReal) := by
  simp [Idealize.ShloMosaic.Ideal.ofBits, Idealize.ShloMosaic.Ideal.ieee]

theorem peak_le_iff : peak y t t' ≤ z ↔ ∀ i l, (t (ix2 i l) ≤ z ∧ t' (ix2 i l) ≤ z) ∧ Bd y i l z 52 60 := by
  obtain ⟨j, hj⟩ : ∃ j, peak y t t' = Finset.fold (FloatOps.maximumf (F := Ideal) (φ := .f32)) (FloatOps.ofBits .f32 0xFF800000#32)
      (shapeCast S1x8x128 (last y t t') shapeCasts_S8x128_S1x8x128) (Finset.univ.filter fun i => reduces_S1x8x128_S1.drop i = j) :=
    ⟨_, multiReduction_maximumf_eq_fold (F := Ideal) (φ := .f32) (hφ := .inl rfl) (hacc := rfl) _ _ _ _⟩
  rw [hj]
  have hf : Finset.fold (FloatOps.maximumf (F := Ideal) (φ := .f32)) (FloatOps.ofBits .f32 0xFF800000#32)
      (shapeCast S1x8x128 (last y t t') shapeCasts_S8x128_S1x8x128) (Finset.univ.filter fun i => reduces_S1x8x128_S1.drop i = j)
      = Finset.fold (max : EReal → EReal → EReal) ⊥ (shapeCast S1x8x128 (last y t t') shapeCasts_S8x128_S1x8x128) (Finset.univ.filter fun i => reduces_S1x8x128_S1.drop i = j) := by
    rw [← ofBits_negInf]; rfl
  rw [hf, Finset.fold_max_le]
  simp only [bot_le, true_and, Finset.mem_filter, Finset.mem_univ]
  have hd : ∀ x : S1x8x128.Idx, reduces_S1x8x128_S1.drop x = j := fun x => by
    funext a; apply Fin.ext
    have h1 := (reduces_S1x8x128_S1.drop x a).isLt
    have h2 := (j a).isLt
    match a with
    | ⟨0, _⟩ => exact (Nat.lt_one_iff.mp h1).trans (Nat.lt_one_iff.mp h2).symm
  simp only [hd, true_implies]
  have hs : (∀ x : S1x8x128.Idx, shapeCast S1x8x128 (last y t t') shapeCasts_S8x128_S1x8x128 x ≤ z) ↔ ∀ x : S8x128.Idx, last y t t' x ≤ z :=
    ⟨fun h x => by
      have := h ((Shape.reshapeEquiv shapeCasts_S8x128_S1x8x128).symm x)
      unfold shapeCast at this
      rwa [Equiv.apply_symm_apply] at this, fun h x => h _⟩
  rw [hs]
  constructor
  · intro h i l
    exact (tlast y t t' i l z).mp (h _)
  · intro h x
    rw [eq_ix2 x]
    exact (tlast y t t' _ _ z).mpr (h _ _)

end Cert.KernelIdeal.Two

end
-- ==== Proof.Maths.lean ====
/- Facts about real numbers: the function x ↦ x / (1 + e⁻ˣ), where its absolute value is greatest over a range, the
   variance as a mean of squares less the square of the mean, and the power of two just above a number. -/
module

public import Mathlib.Analysis.SpecialFunctions.Exp
public import Mathlib.Analysis.SpecialFunctions.Log.Basic
public import Mathlib.Algebra.Order.Floor.Ring
public import Mathlib.Tactic.Linarith
public import Mathlib.Tactic.NormNum
public import Mathlib.Tactic.Positivity
public import Mathlib.Tactic.FieldSimp
public import Mathlib.Tactic.Ring

@[expose] public section

noncomputable section

namespace Cert.Maths

open scoped BigOperators

/-- v / (1 + e⁻ᵛ), as a product. -/
def silu (v : ℝ) : ℝ := v * (1 / (1 + Real.exp (-v)))

theorem silu_pos_part {v : ℝ} (h : 0 ≤ v) : 0 ≤ silu v := by
  unfold silu; positivity

/-- It increases on the non-negative numbers. -/
theorem silu_mono {u v : ℝ} (hu : 0 ≤ u) (h : u ≤ v) : silu u ≤ silu v := by
  unfold silu
  have he : Real.exp (-v) ≤ Real.exp (-u) := Real.exp_le_exp.mpr (by linarith)
  have hp : 0 < 1 + Real.exp (-v) := by positivity
  apply mul_le_mul h _ (by positivity) (by linarith)
  exact one_div_le_one_div_of_le hp (by linarith)

theorem exp_lower : (3.58 : ℝ) ≤ Real.exp 1.28 := by
  have h := Real.quadratic_le_exp_of_nonneg (show (0 : ℝ) ≤ 0.08 by norm_num)
  have h2 : Real.exp 1.28 = Real.exp 0.08 ^ 16 := by
    rw [← Real.exp_nat_mul]; norm_num
  rw [h2]
  calc (3.58 : ℝ) ≤ (1 + 0.08 + 0.08 ^ 2 / 2) ^ 16 := by norm_num
    _ ≤ _ := pow_le_pow_left₀ (by norm_num) h 16

/-- Below zero its absolute value stays under 0.28125. -/
theorem silu_neg_bound {v : ℝ} (h : v ≤ 0) : |silu v| < 0.28125 := by
  obtain ⟨u, rfl⟩ : ∃ u, v = -u := ⟨-v, by ring⟩
  have hu : 0 ≤ u := by linarith
  unfold silu
  rw [neg_neg, abs_mul, abs_neg, abs_of_nonneg hu, abs_of_nonneg (by positivity), mul_one_div,
    div_lt_iff₀ (by positivity)]
  have h1 : 1 + u ≤ Real.exp u := by linarith [Real.add_one_le_exp u]
  rcases le_or_gt u 0.5 with h5 | h5
  · nlinarith
  · have h2 : Real.exp u = Real.exp 1.28 * Real.exp (u - 1.28) := by rw [← Real.exp_add]; ring_nf
    have h3 : 1 + (u - 1.28) ≤ Real.exp (u - 1.28) := by linarith [Real.add_one_le_exp (u - 1.28)]
    have h4 : 3.58 * (u - 0.28) ≤ Real.exp u := by
      rw [h2]
      exact mul_le_mul exp_lower (by linarith) (by linarith) (Real.exp_pos _).le
    nlinarith

/-- An affine function at a point of [lo, hi], where positive, is at most its greater end value. -/
theorem affine_le {a b lo hi x : ℝ} (h1 : lo ≤ x) (h2 : x ≤ hi) : x * a + b ≤ hi * a + b ∨ x * a + b ≤ lo * a + b := by
  rcases le_or_gt 0 a with h | h
  · left; nlinarith
  · right; nlinarith

/-- |silu| at a point of a range is at most its greater end value, or under 0.28125. -/
theorem peak_le {a b lo hi x : ℝ} (h1 : lo ≤ x) (h2 : x ≤ hi) :
    |silu (x * a + b)| < 0.28125 ∨ |silu (x * a + b)| ≤ |silu (hi * a + b)| ∨ |silu (x * a + b)| ≤ |silu (lo * a + b)| := by
  rcases le_or_gt (x * a + b) 0 with h | h
  · exact .inl (silu_neg_bound h)
  · right
    have key : ∀ w, x * a + b ≤ w → |silu (x * a + b)| ≤ |silu w| := fun w hw => by
      rw [abs_of_nonneg (silu_pos_part h.le), abs_of_nonneg (silu_pos_part (h.le.trans hw))]
      exact silu_mono h.le hw
    rcases affine_le (a := a) (b := b) h1 h2 with h | h
    · exact .inl (key _ h)
    · exact .inr (key _ h)

/-- The mean of the squares less the square of the mean is the mean of the squared deviations. -/
theorem var_eq {ι : Type*} [Fintype ι] (x : ι → ℝ) (n : ℝ) (hn : (Fintype.card ι : ℝ) = n) (h0 : n ≠ 0) :
    (∑ i, x i * x i) * n⁻¹ - (∑ i, x i) * n⁻¹ * ((∑ i, x i) * n⁻¹)
      = (∑ i, (x i - (∑ j, x j) * n⁻¹) * (x i - (∑ j, x j) * n⁻¹)) * n⁻¹ := by
  set M := (∑ j, x j) * n⁻¹ with hM
  have hS : (∑ j, x j) = M * n := by rw [hM]; field_simp
  have : (∑ i, (x i - M) * (x i - M)) = (∑ i, x i * x i) - 2 * M * (∑ i, x i) + n * (M * M) := by
    rw [← hn, Finset.mul_sum, ← Finset.sum_sub_distrib, ← nsmul_eq_mul, ← Finset.card_univ, ← Finset.sum_const,
      ← Finset.sum_add_distrib]
    exact Finset.sum_congr rfl fun i _ => by ring
  rw [this, hS]; field_simp; ring

/-- Whether a power of two is at most t is a comparison of exponents. -/
theorem zpow_le_iff {t : ℝ} (ht : 0 < t) (k : ℤ) : (2 : ℝ) ^ k ≤ t ↔ k ≤ ⌊Real.log t / Real.log 2⌋ := by
  have h2 : 0 < Real.log 2 := Real.log_pos (by norm_num)
  rw [Int.le_floor, le_div_iff₀ h2, ← Real.log_zpow, Real.log_le_log_iff (by positivity) ht]

end Cert.Maths

end
-- ==== Proof.Expo.lean ====
/- The exponent of the scale: a count of the powers of two not over a number, and the two powers of two made from it. -/
module

public import proofs.«01_k».proof.Proof.Tops
public import proofs.«01_k».proof.Proof.Maths
public import Idealize.ShloMosaic.Lib.IndicatorCount

@[expose] public section

set_option maxRecDepth 16384
set_option maxHeartbeats 1000000

noncomputable section

namespace Cert.KernelIdeal.Two

open Cert.KernelIdeal.Gen
open Idealize.ShloMosaic Idealize.ShloMosaic.ValueIdx

/-- 128·i + l at lane (i, l). -/
def lane : IVec S8x128 32 := addi (muli (iota .tc S8x128 32 [0] iota_S8x128_d0_w32) (broadcast S8x128 128#32)) (iota .tc S8x128 32 [1] iota_S8x128_d1_w32)

theorem lane_apply (i : Fin 8) (l : Fin 128) : lane (ix2 i l) = BitVec.ofNat 32 (128 * i.val + l.val) := by
  have h : ∀ (i : Fin 8) (l : Fin 128), lane (ix2 i l) = BitVec.ofNat 32 (128 * i.val + l.val) := by decide +kernel
  exact h i l

theorem range_apply (k : ℕ) (hk : k < 1024) :
    IntOp.andi (IntOp.cmpi .sgt (BitVec.ofNat 32 k) 0#32) (IntOp.cmpi .slt (BitVec.ofNat 32 k) 256#32) = BitVec.ofBool (decide (0 < k ∧ k < 256)) := by
  have h : ∀ k : Fin 1024, IntOp.andi (IntOp.cmpi .sgt (BitVec.ofNat 32 k.val) 0#32) (IntOp.cmpi .slt (BitVec.ofNat 32 k.val) 256#32)
      = BitVec.ofBool (decide (0 < k.val ∧ k.val < 256)) := by decide +kernel
  exact h ⟨k, hk⟩

theorem bits_facts (k : ℕ) (hk : k < 256) :
    ((BitVec.ofNat 32 k <<< 23).extractLsb' 23 8).toNat = k ∧ ((BitVec.ofNat 32 k <<< 23).extractLsb' 0 23).toNat = 0
      ∧ ((BitVec.ofNat 32 k <<< 23).extractLsb' 31 1 == 1#1) = false := by
  have h : ∀ k : Fin 256, ((BitVec.ofNat 32 k.val <<< 23).extractLsb' 23 8).toNat = k.val ∧ ((BitVec.ofNat 32 k.val <<< 23).extractLsb' 0 23).toNat = 0
      ∧ ((BitVec.ofNat 32 k.val <<< 23).extractLsb' 31 1 == 1#1) = false := by decide +kernel
  exact h ⟨k, hk⟩

/-- The 32-bit pattern with exponent field k and nothing else is 2^(k − 127). -/
theorem ofBits_pow (k : ℕ) (h0 : 0 < k) (hk : k < 255) :
    (FloatOps.ofBits .f32 (BitVec.ofNat 32 k <<< 23) : Ideal .f32) = (((2 : ℝ) ^ ((k : ℤ) - 127) : ℝ) : EReal) := by
  obtain ⟨h1, h2, h3⟩ := bits_facts k (by omega)
  show Idealize.ShloMosaic.Ideal.ieee 8 23 (BitVec.ofNat 32 k <<< 23) = _
  unfold Idealize.ShloMosaic.Ideal.ieee
  simp only [h1, h2, show (8 + 23 : ℕ) = 31 from rfl, h3]
  rw [if_neg (by norm_num; omega), if_neg (by omega)]
  refine congrArg Real.toEReal ?_
  simp only [Bool.false_eq_true, if_false, one_mul, add_zero]
  rw [show ((2 ^ 23 : ℕ) : ℝ) = (2 : ℝ) ^ (23 : ℤ) by norm_num, ← zpow_add₀ (by norm_num)]
  exact congrArg (fun n : ℤ => (2 : ℝ) ^ n) (by push_cast; ring)

theorem ofBits_255 : (FloatOps.ofBits .f32 (BitVec.ofNat 32 255 <<< 23) : Ideal .f32) = (⊤ : EReal) := by
  obtain ⟨h1, h2, h3⟩ := bits_facts 255 (by omega)
  show Idealize.ShloMosaic.Ideal.ieee 8 23 (BitVec.ofNat 32 255 <<< 23) = _
  unfold Idealize.ShloMosaic.Ideal.ieee
  simp only [h1, h2, show (8 + 23 : ℕ) = 31 from rfl, h3]
  simp

/-- The lanes that count. -/
def hit (T : EReal) : IVec S8x128 1 :=
  andi (andi (cmpi .sgt lane (broadcast S8x128 0#32)) (cmpi .slt lane (broadcast S8x128 256#32)))
    (cmpf (F := Ideal) .ole (bitcastToFloat .f32 (shli lane (broadcast S8x128 23#32))) (broadcast S8x128 T))

theorem hit_apply {τ : ℝ} (hτ : 0 < τ) (hE : ⌊Real.log τ / Real.log 2⌋ ≤ 126) (i : Fin 8) (l : Fin 128) :
    hit (τ : EReal) (ix2 i l) = 1#1 ↔ 1 ≤ 128 * i.val + l.val ∧ ((128 * i.val + l.val : ℕ) : ℤ) ≤ ⌊Real.log τ / Real.log 2⌋ + 127 := by
  have h0 : hit (τ : EReal) (ix2 i l) = IntOp.andi (IntOp.andi (IntOp.cmpi .sgt (lane (ix2 i l)) 0#32) (IntOp.cmpi .slt (lane (ix2 i l)) 256#32))
      (Idealize.ShloMosaic.Ideal.cmp .ole (FloatOps.ofBits .f32 (lane (ix2 i l) <<< 23) : Ideal .f32) (τ : EReal)) := rfl
  have hk : 128 * i.val + l.val < 1024 := by have := i.isLt; have := l.isLt; omega
  rw [h0, lane_apply, range_apply _ hk]
  generalize 128 * i.val + l.val = k at hk
  by_cases hr : 0 < k ∧ k < 256
  · rcases (show k < 255 ∨ k = 255 by omega) with h | h
    · rw [ofBits_pow k hr.1 h]
      simp only [Idealize.ShloMosaic.Ideal.cmp, EReal.coe_le_coe_iff, Cert.Maths.zpow_le_iff hτ, hr]
      by_cases hc : (k : ℤ) - 127 ≤ ⌊Real.log τ / Real.log 2⌋
      · have : (1 ≤ k ∧ (k : ℤ) ≤ ⌊Real.log τ / Real.log 2⌋ + 127) := ⟨hr.1, by omega⟩
        simp [hc, this]; rfl
      · have : ¬ (1 ≤ k ∧ (k : ℤ) ≤ ⌊Real.log τ / Real.log 2⌋ + 127) := fun h => hc (by omega)
        simp [hc, this]; decide
    · subst h
      rw [ofBits_255]
      have : ¬ (1 ≤ 255 ∧ ((255 : ℕ) : ℤ) ≤ ⌊Real.log τ / Real.log 2⌋ + 127) := fun h => by omega
      simp [Idealize.ShloMosaic.Ideal.cmp]
      exact ⟨fun h => absurd h (by decide), fun h => by omega⟩
  · have : ¬ (1 ≤ k ∧ (k : ℤ) ≤ ⌊Real.log τ / Real.log 2⌋ + 127) := fun h => hr ⟨h.1, by omega⟩
    simp only [hr, this, iff_false]
    generalize Idealize.ShloMosaic.Ideal.cmp _ _ _ = b
    revert b; decide

theorem card_hit {τ : ℝ} (hτ : 0 < τ) (hE : ⌊Real.log τ / Real.log 2⌋ ≤ 126) :
    (Finset.univ.filter fun x : S8x128.Idx => hit (τ : EReal) x = 1#1).card = (⌊Real.log τ / Real.log 2⌋ + 127).toNat := by
  rw [show (⌊Real.log τ / Real.log 2⌋ + 127).toNat = (Finset.Icc 1 (⌊Real.log τ / Real.log 2⌋ + 127).toNat).card by simp]
  refine Finset.card_bij (fun x _ => 128 * (x 0).val + (x 1).val) ?_ ?_ ?_
  · intro x hx
    rw [Finset.mem_filter, eq_ix2 x] at hx
    have := (hit_apply hτ hE _ _).mp hx.2
    rw [Finset.mem_Icc]
    exact ⟨this.1, by omega⟩
  · intro x _ y _ h
    rw [eq_ix2 x, eq_ix2 y]
    have h1 : (x 1).val < 128 := (x 1).isLt
    have h2 : (y 1).val < 128 := (y 1).isLt
    have e0 : x 0 = y 0 := Fin.ext (by omega)
    have e1 : x 1 = y 1 := Fin.ext (by omega)
    rw [e0, e1]
  · intro k hk
    rw [Finset.mem_Icc] at hk
    have hk2 : k < 1024 := by omega
    refine ⟨ix2 (⟨k / 128, by omega⟩ : Fin 8) (⟨k % 128, by omega⟩ : Fin 128), ?_, ?_⟩
    · rw [Finset.mem_filter]
      refine ⟨Finset.mem_univ _, (hit_apply hτ hE _ _).mpr ?_⟩
      show 1 ≤ 128 * (k / 128) + k % 128 ∧ ((128 * (k / 128) + k % 128 : ℕ) : ℤ) ≤ _
      rw [Nat.div_add_mod]
      exact ⟨hk.1, by omega⟩
    · exact Nat.div_add_mod k 128

variable (y : FVec Ideal S480x128 .f32) (t t' : FVec Ideal S8x128 .f32)

theorem count_eq {τ : ℝ} (hτ : 0 < τ) (hE : ⌊Real.log τ / Real.log 2⌋ ≤ 126) (hT : k1_pay60 y t t' = (τ : EReal)) :
    extractAt ![0, 0, 0] (k1_pay61 y t t') inpos_S1x1x1_p0_0_0 = BitVec.ofNat 32 (⌊Real.log τ / Real.log 2⌋ + 127).toNat := by
  obtain ⟨j, hj⟩ : ∃ j, extractAt ![0, 0, 0] (k1_pay61 y t t') inpos_S1x1x1_p0_0_0
      = Finset.fold IntOp.addi 0#32 (fun x => (hit (k1_pay60 y t t') (Shape.reshapeEquiv shapeCasts_S8x128_S1x8x128 x)).setWidth 32)
        (Finset.univ.filter fun i => reduces_S1x8x128_S1.drop i = j) :=
    ⟨_, multiReductionI_eq_fold .add _ _ _ rfl _⟩
  rw [hj, IndicatorCount.fold_addi_setWidth_eq_card, hT, ← card_hit hτ hE]
  congr 1
  have hd : ∀ x : S1x8x128.Idx, reduces_S1x8x128_S1.drop x = j := fun x => by
    funext a; apply Fin.ext
    have h1 := (reduces_S1x8x128_S1.drop x a).isLt
    have h2 := (j a).isLt
    match a with
    | ⟨0, _⟩ => exact (Nat.lt_one_iff.mp h1).trans (Nat.lt_one_iff.mp h2).symm
  simp only [hd, Finset.filter_true]
  exact Finset.card_bij (fun x _ => Shape.reshapeEquiv shapeCasts_S8x128_S1x8x128 x)
    (fun x hx => by rw [Finset.mem_filter] at hx ⊢; exact ⟨Finset.mem_univ _, hx.2⟩)
    (fun x _ y _ h => (Shape.reshapeEquiv shapeCasts_S8x128_S1x8x128).injective h)
    (fun x hx => ⟨(Shape.reshapeEquiv shapeCasts_S8x128_S1x8x128).symm x, by
      rw [Finset.mem_filter] at hx ⊢; rw [Equiv.apply_symm_apply]; exact ⟨Finset.mem_univ _, hx.2⟩, Equiv.apply_symm_apply _ _⟩)

/-- The exponent. -/
def expo : BitVec 32 := Scalar.select (Scalar.cmpf .ogt (k1_pay60 y t t') (Scalar.ofBits .f32 0x00000000#32 : Ideal .f32))
  (Scalar.subi (extractAt ![0, 0, 0] (k1_pay61 y t t') inpos_S1x1x1_p0_0_0) 126#32) 0#32

theorem expo_eq {τ : ℝ} (hτ : 0 < τ) (hE : ⌊Real.log τ / Real.log 2⌋ ≤ 126) (hT : k1_pay60 y t t' = (τ : EReal)) :
    expo y t t' = BitVec.ofNat 32 (⌊Real.log τ / Real.log 2⌋ + 127).toNat - 126#32 := by
  have h0 : Scalar.cmpf .ogt (k1_pay60 y t t') (Scalar.ofBits .f32 0x00000000#32 : Ideal .f32) = 1#1 := by
    rw [hT]
    show BitVec.ofBool (decide ((FloatOps.ofBits .f32 0x00000000#32 : Ideal .f32) < (τ : EReal))) = 1#1
    rw [show (FloatOps.ofBits .f32 0x00000000#32 : Ideal .f32) = (0 : EReal) from Ideal.ofBits_zero_f32]
    have : (0 : EReal) < (τ : EReal) := by exact_mod_cast hτ
    simp [this]
  rw [expo, h0, count_eq y t t' hτ hE hT]
  rfl

theorem word_facts (n : ℕ) (hn : n < 254) :
    Scalar.shli (Scalar.addi (BitVec.ofNat 32 n - 126#32) 127#32) 23#32 = BitVec.ofNat 32 (n + 1) <<< 23
    ∧ Scalar.shli (Scalar.subi 127#32 (BitVec.ofNat 32 n - 126#32)) 23#32 = BitVec.ofNat 32 (253 - n) <<< 23 := by
  have h : ∀ n : Fin 254, Scalar.shli (Scalar.addi (BitVec.ofNat 32 n.val - 126#32) 127#32) 23#32 = BitVec.ofNat 32 (n.val + 1) <<< 23
    ∧ Scalar.shli (Scalar.subi 127#32 (BitVec.ofNat 32 n.val - 126#32)) 23#32 = BitVec.ofNat 32 (253 - n.val) <<< 23 := by decide +kernel
  exact h ⟨n, hn⟩

/-- The scale: the power of two just above t. -/
theorem scale_eq {τ : ℝ} (hτ : 0 < τ) (hl : -127 ≤ ⌊Real.log τ / Real.log 2⌋) (hE : ⌊Real.log τ / Real.log 2⌋ ≤ 125) (hT : k1_pay60 y t t' = (τ : EReal)) :
    k1_pay1 (F := Ideal) (Scalar.shli (Scalar.addi (expo y t t') 127#32) 23#32) = (((2 : ℝ) ^ (⌊Real.log τ / Real.log 2⌋ + 1) : ℝ) : EReal) := by
  rw [expo_eq y t t' hτ (by omega) hT, (word_facts _ (by omega)).1]
  refine (ofBits_pow _ (by omega) (by omega)).trans ?_
  congr 2
  omega

/-- Its reciprocal. -/
theorem inv_eq {τ : ℝ} (hτ : 0 < τ) (hl : -127 ≤ ⌊Real.log τ / Real.log 2⌋) (hE : ⌊Real.log τ / Real.log 2⌋ ≤ 125) (hT : k1_pay60 y t t' = (τ : EReal)) :
    k1_pay2 (F := Ideal) (expo y t t') = (((2 : ℝ) ^ (-(⌊Real.log τ / Real.log 2⌋ + 1)) : ℝ) : EReal) := by
  unfold k1_pay2
  rw [expo_eq y t t' hτ (by omega) hT]
  show (FloatOps.ofBits .f32 (Scalar.shli (Scalar.subi 127#32 _) 23#32) : Ideal .f32) = _
  rw [(word_facts _ (by omega)).2]
  refine (ofBits_pow _ (by omega) (by omega)).trans ?_
  congr 2
  omega

end Cert.KernelIdeal.Two

end
-- ==== Proof.Quant.lean ====
/- What the second launch's first point leaves: each row's multiplier and shift, the scale and its reciprocal. -/
module

public import proofs.«01_k».proof.Proof.Region1
public import proofs.«01_k».proof.Proof.Expo
public import Idealize.ShloMosaic.Lib.WholeRead
public import Idealize.ShloMosaic.Lib.WritesUnit
public import Idealize.ShloMosaic.Lib.Pipeline.ValueKit.Tiles
public import Idealize.ShloMosaic.Lib.Tactic

@[expose] public section

set_option maxRecDepth 16384
set_option maxHeartbeats 1000000

noncomputable section

namespace Cert.KernelIdeal.Two

open Cert.KernelIdeal.Gen
open Idealize.ShloMosaic Idealize.ShloMosaic.TcCoe Idealize.ShloMosaic.Tactic Idealize.ShloMosaic.ValueIdx

/-- 480 rows of an array, from row o. -/
def rowsAt {α : Type} (o : ℕ) (X : S1920x128.Idx → α) : S480x128.Idx → α :=
  fun j => X (ix2 (⟨(o + (j 0).val) % 1920, Nat.mod_lt _ (by norm_num)⟩ : Fin 1920) (j 1 : Fin 128))

theorem rd_rows {e : EltTy} (M : Memref sig .tc .vmem S1920x128 e) (h : M.IsWhole) (X : S1920x128.Idx → Elt Ideal e) (o : ℕ)
    (inb : ∀ a : Fin 2, (![o, 0] : Fin 2 → ℕ) a + (![480, 128] : Fin 2 → ℕ) a ≤ S1920x128.size a) :
    View.readAt (Elt Ideal) M.view (Rect.unit (s := S1920x128) ![o, 0] ![480, 128] inb).toLoadRect (h.unread X) = rowsAt o X := by
  funext x
  refine (h.readAt_unread X _ x).trans (congrArg X ?_)
  have h0 : o + (x (0 : Fin 2)).val < 1920 := by
    have h1 : o + 480 ≤ 1920 := inb 0
    have h2 : (x (0 : Fin 2)).val < 480 := (x (0 : Fin 2)).isLt
    omega
  funext a; apply Fin.ext
  match a with
  | ⟨0, _⟩ =>
    refine (Rect.idx_unit_val (s := S1920x128) ![o, 0] ![480, 128] inb x (0 : Fin 2)).trans ?_
    exact (Nat.mod_eq_of_lt h0).symm
  | ⟨1, _⟩ =>
    refine (Rect.idx_unit_val (s := S1920x128) ![o, 0] ![480, 128] inb x (1 : Fin 2)).trans ?_
    exact Nat.zero_add _

theorem rd_all {e : EltTy} (M : Memref sig .tc .vmem S1x960 e) (h : M.IsWhole) (X : S1x960.Idx → Elt Ideal e)
    (inb : ∀ a : Fin 2, (![0, 0] : Fin 2 → ℕ) a + (![1, 960] : Fin 2 → ℕ) a ≤ S1x960.size a) :
    View.readAt (Elt Ideal) M.view (Rect.unit (s := S1x960) ![0, 0] ![1, 960] inb).toLoadRect (h.unread X) = X := by
  funext x
  refine (h.readAt_unread X _ x).trans (congrArg X ?_)
  funext a; apply Fin.ext
  refine (Rect.idx_unit_val (s := S1x960) ![0, 0] ![1, 960] inb x a).trans ?_
  match a with
  | ⟨0, _⟩ => exact Nat.zero_add _
  | ⟨1, _⟩ => exact Nat.zero_add _

theorem fold_ind : k1_pay8 (F := Ideal) k1_pay5 k1_pay6 k1_pay7 = ind := rfl

theorem read_11 (v : View sig .tc .smem S1x1 .f32) (inb : ∀ a : Fin 2, (![0, 0] : Fin 2 → ℕ) a + (![1, 1] : Fin 2 → ℕ) a ≤ S1x1.size a) (w : S1x1.Idx → Elt Ideal .f32) :
    View.read (Elt Ideal) v (v.writes (Elt Ideal) v.junk [⟨Rect.unit (s := S1x1) ![0, 0] ![1, 1] inb, w⟩]) = w := by
  have hz : (![0, 0] : Fin 2 → ℕ) = fun _ => 0 := by decide
  rw [View.read_writes_eq_canon v _ _ (fun y => ⟨_, List.mem_singleton_self _, View.mem_set_unit_zero (S := S1x1) hz inb y⟩)]
  exact View.canon_unit_zero (S := S1x1) hz inb w

theorem read_1 (v : View sig .tc .smem S1 .f32) (inb : ∀ a : Fin 1, (![0] : Fin 1 → ℕ) a + (![1] : Fin 1 → ℕ) a ≤ S1.size a) (w : S1.Idx → Elt Ideal .f32) :
    View.read (Elt Ideal) v (v.writes (Elt Ideal) v.junk [⟨Rect.unit (s := S1) ![0] ![1] inb, w⟩]) = w := by
  have hz : (![0] : Fin 1 → ℕ) = fun _ => 0 := by decide
  rw [View.read_writes_eq_canon v _ _ (fun y => ⟨_, List.mem_singleton_self _, View.mem_set_unit_zero (S := S1) hz inb y⟩)]
  exact View.canon_unit_zero (S := S1) hz inb w

variable (m : (ℓ : Loc nD τ sig) → Buf (Elt Ideal) ℓ) (c : Dev nD)

abbrev xg : S1x960.Idx → EReal := iblk1 m c 1 pt0
abbrev xt : S1x960.Idx → EReal := iblk1 m c 2 pt0
abbrev xs : S1920x128.Idx → EReal := iblk1 m c 3 pt0
abbrev xq : S1920x128.Idx → EReal := iblk1 m c 4 pt0
abbrev xmx : S1920x128.Idx → EReal := iblk1 m c 5 pt0
abbrev xmn : S1920x128.Idx → EReal := iblk1 m c 6 pt0

theorem p12 (g : FVec Ideal S1x960 .f32) : k1_pay12 g = half0 g := rfl

def A0 := uA (rowsAt 0 (xs m c)) (rowsAt 0 (xq m c)) (half0 (xg m c))
def A1 := uA (rowsAt 480 (xs m c)) (rowsAt 480 (xq m c)) (half1 (xg m c))
def A2 := uA (rowsAt 960 (xs m c)) (rowsAt 960 (xq m c)) (half0 (xg m c))
def A3 := uA (rowsAt 1440 (xs m c)) (rowsAt 1440 (xq m c)) (half1 (xg m c))
def B0 := uB (rowsAt 0 (xs m c)) (rowsAt 0 (xq m c)) (half0 (xg m c)) (half0 (xt m c))
def B1 := uB (rowsAt 480 (xs m c)) (rowsAt 480 (xq m c)) (half1 (xg m c)) (half1 (xt m c))
def B2 := uB (rowsAt 960 (xs m c)) (rowsAt 960 (xq m c)) (half0 (xg m c)) (half0 (xt m c))
def B3 := uB (rowsAt 1440 (xs m c)) (rowsAt 1440 (xq m c)) (half1 (xg m c)) (half1 (xt m c))
def Y0 := uY (A0 m c) (B0 m c) (rowsAt 0 (xmx m c)) (rowsAt 0 (xmn m c))
def Y1 := uY (A1 m c) (B1 m c) (rowsAt 480 (xmx m c)) (rowsAt 480 (xmn m c))
def Y2 := uY (A2 m c) (B2 m c) (rowsAt 960 (xmx m c)) (rowsAt 960 (xmn m c))
def Y3 := uY (A3 m c) (B3 m c) (rowsAt 1440 (xmx m c)) (rowsAt 1440 (xmn m c))
/-- The running maxima after each half. -/
def T0 : FVec Ideal S8x128 .f32 := k1_pay22 (Y0 m c) (k1_pay21 (Y0 m c) (k1_pay20 (k1_pay9 (F := Ideal)) (uMean (rowsAt 0 (xs m c))) (uVar (rowsAt 0 (xs m c)) (rowsAt 0 (xq m c)))
  (half0 (xg m c)) (half0 (xt m c)) (k1_pay14 (F := Ideal)) (rowsAt 0 (xmx m c)) (rowsAt 0 (xmn m c))))
def T1 : FVec Ideal S8x128 .f32 := k1_pay34 (Y1 m c) (k1_pay32 (Y1 m c) (k1_pay30 (T0 m c) (A1 m c) (B1 m c) (rowsAt 480 (xmx m c)) (rowsAt 480 (xmn m c)))
  (k1_pay31 (A1 m c) (B1 m c) (rowsAt 480 (xmx m c)) (rowsAt 480 (xmn m c)))) (k1_pay33 (Y1 m c))
def T2 : FVec Ideal S8x128 .f32 := k1_pay47 (Y2 m c) (k1_pay46 (Y2 m c) (k1_pay45 (T1 m c) (A2 m c) (B2 m c)
  (k1_pay42 ind (k1_pay35 (rowsAt 960 (xs m c))) (k1_pay36 (rowsAt 960 (xq m c))) (xg m c) (xt m c) (rowsAt 960 (xmx m c))) (k1_pay43 (F := Ideal)) (rowsAt 960 (xmn m c))))
def W3 : FVec Ideal S480x128 .f32 := k1_pay54 (uMean (rowsAt 1440 (xs m c))) (uVar0 (rowsAt 1440 (xs m c)) (rowsAt 1440 (xq m c))) (xg m c) (xt m c) (rowsAt 1440 (xmx m c))
def T3 : FVec Ideal S8x128 .f32 := k1_pay58 (Y3 m c) (k1_pay56 (T2 m c) (A3 m c) (B3 m c) (W3 m c) (rowsAt 1440 (xmn m c)))
  (k1_pay57 (A3 m c) (B3 m c) (W3 m c) (rowsAt 1440 (xmn m c)))
def T4 : FVec Ideal S8x128 .f32 := k1_pay59 (Y3 m c)

theorem outA_eq : outA (F := Ideal) m c = View.read (Elt Ideal) scA.view (scA.view.writes (Elt Ideal) scA.view.junk
    [⟨Rect.unit (s := S1920x128) ![1440, 0] ![480, 128] inb_S1920x128_S480x128_1440_0, A3 m c⟩, ⟨Rect.unit (s := S1920x128) ![960, 0] ![480, 128] inb_S1920x128_S480x128_960_0, A2 m c⟩,
     ⟨Rect.unit (s := S1920x128) ![480, 0] ![480, 128] inb_S1920x128_S480x128_480_0, A1 m c⟩, ⟨Rect.unit (s := S1920x128) ![0, 0] ![480, 128] inb_S1920x128_S480x128_0_0, A0 m c⟩]) := by
  unfold outA firstRun; dsimp only; sl_unfold_words
  simp only [rd_rows, rd_all, fold_ind, p10, p11, p12, p13, p17, p18, p23, p25, p26, p27, p28, p38, p39, p40, p41, p44, p48, p49, p50, p51, p52, p53, p55]
  rfl

theorem outB_eq : outB (F := Ideal) m c = View.read (Elt Ideal) scB.view (scB.view.writes (Elt Ideal) scB.view.junk
    [⟨Rect.unit (s := S1920x128) ![1440, 0] ![480, 128] inb_S1920x128_S480x128_1440_0, B3 m c⟩, ⟨Rect.unit (s := S1920x128) ![960, 0] ![480, 128] inb_S1920x128_S480x128_960_0, B2 m c⟩,
     ⟨Rect.unit (s := S1920x128) ![480, 0] ![480, 128] inb_S1920x128_S480x128_480_0, B1 m c⟩, ⟨Rect.unit (s := S1920x128) ![0, 0] ![480, 128] inb_S1920x128_S480x128_0_0, B0 m c⟩]) := by
  unfold outB firstRun; dsimp only; sl_unfold_words
  simp only [rd_rows, rd_all, fold_ind, p10, p11, p12, p13, p17, p18, p23, p25, p26, p27, p28, p38, p39, p40, p41, p44, p48, p49, p50, p51, p52, p53, p55]
  rfl

theorem outS_eq : outS (F := Ideal) m c = fun _ => k1_pay1 (F := Ideal) (Scalar.shli (Scalar.addi (expo (Y3 m c) (T3 m c) (T4 m c)) 127#32) 23#32) := by
  unfold outS firstRun; dsimp only; sl_unfold_words
  simp only [rd_rows, rd_all, fold_ind, p10, p11, p12, p13, p19, p23, p25, p26, p29, p38, p39, p44, p48, p49, p50, p51, p55]
  exact read_11 _ _ _

theorem outI_eq : outI (F := Ideal) m c = fun _ => k1_pay2 (F := Ideal) (expo (Y3 m c) (T3 m c) (T4 m c)) := by
  unfold outI firstRun; dsimp only; sl_unfold_words
  simp only [rd_rows, rd_all, fold_ind, p10, p11, p12, p13, p19, p23, p25, p26, p29, p38, p39, p44, p48, p49, p50, p51, p55]
  exact read_1 _ _ _

end Cert.KernelIdeal.Two

end
-- ==== Proof.QuantVal.lean ====
/- The multiplier, the shift and the peak at each row, as closed formulas of the statistics. -/
module

public import proofs.«01_k».proof.Proof.Quant

@[expose] public section

set_option maxRecDepth 16384
set_option maxHeartbeats 1000000

noncomputable section

namespace Cert.KernelIdeal.Two

open Cert.KernelIdeal.Gen
open Idealize.ShloMosaic Idealize.ShloMosaic.TcCoe Idealize.ShloMosaic.Tactic Idealize.ShloMosaic.ValueIdx

/-- The value of a channel row at a row's channel. -/
def chan (g : S1x960.Idx → EReal) (r : ℕ) : EReal := g (ix2 (0 : Fin 1) (⟨r % 960, Nat.mod_lt _ (by norm_num)⟩ : Fin 960))
/-- The mean over a row's group. -/
def gM (X : S1920x128.Idx → EReal) (r : ℕ) : EReal :=
  (∑ k : Fin 480, (if r % 480 / 30 = k.val / 30 then (1 : EReal) else 0) * ∑ l' : Fin 128, rowsAt (480 * (r / 480)) X (ix2 k l'))
    * ((491520⁻¹ : ℝ) : EReal)
/-- The variance over a row's group. -/
def gV (X Q : S1920x128.Idx → EReal) (r : ℕ) : EReal := max (gM Q r - gM X r * gM X r) (Idealize.ShloMosaic.Ideal.ofBits .f32 0x00000000#32)
/-- The multiplier of a row. -/
def gA (X Q : S1920x128.Idx → EReal) (g : S1x960.Idx → EReal) (r : ℕ) : EReal :=
  Idealize.ShloMosaic.Ideal.rsqrt (gV X Q r + Idealize.ShloMosaic.Ideal.ofBits .f32 0x3727C5AC#32) * chan g r
/-- The shift of a row. -/
def gB (X Q : S1920x128.Idx → EReal) (g t : S1x960.Idx → EReal) (r : ℕ) : EReal := chan t r - gM X r * gA X Q g r
/-- v / (1 + e⁻ᵛ). -/
def siluE (v : EReal) : EReal := v * Idealize.ShloMosaic.Ideal.div (Idealize.ShloMosaic.Ideal.ofBits .f32 0x3F800000#32)
  (Idealize.ShloMosaic.Ideal.ofBits .f32 0x3F800000#32 + Idealize.ShloMosaic.Ideal.exp (Idealize.ShloMosaic.Ideal.ofBits .f32 0x00000000#32 - v))
/-- The greater absolute value at the two ends of the range. -/
def endsE (a b hi lo : EReal) : EReal := max (max (siluE (hi * a + b)) (-siluE (hi * a + b))) (max (siluE (lo * a + b)) (-siluE (lo * a + b)))

section
variable (u : ℕ) (X Q : S1920x128.Idx → EReal) (i : Fin 480) (l : Fin 128)

theorem row_mod : (480 * u + i.val) % 480 = i.val := by have := i.isLt; omega
theorem row_div : (480 * u + i.val) / 480 = u := by have := i.isLt; omega

theorem uMean_row : uMean (rowsAt (480 * u) X) (ix2 i l) = gM X (480 * u + i.val) := by
  rw [uMean_apply]; unfold gM; rw [row_mod, row_div]

theorem uVar_row : uVar (rowsAt (480 * u) X) (rowsAt (480 * u) Q) (ix2 i l) = gV X Q (480 * u + i.val) := by
  unfold gV; rw [← uMean_row u X i l, ← uMean_row u Q i l]; rfl

theorem uA_row (h : FVec Ideal S480x128 .f32) (g : S1x960.Idx → EReal) (hh : h (ix2 i l) = chan g (480 * u + i.val)) :
    uA (rowsAt (480 * u) X) (rowsAt (480 * u) Q) h (ix2 i l) = gA X Q g (480 * u + i.val) := by
  unfold gA; rw [← uVar_row u X Q i l, ← hh]; rfl

theorem uB_row (h t : FVec Ideal S480x128 .f32) (g b : S1x960.Idx → EReal) (hh : h (ix2 i l) = chan g (480 * u + i.val))
    (ht : t (ix2 i l) = chan b (480 * u + i.val)) :
    uB (rowsAt (480 * u) X) (rowsAt (480 * u) Q) h t (ix2 i l) = gB X Q g b (480 * u + i.val) := by
  unfold gB; rw [← uA_row u X Q i l h g hh, ← uMean_row u X i l, ← ht]; rfl

theorem uY_row (a b : FVec Ideal S480x128 .f32) (mx mn : FVec Ideal S480x128 .bf16) :
    uY a b mx mn (ix2 i l) = endsE (a (ix2 i l)) (b (ix2 i l)) (mx (ix2 i l)) (mn (ix2 i l)) := rfl

theorem half0_row (g : S1x960.Idx → EReal) (v : ℕ) (hu : u = 2 * v) : half0 g (ix2 i l) = chan g (480 * u + i.val) := by
  rw [half0_apply]; unfold chan
  refine congrArg (fun k : Fin 960 => g (ix2 (0 : Fin 1) k)) (Fin.ext ?_)
  have := i.isLt
  show i.val = (480 * u + i.val) % 960
  omega

theorem half1_row (g : S1x960.Idx → EReal) (v : ℕ) (hu : u = 2 * v + 1) : half1 g (ix2 i l) = chan g (480 * u + i.val) := by
  rw [half1_apply]; unfold chan
  refine congrArg (fun k : Fin 960 => g (ix2 (0 : Fin 1) k)) (Fin.ext ?_)
  have := i.isLt
  show 480 + i.val = (480 * u + i.val) % 960
  omega
end

variable (m : (ℓ : Loc nD τ sig) → Buf (Elt Ideal) ℓ) (c : Dev nD)

theorem A0_row (i : Fin 480) (l : Fin 128) : A0 m c (ix2 i l) = gA (xs m c) (xq m c) (xg m c) (480 * 0 + i.val) :=
  uA_row 0 _ _ i l _ _ (half0_row 0 i l _ 0 rfl)
theorem A1_row (i : Fin 480) (l : Fin 128) : A1 m c (ix2 i l) = gA (xs m c) (xq m c) (xg m c) (480 * 1 + i.val) :=
  uA_row 1 _ _ i l _ _ (half1_row 1 i l _ 0 rfl)
theorem A2_row (i : Fin 480) (l : Fin 128) : A2 m c (ix2 i l) = gA (xs m c) (xq m c) (xg m c) (480 * 2 + i.val) :=
  uA_row 2 _ _ i l _ _ (half0_row 2 i l _ 1 rfl)
theorem A3_row (i : Fin 480) (l : Fin 128) : A3 m c (ix2 i l) = gA (xs m c) (xq m c) (xg m c) (480 * 3 + i.val) :=
  uA_row 3 _ _ i l _ _ (half1_row 3 i l _ 1 rfl)
theorem B0_row (i : Fin 480) (l : Fin 128) : B0 m c (ix2 i l) = gB (xs m c) (xq m c) (xg m c) (xt m c) (480 * 0 + i.val) :=
  uB_row 0 _ _ i l _ _ _ _ (half0_row 0 i l _ 0 rfl) (half0_row 0 i l _ 0 rfl)
theorem B1_row (i : Fin 480) (l : Fin 128) : B1 m c (ix2 i l) = gB (xs m c) (xq m c) (xg m c) (xt m c) (480 * 1 + i.val) :=
  uB_row 1 _ _ i l _ _ _ _ (half1_row 1 i l _ 0 rfl) (half1_row 1 i l _ 0 rfl)
theorem B2_row (i : Fin 480) (l : Fin 128) : B2 m c (ix2 i l) = gB (xs m c) (xq m c) (xg m c) (xt m c) (480 * 2 + i.val) :=
  uB_row 2 _ _ i l _ _ _ _ (half0_row 2 i l _ 1 rfl) (half0_row 2 i l _ 1 rfl)
theorem B3_row (i : Fin 480) (l : Fin 128) : B3 m c (ix2 i l) = gB (xs m c) (xq m c) (xg m c) (xt m c) (480 * 3 + i.val) :=
  uB_row 3 _ _ i l _ _ _ _ (half1_row 3 i l _ 1 rfl) (half1_row 3 i l _ 1 rfl)

/-- The four pieces of rows read back at a row. -/
theorem read_four {e : EltTy} (v : View sig .tc .vmem S1920x128 e) (P0 P1 P2 P3 : S480x128.Idx → Elt Ideal e) (G : ℕ → Fin 128 → Elt Ideal e)
    (h0 : ∀ i l, P0 (ix2 i l) = G (480 * 0 + i.val) l) (h1 : ∀ i l, P1 (ix2 i l) = G (480 * 1 + i.val) l)
    (h2 : ∀ i l, P2 (ix2 i l) = G (480 * 2 + i.val) l) (h3 : ∀ i l, P3 (ix2 i l) = G (480 * 3 + i.val) l) (r : Fin 1920) (l : Fin 128) :
    View.read (Elt Ideal) v (v.writes (Elt Ideal) v.junk
    [⟨Rect.unit (s := S1920x128) ![1440, 0] ![480, 128] inb_S1920x128_S480x128_1440_0, P3⟩, ⟨Rect.unit (s := S1920x128) ![960, 0] ![480, 128] inb_S1920x128_S480x128_960_0, P2⟩,
     ⟨Rect.unit (s := S1920x128) ![480, 0] ![480, 128] inb_S1920x128_S480x128_480_0, P1⟩, ⟨Rect.unit (s := S1920x128) ![0, 0] ![480, 128] inb_S1920x128_S480x128_0_0, P0⟩]) (ix2 r l)
      = G r.val l := by
  have hr := r.isLt
  rcases lt_or_ge r.val 1440 with a3 | a3
  · refine (View.read_writes_cons_rows_of_not_mem v _ _ _ _ (ix2 r l) rfl rfl (Or.inl a3)).trans ?_
    rcases lt_or_ge r.val 960 with a2 | a2
    · refine (View.read_writes_cons_rows_of_not_mem v _ _ _ _ (ix2 r l) rfl rfl (Or.inl a2)).trans ?_
      rcases lt_or_ge r.val 480 with a1 | a1
      · refine (View.read_writes_cons_rows_of_not_mem v _ _ _ _ (ix2 r l) rfl rfl (Or.inl a1)).trans ?_
        refine (View.read_writes_cons_rows_of_mem v _ _ _ _ (ix2 r l) (ix2 (⟨r.val, a1⟩ : Fin 480) l) rfl (Nat.zero_add _).symm rfl).trans ?_
        refine (h0 _ _).trans (congrArg (fun n => G n l) ?_); exact Nat.zero_add _
      · refine (View.read_writes_cons_rows_of_mem v _ _ _ _ (ix2 r l) (ix2 (⟨r.val - 480, by omega⟩ : Fin 480) l) rfl (Nat.add_sub_of_le a1).symm rfl).trans ?_
        refine (h1 _ _).trans (congrArg (fun n => G n l) ?_); exact Nat.add_sub_of_le a1
    · refine (View.read_writes_cons_rows_of_mem v _ _ _ _ (ix2 r l) (ix2 (⟨r.val - 960, by omega⟩ : Fin 480) l) rfl (Nat.add_sub_of_le a2).symm rfl).trans ?_
      refine (h2 _ _).trans (congrArg (fun n => G n l) ?_); exact Nat.add_sub_of_le a2
  · refine (View.read_writes_cons_rows_of_mem v _ _ _ _ (ix2 r l) (ix2 (⟨r.val - 1440, by omega⟩ : Fin 480) l) rfl (Nat.add_sub_of_le a3).symm rfl).trans ?_
    refine (h3 _ _).trans (congrArg (fun n => G n l) ?_); exact Nat.add_sub_of_le a3

/-- The multipliers the first point leaves. -/
theorem outA_apply (r : Fin 1920) (l : Fin 128) : outA (F := Ideal) m c (ix2 r l) = gA (xs m c) (xq m c) (xg m c) r.val := by
  rw [outA_eq]
  exact read_four scA.view _ _ _ _ (fun n _ => gA (xs m c) (xq m c) (xg m c) n) (A0_row m c) (A1_row m c) (A2_row m c) (A3_row m c) r l
/-- The shifts the first point leaves. -/
theorem outB_apply (r : Fin 1920) (l : Fin 128) : outB (F := Ideal) m c (ix2 r l) = gB (xs m c) (xq m c) (xg m c) (xt m c) r.val := by
  rw [outB_eq]
  exact read_four scB.view _ _ _ _ (fun n _ => gB (xs m c) (xq m c) (xg m c) (xt m c) n) (B0_row m c) (B1_row m c) (B2_row m c) (B3_row m c) r l

/-- What the peak takes at a row and lane. -/
def gY (r : ℕ) (l : Fin 128) : EReal :=
  endsE (gA (xs m c) (xq m c) (xg m c) r) (gB (xs m c) (xq m c) (xg m c) (xt m c) r)
    (xmx m c (ix2 (⟨r % 1920, Nat.mod_lt _ (by norm_num)⟩ : Fin 1920) l)) (xmn m c (ix2 (⟨r % 1920, Nat.mod_lt _ (by norm_num)⟩ : Fin 1920) l))

theorem Y0_row (i : Fin 480) (l : Fin 128) : Y0 m c (ix2 i l) = gY m c (480 * 0 + i.val) l := by
  unfold Y0 gY; rw [uY_row, A0_row, B0_row]; rfl
theorem Y1_row (i : Fin 480) (l : Fin 128) : Y1 m c (ix2 i l) = gY m c (480 * 1 + i.val) l := by
  unfold Y1 gY; rw [uY_row, A1_row, B1_row]; rfl
theorem Y2_row (i : Fin 480) (l : Fin 128) : Y2 m c (ix2 i l) = gY m c (480 * 2 + i.val) l := by
  unfold Y2 gY; rw [uY_row, A2_row, B2_row]; rfl
theorem Y3_row (i : Fin 480) (l : Fin 128) : Y3 m c (ix2 i l) = gY m c (480 * 3 + i.val) l := by
  unfold Y3 gY; rw [uY_row, A3_row, B3_row]; rfl

theorem base_le (j : S8x128.Idx) (z : EReal) : k1_pay9 (F := Ideal) j ≤ z ↔ 0 ≤ z := by
  have h : k1_pay9 (F := Ideal) j = (0 : EReal) := Idealize.ShloMosaic.Ideal.ofBits_zero_f32
  rw [h]

theorem T0_le (i : Fin 8) (l : Fin 128) (z : EReal) : T0 m c (ix2 i l) ≤ z ↔ 0 ≤ z ∧ Bd (Y0 m c) i l z 0 60 := by
  unfold T0
  rw [t22, t21, t20, base_le, p19, Bd_split (Y0 m c) i l z 0 32 60 (by norm_num) (by norm_num), Bd_split (Y0 m c) i l z 0 2 32 (by norm_num) (by norm_num)]
  unfold Y0 A0 B0
  tauto
theorem T1_le (i : Fin 8) (l : Fin 128) (z : EReal) : T1 m c (ix2 i l) ≤ z ↔ T0 m c (ix2 i l) ≤ z ∧ Bd (Y1 m c) i l z 0 60 := by
  unfold T1
  have h : k1_pay29 (A1 m c) (B1 m c) (rowsAt 480 (xmx m c)) (rowsAt 480 (xmn m c)) = Y1 m c := p29 ..
  rw [t34, t32, t33, t31, t30, h, Bd_split (Y1 m c) i l z 0 39 60 (by norm_num) (by norm_num), Bd_split (Y1 m c) i l z 0 38 39 (by norm_num) (by norm_num),
    Bd_split (Y1 m c) i l z 0 9 38 (by norm_num) (by norm_num), Bd_split (Y1 m c) i l z 0 8 9 (by norm_num) (by norm_num)]
  tauto
theorem T2_le (i : Fin 8) (l : Fin 128) (z : EReal) : T2 m c (ix2 i l) ≤ z ↔ T1 m c (ix2 i l) ≤ z ∧ Bd (Y2 m c) i l z 0 60 := by
  unfold T2
  rw [t47, t46, t45, Bd_split (Y2 m c) i l z 0 45 60 (by norm_num) (by norm_num), Bd_split (Y2 m c) i l z 0 15 45 (by norm_num) (by norm_num)]
  have h : k1_pay44 (A2 m c) (B2 m c) (k1_pay42 ind (k1_pay35 (rowsAt 960 (xs m c))) (k1_pay36 (rowsAt 960 (xq m c))) (xg m c) (xt m c) (rowsAt 960 (xmx m c)))
      (k1_pay43 (F := Ideal)) (rowsAt 960 (xmn m c)) = Y2 m c := p44 ..
  rw [h]
  tauto
theorem T3_le (i : Fin 8) (l : Fin 128) (z : EReal) :
    T3 m c (ix2 i l) ≤ z ∧ T4 m c (ix2 i l) ≤ z ↔ T2 m c (ix2 i l) ≤ z ∧ Bd (Y3 m c) i l z 0 52 := by
  unfold T3 T4
  have h : k1_pay55 (A3 m c) (B3 m c) (W3 m c) (rowsAt 1440 (xmn m c)) = Y3 m c := p55 ..
  rw [t58, t59, t57, t56, h, Bd_split (Y3 m c) i l z 0 51 52 (by norm_num) (by norm_num), Bd_split (Y3 m c) i l z 0 22 51 (by norm_num) (by norm_num),
    Bd_split (Y3 m c) i l z 0 21 22 (by norm_num) (by norm_num)]
  tauto

theorem Bd_all (y : FVec Ideal S480x128 .f32) (G : ℕ → Fin 128 → EReal) (u : ℕ) (hG : ∀ i l, y (ix2 i l) = G (480 * u + i.val) l) (z : EReal) :
    (∀ i l, Bd y i l z 0 60) ↔ ∀ (i : Fin 480) l, G (480 * u + i.val) l ≤ z := by
  constructor
  · intro h i l
    have := i.isLt
    have h1 := h ⟨i.val % 8, Nat.mod_lt _ (by norm_num)⟩ l (i.val / 8) (Nat.zero_le _) (by omega)
    have h2 : 8 * (i.val / 8) + i.val % 8 = i.val := Nat.div_add_mod _ _
    simp only [h2, yext, this, dif_pos] at h1
    rw [← hG]; exact h1
  · intro h i l r _ h2
    have := i.isLt
    have h3 : 8 * r + i.val < 480 := by omega
    simp only [yext, h3, dif_pos]
    rw [hG]; exact h _ _

/-- The peak is the least bound of nothing and of every row's ends. -/
theorem peak_iff (z : EReal) : peak (Y3 m c) (T3 m c) (T4 m c) ≤ z ↔ 0 ≤ z ∧ ∀ (r : Fin 1920) l, gY m c r.val l ≤ z := by
  rw [peak_le_iff]
  have e : ∀ i l, ((T3 m c (ix2 i l) ≤ z ∧ T4 m c (ix2 i l) ≤ z) ∧ Bd (Y3 m c) i l z 52 60) ↔
      (0 ≤ z ∧ Bd (Y0 m c) i l z 0 60 ∧ Bd (Y1 m c) i l z 0 60 ∧ Bd (Y2 m c) i l z 0 60 ∧ Bd (Y3 m c) i l z 0 60) := fun i l => by
    rw [T3_le, T2_le, T1_le, T0_le, Bd_split (Y3 m c) i l z 0 52 60 (by norm_num) (by norm_num)]
    simp only [and_assoc]
  have b0 := Bd_all (Y0 m c) (gY m c) 0 (Y0_row m c) z
  have b1 := Bd_all (Y1 m c) (gY m c) 1 (Y1_row m c) z
  have b2 := Bd_all (Y2 m c) (gY m c) 2 (Y2_row m c) z
  have b3 := Bd_all (Y3 m c) (gY m c) 3 (Y3_row m c) z
  constructor
  · intro h
    have h' := fun i l => (e i l).mp (h i l)
    refine ⟨(h' 0 0).1, fun r l => ?_⟩
    have hr := r.isLt
    have hd : 480 * (r.val / 480) + r.val % 480 = r.val := Nat.div_add_mod _ _
    have hm : r.val % 480 < 480 := Nat.mod_lt _ (by norm_num)
    rw [← hd]
    have hq : r.val / 480 < 4 := by omega
    generalize r.val / 480 = q at hq
    interval_cases q
    · exact b0.mp (fun i l => (h' i l).2.1) ⟨_, hm⟩ l
    · exact b1.mp (fun i l => (h' i l).2.2.1) ⟨_, hm⟩ l
    · exact b2.mp (fun i l => (h' i l).2.2.2.1) ⟨_, hm⟩ l
    · exact b3.mp (fun i l => (h' i l).2.2.2.2) ⟨_, hm⟩ l
  · rintro ⟨hz, h⟩ i l
    have hh : ∀ n l, n < 1920 → gY m c n l ≤ z := fun n l hn => h ⟨n, hn⟩ l
    exact (e i l).mpr ⟨hz, b0.mpr (fun i l => hh _ l (by have := i.isLt; omega)) i l, b1.mpr (fun i l => hh _ l (by have := i.isLt; omega)) i l,
      b2.mpr (fun i l => hh _ l (by have := i.isLt; omega)) i l, b3.mpr (fun i l => hh _ l (by have := i.isLt; omega)) i l⟩

end Cert.KernelIdeal.Two

end
-- ==== Proof.Codes.lean ====
/- What a step of the second launch leaves in its codes: each entry's scaled, clipped value. -/
module

public import proofs.«01_k».proof.Proof.QuantVal
public import Idealize.ShloMosaic.Lib.Pipeline.Value

@[expose] public section

set_option maxRecDepth 16384
set_option maxHeartbeats 1000000

noncomputable section

namespace Cert.KernelIdeal.Two

open Cert.KernelIdeal.Gen
open Idealize.ShloMosaic Idealize.ShloMosaic.TcCoe Idealize.ShloMosaic.Tactic Idealize.ShloMosaic.ValueIdx

/-- One code before rounding: the activated, scaled value held to plus or minus 448. -/
def codeE (a b s x : EReal) : EReal :=
  min (Scalar.ofBits (F := Ideal) .f32 0x43E00000#32) (max (Scalar.ofBits (F := Ideal) .f32 0xC3E00000#32) (siluE (x * a + b) * s))

/-- The codes of 32 rows, from each row's multiplier and shift. -/
def codesOf (A B : S32x128.Idx → EReal) (s : EReal) (X : S32x16384.Idx → EReal) : S32x16384.Idx → EReal := fun p =>
  codeE (A (ix2 (p 0 : Fin 32) (⟨(p 1).val % 128, Nat.mod_lt _ (by norm_num)⟩ : Fin 128)))
    (B (ix2 (p 0 : Fin 32) (⟨(p 1).val % 128, Nat.mod_lt _ (by norm_num)⟩ : Fin 128))) s (X p)

theorem offC_eq : ∀ (k : Fin k1_t1_loop.trips) (j : Fin 8), k1_off2 k (BitVec.ofNat 32 (128 * j.val)) (0 : Fin 2) = 0
    ∧ k1_off2 k (BitVec.ofNat 32 (128 * j.val)) (1 : Fin 2) = 128 * (8 * k.val + j.val) := by decide +kernel

theorem pay4_at (v6 v8 : FVec Ideal S32x128 .f32) (s : EReal) (x : FVec Ideal S32x128 .bf16) (y : S32x128.Idx) :
    k1_pay4 (F := Ideal) v6 v8 s x y = codeE (v6 y) (v8 y) s (x y) := by
  unfold k1_pay4
  rw [shapeCast_self]
  rfl

/-- One tile of a trip is the codes at its place. -/
theorem tile_ok (M : Memref sig .tc .vmem S32x16384 .bf16) (h : M.IsWhole) (X : S32x16384.Idx → EReal) (A B : S32x128.Idx → EReal) (s : EReal) (off : Fin 2 → ℕ)
    (inb : ∀ a : Fin 2, off a + S32x128.size a ≤ S32x16384.size a) (inb' : ∀ a : Fin 2, off a + S32x128.size a ≤ S32x16384.size a)
    (n : ℕ) (ho : off 0 = 0 ∧ off 1 = 128 * n) (y : S32x128.Idx) :
    k1_pay4 (F := Ideal) A B s (View.readAt (Elt Ideal) M.view (Rect.unit (s := S32x16384) off S32x128.size inb).toLoadRect (h.unread (Val := Elt Ideal) X)) y
      = codesOf A B s X ((Rect.unit (s := S32x16384) off S32x128.size inb').emb y) := by
  rw [pay4_at]
  have e0 : View.readAt (Elt Ideal) M.view (Rect.unit (s := S32x16384) off S32x128.size inb).toLoadRect (h.unread (Val := Elt Ideal) X)
      = fun y => X ((Rect.unit (s := S32x16384) off S32x128.size inb').emb y) := by
    funext y
    refine (h.readAt_unread (Val := Elt Ideal) X _ y).trans (congrArg X (funext fun a => Fin.ext ?_))
    exact (Rect.idx_unit_val (s := S32x16384) off S32x128.size inb y a).trans (Rect.idx_unit_val (s := S32x16384) off S32x128.size inb' y a).symm
  rw [e0]
  unfold codesOf
  have e : ix2 (((Rect.unit (s := S32x16384) off S32x128.size inb').emb y) 0 : Fin 32)
      (⟨(((Rect.unit (s := S32x16384) off S32x128.size inb').emb y) 1).val % 128, Nat.mod_lt _ (by norm_num)⟩ : Fin 128) = y := by
    have hy : (y (1 : Fin 2)).val < 128 := (y (1 : Fin 2)).isLt
    funext a; apply Fin.ext
    match a with
    | ⟨0, _⟩ =>
      refine (Rect.idx_unit_val (s := S32x16384) off S32x128.size inb' y 0).trans ?_
      show off 0 + (y (0 : Fin 2)).val = (y (0 : Fin 2)).val
      rw [ho.1, Nat.zero_add]
    | ⟨1, _⟩ =>
      show (((Rect.unit (s := S32x16384) off S32x128.size inb').emb y) 1).val % 128 = (y (1 : Fin 2)).val
      rw [show (((Rect.unit (s := S32x16384) off S32x128.size inb').emb y) 1).val = off 1 + (y (1 : Fin 2)).val from Rect.idx_unit_val (s := S32x16384) off S32x128.size inb' y 1]
      rw [ho.2]; omega
  exact congrArg (fun q => codeE (A q) (B q) s (X ((Rect.unit (s := S32x16384) off S32x128.size inb').emb y))) e.symm

section
variable (𝒱 : Variants) (c : Dev nD) (bd : Option 𝒱.V) (i : grid1.Coords) (arg1 : Memref sig .tc .vmem S32x16384 .bf16) (harg1 : arg1.IsWhole) (arg2 : Memref sig .tc .vmem S1x960 .f32) (harg2 : arg2.IsWhole) (arg3 : Memref sig .tc .vmem S1x960 .f32) (harg3 : arg3.IsWhole) (arg4 : Memref sig .tc .vmem S1920x128 .f32) (harg4 : arg4.IsWhole) (arg5 : Memref sig .tc .vmem S1920x128 .f32) (harg5 : arg5.IsWhole) (arg6 : Memref sig .tc .vmem S1920x128 .bf16) (harg6 : arg6.IsWhole) (arg7 : Memref sig .tc .vmem S1920x128 .bf16) (harg7 : arg7.IsWhole) (arg8 : Memref sig .tc .vmem S32x16384 .fp8e4m3) (harg8 : arg8.IsWhole) (arg9 : Memref sig .tc .smem S1x1 .f32) (harg9 : arg9.IsWhole) (arg10 : Memref sig .tc .vmem S1920x128 .f32) (harg10 : arg10.IsWhole) (arg11 : Memref sig .tc .vmem S1920x128 .f32) (harg11 : arg11.IsWhole) (arg12 : Memref sig .tc .smem S1 .f32) (harg12 : arg12.IsWhole)
  (A B : S32x128.Idx → EReal) (s : EReal) (X : S32x16384.Idx → EReal)

/-- Every piece of a trip is the codes at its place. -/
theorem tripC_ok (k : Fin k1_t1_loop.trips) : ∀ p ∈ tripL_k1_t1 (F := Ideal) 𝒱 c bd i arg1 harg1 arg2 harg2 arg3 harg3 arg4 harg4 arg5 harg5 arg6 harg6 arg7 harg7 arg8 harg8 arg9 harg9 arg10 harg10 arg11 harg11 arg12 harg12 A B s (harg1.unread (Val := Elt Ideal) X) k,
    ∀ y : p.1.shape.Idx, p.2 y = codesOf A B s X (p.1.emb y) := by
  intro p hp
  unfold tripL_k1_t1 trip_k1_t1 at hp
  dsimp only at hp
  simp only [List.mem_cons, List.not_mem_nil, or_false] at hp
  have o := offC_eq k
  rcases hp with rfl | rfl | rfl | rfl | rfl | rfl | rfl | rfl <;> intro y
  · exact tile_ok arg1 harg1 X A B s (k1_off2 k 896#32) (k1_off2_inb k 7) (k1_off2_inb k 7) _ (o 7) y
  · exact tile_ok arg1 harg1 X A B s (k1_off2 k 768#32) (k1_off2_inb k 6) (k1_off2_inb k 6) _ (o 6) y
  · exact tile_ok arg1 harg1 X A B s (k1_off2 k 640#32) (k1_off2_inb k 5) (k1_off2_inb k 5) _ (o 5) y
  · exact tile_ok arg1 harg1 X A B s (k1_off2 k 512#32) (k1_off2_inb k 4) (k1_off2_inb k 4) _ (o 4) y
  · exact tile_ok arg1 harg1 X A B s (k1_off2 k 384#32) (k1_off2_inb k 3) (k1_off2_inb k 3) _ (o 3) y
  · exact tile_ok arg1 harg1 X A B s (k1_off2 k 256#32) (k1_off2_inb k 2) (k1_off2_inb k 2) _ (o 2) y
  · exact tile_ok arg1 harg1 X A B s (k1_off2 k 128#32) (k1_off2_inb k 1) (k1_off2_inb k 1) _ (o 1) y
  · exact tile_ok arg1 harg1 X A B s (k1_off2 k 0#32) (k1_off2_inb k 0) (k1_off2_inb k 0) _ (o 0) y

theorem pbC_ok (n : ℕ) (hn : n ≤ k1_t1_loop.trips) : ∀ p ∈ pb_k1_t1 (F := Ideal) 𝒱 c bd i arg1 harg1 arg2 harg2 arg3 harg3 arg4 harg4 arg5 harg5 arg6 harg6 arg7 harg7 arg8 harg8 arg9 harg9 arg10 harg10 arg11 harg11 arg12 harg12 A B s (harg1.unread (Val := Elt Ideal) X) n,
    ∀ y : p.1.shape.Idx, p.2 y = codesOf A B s X (p.1.emb y) := by
  induction n with
  | zero => intro p hp; exact absurd hp (by unfold pb_k1_t1; exact List.not_mem_nil)
  | succ n ih =>
    intro p hp
    rw [pb_k1_t1_succ (F := Ideal) 𝒱 c bd i arg1 harg1 arg2 harg2 arg3 harg3 arg4 harg4 arg5 harg5 arg6 harg6 arg7 harg7 arg8 harg8 arg9 harg9 arg10 harg10 arg11 harg11 arg12 harg12 A B s (harg1.unread (Val := Elt Ideal) X) ⟨n, hn⟩] at hp
    rcases List.mem_append.mp hp with hp | hp
    · exact tripC_ok 𝒱 c bd i arg1 harg1 arg2 harg2 arg3 harg3 arg4 harg4 arg5 harg5 arg6 harg6 arg7 harg7 arg8 harg8 arg9 harg9 arg10 harg10 arg11 harg11 arg12 harg12 A B s X ⟨n, hn⟩ p hp
    · exact ih (Nat.le_of_succ_le hn) p hp
end

variable (m : (ℓ : Loc nD τ sig) → Buf (Elt Ideal) ℓ) (c : Dev nD)

/-- 32 rows of an array, from row o. -/
def rows32 (o : ℕ) (X : S1920x128.Idx → EReal) : S32x128.Idx → EReal :=
  fun j => X (ix2 (⟨(o + (j 0).val) % 1920, Nat.mod_lt _ (by norm_num)⟩ : Fin 1920) (j 1 : Fin 128))

theorem rd_rows32 (M : Memref sig .tc .vmem S1920x128 .f32) (h : M.IsWhole) (X : S1920x128.Idx → EReal) (off : Fin 2 → ℕ) (o : ℕ) (ho : off 0 = o ∧ off 1 = 0)
    (inb : ∀ a : Fin 2, off a + S32x128.size a ≤ S1920x128.size a) :
    View.readAt (Elt Ideal) M.view (Rect.unit (s := S1920x128) off S32x128.size inb).toLoadRect (h.unread (Val := Elt Ideal) X) = rows32 o X := by
  funext x
  refine (h.readAt_unread (Val := Elt Ideal) X _ x).trans (congrArg X ?_)
  have h0 : o + (x (0 : Fin 2)).val < 1920 := by
    have h1 : off 0 + 32 ≤ 1920 := inb 0
    have h2 : (x (0 : Fin 2)).val < 32 := (x (0 : Fin 2)).isLt
    have := ho.1
    omega
  funext a; apply Fin.ext
  match a with
  | ⟨0, _⟩ =>
    refine (Rect.idx_unit_val (s := S1920x128) off S32x128.size inb x 0).trans ?_
    show off 0 + (x (0 : Fin 2)).val = (o + (x (0 : Fin 2)).val) % 1920
    rw [ho.1, Nat.mod_eq_of_lt h0]
  | ⟨1, _⟩ =>
    refine (Rect.idx_unit_val (s := S1920x128) off S32x128.size inb x 1).trans ?_
    show off 1 + (x (1 : Fin 2)).val = (x (1 : Fin 2)).val
    rw [ho.2, Nat.zero_add]

theorem offR_eq : ∀ t : Fin cfg1.N, k1_off1 (grid1.coords t) (0 : Fin 2) = 32 * t.val ∧ k1_off1 (grid1.coords t) (1 : Fin 2) = 0 :=
  (by decide +kernel : ∀ t : Fin grid1.N, k1_off1 (grid1.coords t) (0 : Fin 2) = 32 * t.val ∧ k1_off1 (grid1.coords t) (1 : Fin 2) = 0)

theorem outC_apply (t : Fin cfg1.N) (p : S32x16384.Idx) (z : S1.Idx) :
    outC (F := Ideal) m c t p = codesOf (rows32 (32 * t.val) (outA (F := Ideal) m c)) (rows32 (32 * t.val) (outB (F := Ideal) m c)) (outI (F := Ideal) m c z) (iblk1 (F := Ideal) m c 0 t) p := by
  unfold outC
  rw [View.read_writes_eq_canon _ _ _ (coverE c _ _ _ _ _ _ _ _ _ _ _ _ _ _ _ _ _ _ _ _ _ _ _ _ _ _ _ _ _)]
  refine View.canon_apply_of_pieces (Val := Elt Ideal) (e := .fp8e4m3) (codesOf (rows32 (32 * t.val) (outA (F := Ideal) m c)) (rows32 (32 * t.val) (outB (F := Ideal) m c)) (outI (F := Ideal) m c z) (iblk1 (F := Ideal) m c 0 t)) _ ?_ p (coverE c _ _ _ _ _ _ _ _ _ _ _ _ _ _ _ _ _ _ _ _ _ _ _ _ _ _ _ _ _ p)
  unfold everyRun
  dsimp only
  rw [rd_rows32 scA (Memref.isWhole_whole _) (outA (F := Ideal) m c) _ _ (offR_eq t), rd_rows32 scB (Memref.isWhole_whole _) (outB (F := Ideal) m c) _ _ (offR_eq t)]
  have hi : everyRun.sl.r (F := Ideal) c scI (Memref.isWhole_whole _) (outI (F := Ideal) m c) = outI (F := Ideal) m c z := by
    simp only [everyRun.sl.r]
    refine ((Memref.isWhole_whole cc1_scratch2).readAt_unread (Val := Elt Ideal) (outI (F := Ideal) m c) _ _).trans (congrArg (outI (F := Ideal) m c) ?_)
    funext a; apply Fin.ext
    match a with
    | ⟨0, _⟩ => exact congrArg Fin.val (Subsingleton.elim (α := Fin 1) _ _)
  rw [hi]
  exact pbC_ok _ _ _ _ _ _ _ _ _ _ _ _ _ _ _ _ _ _ _ _ _ _ _ _ _ _ _ _ _ _ _ _ _ le_rfl

end Cert.KernelIdeal.Two

end
-- ==== Proof.Arrays.lean ====
/- The arrays between the launches: each one read at an index, from the arguments. -/
module

public import proofs.«01_k».proof.Proof.StatsOut
public import proofs.«01_k».proof.Proof.Codes
public import proofs.«01_k».proof.Proof.Run
public import Idealize.ShloMosaic.Lib.Pipeline.ValueKit

@[expose] public section

set_option maxRecDepth 16384
set_option maxHeartbeats 1000000

noncomputable section

namespace Cert.KernelIdeal.Two

open Cert.KernelIdeal.Gen
open Idealize.ShloMosaic Idealize.ShloMosaic.TcCoe Idealize.ShloMosaic.Tactic Idealize.ShloMosaic.ValueIdx

variable (m : (ℓ : Loc nD τ sig) → Buf (Elt Ideal) ℓ) (c : Dev nD)

/-- The input with a row per batch and channel. -/
abbrev rowsX : S1920x16384.Idx → EReal := V1 (F := Ideal) m c main_v1

/-- Lane l of tile n of a row. -/
def cell (X : S1920x16384.Idx → EReal) (R : Fin 1920) (l : Fin 128) (n : ℕ) : EReal :=
  X (ValueIdx.ix2 R (⟨(128 * n + l.val) % 16384, Nat.mod_lt _ (by norm_num)⟩ : Fin 16384))

theorem idx0 : ∀ t : Fin cfg0.N, win0_0.index t 0 = t.val ∧ win0_0.index t 1 = 0 :=
  (by decide +kernel : ∀ t : Fin grid0.N, win0_0.index t 0 = t.val ∧ win0_0.index t 1 = 0)

theorem iblk0_x (t : Fin cfg0.N) (r : Fin 32) (k : Fin 16384) (R : Fin 1920) (hR : R.val = 32 * t.val + r.val) :
    iblk0 (F := Ideal) m c 0 t (ValueIdx.ix2 r k) = rowsX m c (ValueIdx.ix2 R k) := by
  unfold iblk0
  rw [View.read_apply]
  show V1 (F := Ideal) m c main_v1 _ = V1 (F := Ideal) m c main_v1 _
  congr 1
  funext a
  apply Fin.ext
  match a with
  | ⟨0, _⟩ => show win0_0.index t 0 * 32 + 1 * r.val = R.val; rw [(idx0 t).1]; omega
  | ⟨1, _⟩ => show win0_0.index t 1 * 16384 + 1 * k.val = k.val; rw [(idx0 t).2]; omega

theorem tile_cell (t : Fin cfg0.N) (r : Fin 32) (l : Fin 128) (R : Fin 1920) (l' : Fin 128) (hR : R.val = 32 * t.val + r.val) (hl : l'.val = l.val) :
    tile (iblk0 (F := Ideal) m c 0 t) r l = cell (rowsX m c) R l' := by
  funext n
  unfold tile cell
  rw [iblk0_x m c t r _ R hR, Fin.ext hl]

theorem V1_ones (p : S16x128.Idx) : V1 (F := Ideal) m c main_v2 p = (1 : EReal) := by
  have h : V1 (F := Ideal) m c main_v2 = broadcastInDim S16x128 ![] bcast_S_S16x128 (constant (F := Ideal) S_ .bf16 0x3F80#16) := by
    show StableHlo.after hostOps0 _ _ = _
    after_results
  rw [h]
  exact Idealize.ShloMosaic.Ideal.ofBits_one_bf16

theorem ones0 (t : Fin cfg0.N) (p : S16x128.Idx) : iblk0 (F := Ideal) m c 1 t p = (1 : EReal) := by
  unfold iblk0
  rw [View.read_apply]
  exact V1_ones m c _

theorem idx2' : ∀ t : Fin cfg0.N, win0_2.index t 0 = t.val ∧ win0_2.index t 1 = 0 :=
  (by decide +kernel : ∀ t : Fin grid0.N, win0_2.index t 0 = t.val ∧ win0_2.index t 1 = 0)
theorem emb2 (t : Fin cfg0.N) (y : S32x128.Idx) : ((win0_2.blk t).view.emb y 0).val = 32 * t.val + (y 0).val ∧ ((win0_2.blk t).view.emb y 1).val = (y 1).val :=
  ⟨by show win0_2.index t 0 * 32 + 1 * (y 0).val = _; rw [(idx2' t).1]; omega, by show win0_2.index t 1 * 128 + 1 * (y 1).val = _; rw [(idx2' t).2]; omega⟩

theorem s_arr : (dat0 (F := Ideal) m c).arrAt 2 cfg0.N = (fun p : S1920x128.Idx => ∑ j ∈ Finset.range 128, cell (rowsX m c) (p 0) (p 1) j : S1920x128.Idx → EReal) := by
  refine (dat0 (F := Ideal) m c).arrAt_eq_of_covers 2 _ (by decide +kernel) fun t hf y => ?_
  blk_simp
  rw [after0_2]
  have e := tile_cell m c t (y 0) (y 1) _ _ (emb2 t y).1 (emb2 t y).2
  refine (congrArg (outsAt0 (F := Ideal) m c t).1 (ValueIdx.eq_ix2 (n0 := 32) (n1 := 128) y)).trans ((outsAt0_s m c t (ones0 m c t) (y 0) (y 1)).trans ?_)
  rw [e]

theorem idx3' : ∀ t : Fin cfg0.N, win0_3.index t 0 = t.val ∧ win0_3.index t 1 = 0 :=
  (by decide +kernel : ∀ t : Fin grid0.N, win0_3.index t 0 = t.val ∧ win0_3.index t 1 = 0)
theorem emb3 (t : Fin cfg0.N) (y : S32x128.Idx) : ((win0_3.blk t).view.emb y 0).val = 32 * t.val + (y 0).val ∧ ((win0_3.blk t).view.emb y 1).val = (y 1).val :=
  ⟨by show win0_3.index t 0 * 32 + 1 * (y 0).val = _; rw [(idx3' t).1]; omega, by show win0_3.index t 1 * 128 + 1 * (y 1).val = _; rw [(idx3' t).2]; omega⟩

theorem q_arr : (dat0 (F := Ideal) m c).arrAt 3 cfg0.N = (fun p : S1920x128.Idx => ∑ j ∈ Finset.range 128, cell (rowsX m c) (p 0) (p 1) j * cell (rowsX m c) (p 0) (p 1) j : S1920x128.Idx → EReal) := by
  refine (dat0 (F := Ideal) m c).arrAt_eq_of_covers 3 _ (by decide +kernel) fun t hf y => ?_
  blk_simp
  rw [after0_3]
  have e := tile_cell m c t (y 0) (y 1) _ _ (emb3 t y).1 (emb3 t y).2
  refine (congrArg (outsAt0 (F := Ideal) m c t).2.1 (ValueIdx.eq_ix2 (n0 := 32) (n1 := 128) y)).trans ((outsAt0_q m c t (ones0 m c t) (y 0) (y 1)).trans ?_)
  rw [e]

theorem idx4' : ∀ t : Fin cfg0.N, win0_4.index t 0 = t.val ∧ win0_4.index t 1 = 0 :=
  (by decide +kernel : ∀ t : Fin grid0.N, win0_4.index t 0 = t.val ∧ win0_4.index t 1 = 0)
theorem emb4 (t : Fin cfg0.N) (y : S32x128.Idx) : ((win0_4.blk t).view.emb y 0).val = 32 * t.val + (y 0).val ∧ ((win0_4.blk t).view.emb y 1).val = (y 1).val :=
  ⟨by show win0_4.index t 0 * 32 + 1 * (y 0).val = _; rw [(idx4' t).1]; omega, by show win0_4.index t 1 * 128 + 1 * (y 1).val = _; rw [(idx4' t).2]; omega⟩

theorem mx_arr : (dat0 (F := Ideal) m c).arrAt 4 cfg0.N = (fun p : S1920x128.Idx => mxU (cell (rowsX m c) (p 0) (p 1) 0) (cell (rowsX m c) (p 0) (p 1)) 128 : S1920x128.Idx → EReal) := by
  refine (dat0 (F := Ideal) m c).arrAt_eq_of_covers 4 _ (by decide +kernel) fun t hf y => ?_
  blk_simp
  rw [after0_4]
  have e := tile_cell m c t (y 0) (y 1) _ _ (emb4 t y).1 (emb4 t y).2
  refine (congrArg (outsAt0 (F := Ideal) m c t).2.2.1 (ValueIdx.eq_ix2 (n0 := 32) (n1 := 128) y)).trans ((outsAt0_mx m c t (ones0 m c t) (y 0) (y 1)).trans ?_)
  rw [e]

theorem idx5' : ∀ t : Fin cfg0.N, win0_5.index t 0 = t.val ∧ win0_5.index t 1 = 0 :=
  (by decide +kernel : ∀ t : Fin grid0.N, win0_5.index t 0 = t.val ∧ win0_5.index t 1 = 0)
theorem emb5 (t : Fin cfg0.N) (y : S32x128.Idx) : ((win0_5.blk t).view.emb y 0).val = 32 * t.val + (y 0).val ∧ ((win0_5.blk t).view.emb y 1).val = (y 1).val :=
  ⟨by show win0_5.index t 0 * 32 + 1 * (y 0).val = _; rw [(idx5' t).1]; omega, by show win0_5.index t 1 * 128 + 1 * (y 1).val = _; rw [(idx5' t).2]; omega⟩

theorem mn_arr : (dat0 (F := Ideal) m c).arrAt 5 cfg0.N = (fun p : S1920x128.Idx => mnU (cell (rowsX m c) (p 0) (p 1) 0) (cell (rowsX m c) (p 0) (p 1)) 128 : S1920x128.Idx → EReal) := by
  refine (dat0 (F := Ideal) m c).arrAt_eq_of_covers 5 _ (by decide +kernel) fun t hf y => ?_
  blk_simp
  rw [after0_5]
  have e := tile_cell m c t (y 0) (y 1) _ _ (emb5 t y).1 (emb5 t y).2
  refine (congrArg (outsAt0 (F := Ideal) m c t).2.2.2 (ValueIdx.eq_ix2 (n0 := 32) (n1 := 128) y)).trans ((outsAt0_mn m c t (ones0 m c t) (y 0) (y 1)).trans ?_)
  rw [e]

end Cert.KernelIdeal.Two

end
-- ==== Proof.Layout.lean ====
/- The arrays of the second launch and the results, read at an index from the arguments. -/
module

public import proofs.«01_k».proof.Proof.Arrays

@[expose] public section

set_option maxRecDepth 16384
set_option maxHeartbeats 1000000

noncomputable section

namespace Cert.KernelIdeal.Two

open Cert.KernelIdeal.Gen
open Idealize.ShloMosaic Idealize.ShloMosaic.TcCoe Idealize.ShloMosaic.Tactic Idealize.ShloMosaic.ValueIdx

variable (m : (ℓ : Loc nD τ sig) → Buf (Elt Ideal) ℓ) (c : Dev nD)

/-- The row of a batch and channel. -/
def rowOf (b : Fin 2) (k : Fin 960) : Fin 1920 := ⟨960 * b.val + k.val, by omega⟩

theorem rowsX_apply (b : Fin 2) (s : Fin 16384) (k : Fin 960) :
    rowsX m c (ValueIdx.ix2 (rowOf b k) s) = (m ((c.tc : Thread nD τ).loc main_arg0) : S2x16384x960.Idx → EReal) (ValueIdx.ix3 b s k) := by
  have h : V1 (F := Ideal) m c main_v1 = shapeCast S1920x16384 (transpose S2x960x16384 [0, 2, 1] (m ((c.tc : Thread nD τ).loc main_arg0)) transposes_S2x16384x960_S2x960x16384_0_2_1) shapeCasts_S2x960x16384_S1920x16384 := by
    show StableHlo.after hostOps0 _ _ = _
    after_results
    rfl
  refine (congrFun h _).trans ?_
  rw [shapeCast_apply _ _ _ (ValueIdx.ix3 b k s) (by
    rw [Shape.rowMajor_val_three, Shape.rowMajor_val_two]
    show (b.val * 960 + k.val) * 16384 + s.val = (960 * b.val + k.val) * 16384 + s.val
    omega)]
  exact transpose_ix3_021_apply _ _ _ _ _

theorem E1_eq : E1 (F := Ideal) m c = V3 m (outs m) c := (V3_outs m c).symm

theorem E1_x : E1 (F := Ideal) m c main_v1 = V1 m c main_v1 := by
  rw [E1_eq]
  exact (V3_of m (outs m) c main_v1 (by decide)).trans (V2_of m (outs m) c main_v1 (by decide))

theorem E1_s : E1 (F := Ideal) m c main_v3_0 = (dat0 m c).arrAt 2 cfg0.N := by
  rw [E1_eq]
  exact (V3_of m (outs m) c main_v3_0 (by decide)).trans (V2_0 m c)
theorem E1_q : E1 (F := Ideal) m c main_v3_1 = (dat0 m c).arrAt 3 cfg0.N := by
  rw [E1_eq]
  exact (V3_of m (outs m) c main_v3_1 (by decide)).trans (V2_1 m c)
theorem E1_mx : E1 (F := Ideal) m c main_v3_2 = (dat0 m c).arrAt 4 cfg0.N := by
  rw [E1_eq]
  exact (V3_of m (outs m) c main_v3_2 (by decide)).trans (V2_2 m c)
theorem E1_mn : E1 (F := Ideal) m c main_v3_3 = (dat0 m c).arrAt 5 cfg0.N := by
  rw [E1_eq]
  exact (V3_of m (outs m) c main_v3_3 (by decide)).trans (V2_3 m c)

theorem E1_g (k : Fin 960) : (E1 (F := Ideal) m c main_v4 : S1x960.Idx → EReal) (ValueIdx.ix2 (0 : Fin 1) k) = (m ((c.tc : Thread nD τ).loc main_arg1) : S960.Idx → EReal) (ValueIdx.ix1 k) := by
  have h : E1 (F := Ideal) m c main_v4 = shapeCast S1x960 (V2 m (outs0 m) c main_arg1) shapeCasts_S960_S1x960 := by
    show StableHlo.after hostOps1 _ _ = _
    after_results
    rfl
  have h2 : V2 m (outs0 m) c main_arg1 = m ((c.tc : Thread nD τ).loc main_arg1) :=
    (V2_of m (outs0 m) c main_arg1 (by decide)).trans (V1_of m c main_arg1 (by decide))
  rw [h, h2]
  exact shapeCast_a_1a_apply _ _ _ _
theorem E1_t (k : Fin 960) : (E1 (F := Ideal) m c main_v5 : S1x960.Idx → EReal) (ValueIdx.ix2 (0 : Fin 1) k) = (m ((c.tc : Thread nD τ).loc main_arg2) : S960.Idx → EReal) (ValueIdx.ix1 k) := by
  have h : E1 (F := Ideal) m c main_v5 = shapeCast S1x960 (V2 m (outs0 m) c main_arg2) shapeCasts_S960_S1x960 := by
    show StableHlo.after hostOps1 _ _ = _
    after_results
    rfl
  have h2 : V2 m (outs0 m) c main_arg2 = m ((c.tc : Thread nD τ).loc main_arg2) :=
    (V2_of m (outs0 m) c main_arg2 (by decide)).trans (V1_of m c main_arg2 (by decide))
  rw [h, h2]
  exact shapeCast_a_1a_apply _ _ _ _

theorem at1 : (win1_1.index pt0 0 = 0 ∧ win1_1.index pt0 1 = 0) ∧ (win1_2.index pt0 0 = 0 ∧ win1_2.index pt0 1 = 0)
    ∧ (win1_3.index pt0 0 = 0 ∧ win1_3.index pt0 1 = 0) ∧ (win1_4.index pt0 0 = 0 ∧ win1_4.index pt0 1 = 0)
    ∧ (win1_5.index pt0 0 = 0 ∧ win1_5.index pt0 1 = 0) ∧ (win1_6.index pt0 0 = 0 ∧ win1_6.index pt0 1 = 0) := by decide +kernel

theorem xg_apply (k : Fin 960) : xg m c (ValueIdx.ix2 (0 : Fin 1) k) = (m ((c.tc : Thread nD τ).loc main_arg1) : S960.Idx → EReal) (ValueIdx.ix1 k) := by
  refine Eq.trans ?_ (E1_g m c k)
  show iblk1 (F := Ideal) m c 1 pt0 _ = _
  unfold iblk1
  rw [View.read_apply]
  show E1 (F := Ideal) m c main_v4 _ = E1 (F := Ideal) m c main_v4 _
  congr 1
  funext a
  apply Fin.ext
  match a with
  | ⟨0, _⟩ => show win1_1.index pt0 0 * 1 + 1 * 0 = 0; rw [at1.1.1]
  | ⟨1, _⟩ => show win1_1.index pt0 1 * 960 + 1 * k.val = k.val; rw [at1.1.2]; omega
theorem xt_apply (k : Fin 960) : xt m c (ValueIdx.ix2 (0 : Fin 1) k) = (m ((c.tc : Thread nD τ).loc main_arg2) : S960.Idx → EReal) (ValueIdx.ix1 k) := by
  refine Eq.trans ?_ (E1_t m c k)
  show iblk1 (F := Ideal) m c 2 pt0 _ = _
  unfold iblk1
  rw [View.read_apply]
  show E1 (F := Ideal) m c main_v5 _ = E1 (F := Ideal) m c main_v5 _
  congr 1
  funext a
  apply Fin.ext
  match a with
  | ⟨0, _⟩ => show win1_2.index pt0 0 * 1 + 1 * 0 = 0; rw [at1.2.1.1]
  | ⟨1, _⟩ => show win1_2.index pt0 1 * 960 + 1 * k.val = k.val; rw [at1.2.1.2]; omega

theorem xs_apply (p : S1920x128.Idx) : xs m c p = ∑ j ∈ Finset.range 128, cell (rowsX m c) (p 0) (p 1) j := by
  refine Eq.trans ?_ (congrFun ((E1_s m c).trans (s_arr m c)) p)
  show iblk1 (F := Ideal) m c 3 pt0 _ = _
  unfold iblk1
  rw [View.read_apply]
  show E1 (F := Ideal) m c main_v3_0 _ = E1 (F := Ideal) m c main_v3_0 _
  congr 1
  funext a
  apply Fin.ext
  match a with
  | ⟨0, _⟩ => show win1_3.index pt0 0 * 1920 + 1 * (p 0).val = (p 0).val; rw [at1.2.2.1.1]; omega
  | ⟨1, _⟩ => show win1_3.index pt0 1 * 128 + 1 * (p 1).val = (p 1).val; rw [at1.2.2.1.2]; omega
theorem xq_apply (p : S1920x128.Idx) : xq m c p = ∑ j ∈ Finset.range 128, cell (rowsX m c) (p 0) (p 1) j * cell (rowsX m c) (p 0) (p 1) j := by
  refine Eq.trans ?_ (congrFun ((E1_q m c).trans (q_arr m c)) p)
  show iblk1 (F := Ideal) m c 4 pt0 _ = _
  unfold iblk1
  rw [View.read_apply]
  show E1 (F := Ideal) m c main_v3_1 _ = E1 (F := Ideal) m c main_v3_1 _
  congr 1
  funext a
  apply Fin.ext
  match a with
  | ⟨0, _⟩ => show win1_4.index pt0 0 * 1920 + 1 * (p 0).val = (p 0).val; rw [at1.2.2.2.1.1]; omega
  | ⟨1, _⟩ => show win1_4.index pt0 1 * 128 + 1 * (p 1).val = (p 1).val; rw [at1.2.2.2.1.2]; omega
theorem xmx_apply (p : S1920x128.Idx) : xmx m c p = mxU (cell (rowsX m c) (p 0) (p 1) 0) (cell (rowsX m c) (p 0) (p 1)) 128 := by
  refine Eq.trans ?_ (congrFun ((E1_mx m c).trans (mx_arr m c)) p)
  show iblk1 (F := Ideal) m c 5 pt0 _ = _
  unfold iblk1
  rw [View.read_apply]
  show E1 (F := Ideal) m c main_v3_2 _ = E1 (F := Ideal) m c main_v3_2 _
  congr 1
  funext a
  apply Fin.ext
  match a with
  | ⟨0, _⟩ => show win1_5.index pt0 0 * 1920 + 1 * (p 0).val = (p 0).val; rw [at1.2.2.2.2.1.1]; omega
  | ⟨1, _⟩ => show win1_5.index pt0 1 * 128 + 1 * (p 1).val = (p 1).val; rw [at1.2.2.2.2.1.2]; omega
theorem xmn_apply (p : S1920x128.Idx) : xmn m c p = mnU (cell (rowsX m c) (p 0) (p 1) 0) (cell (rowsX m c) (p 0) (p 1)) 128 := by
  refine Eq.trans ?_ (congrFun ((E1_mn m c).trans (mn_arr m c)) p)
  show iblk1 (F := Ideal) m c 6 pt0 _ = _
  unfold iblk1
  rw [View.read_apply]
  show E1 (F := Ideal) m c main_v3_3 _ = E1 (F := Ideal) m c main_v3_3 _
  congr 1
  funext a
  apply Fin.ext
  match a with
  | ⟨0, _⟩ => show win1_6.index pt0 0 * 1920 + 1 * (p 0).val = (p 0).val; rw [at1.2.2.2.2.2.1]; omega
  | ⟨1, _⟩ => show win1_6.index pt0 1 * 128 + 1 * (p 1).val = (p 1).val; rw [at1.2.2.2.2.2.2]; omega

theorem idx10 : ∀ t : Fin cfg1.N, win1_0.index t 0 = t.val ∧ win1_0.index t 1 = 0 :=
  (by decide +kernel : ∀ t : Fin grid1.N, win1_0.index t 0 = t.val ∧ win1_0.index t 1 = 0)

theorem iblk1_x (t : Fin cfg1.N) (p : S32x16384.Idx) (q : S1920x16384.Idx) (h0 : (q 0).val = 32 * t.val + (p 0).val) (h1 : (q 1).val = (p 1).val) :
    iblk1 (F := Ideal) m c 0 t p = rowsX m c q := by
  unfold iblk1
  rw [View.read_apply]
  show E1 (F := Ideal) m c main_v1 _ = V1 (F := Ideal) m c main_v1 _
  rw [E1_x]
  congr 1
  funext a
  apply Fin.ext
  match a with
  | ⟨0, _⟩ => show win1_0.index t 0 * 32 + 1 * (p 0).val = (q 0).val; rw [(idx10 t).1, h0]; omega
  | ⟨1, _⟩ => show win1_0.index t 1 * 16384 + 1 * (p 1).val = (q 1).val; rw [(idx10 t).2, h1]; omega

theorem idx17 : ∀ t : Fin cfg1.N, win1_7.index t 0 = t.val ∧ win1_7.index t 1 = 0 :=
  (by decide +kernel : ∀ t : Fin grid1.N, win1_7.index t 0 = t.val ∧ win1_7.index t 1 = 0)
theorem emb17 (t : Fin cfg1.N) (y : S32x16384.Idx) : ((win1_7.blk t).view.emb y 0).val = 32 * t.val + (y 0).val ∧ ((win1_7.blk t).view.emb y 1).val = (y 1).val :=
  ⟨by show win1_7.index t 0 * 32 + 1 * (y 0).val = _; rw [(idx17 t).1]; omega, by show win1_7.index t 1 * 16384 + 1 * (y 1).val = _; rw [(idx17 t).2]; omega⟩

theorem emb17_eq (t : Fin cfg1.N) (y : S32x16384.Idx) (h : (32 * t.val + (y 0).val) % 1920 < 1920) :
    (⟨(32 * t.val + (y 0).val) % 1920, h⟩ : Fin 1920) = (win1_7.blk t).view.emb y 0 := by
  apply Fin.ext
  have e := (emb17 t y).1
  have hl : ((win1_7.blk t).view.emb y 0).val < 1920 := ((win1_7.blk t).view.emb y 0).isLt
  show (32 * t.val + (y 0).val) % 1920 = _
  rw [e] at hl ⊢
  exact Nat.mod_eq_of_lt hl

/-- The codes of a row and position, for a scale's reciprocal. -/
def rowCode (z : S1.Idx) (p : S1920x16384.Idx) : EReal :=
  codeE (outA m c (ValueIdx.ix2 (p 0 : Fin 1920) (⟨(p 1).val % 128, Nat.mod_lt _ (by norm_num)⟩ : Fin 128)))
    (outB m c (ValueIdx.ix2 (p 0 : Fin 1920) (⟨(p 1).val % 128, Nat.mod_lt _ (by norm_num)⟩ : Fin 128))) (outI m c z) (rowsX m c p)

theorem codes_arr (z : S1.Idx) : (dat1 (F := Ideal) m c).arrAt 7 cfg1.N = (rowCode m c z : S1920x16384.Idx → EReal) := by
  refine (dat1 (F := Ideal) m c).arrAt_eq_of_covers 7 _ (by decide +kernel) fun t hf y => ?_
  blk_simp
  rw [after1_7]
  refine (outC_apply m c t y z).trans ?_
  unfold codesOf rows32 rowCode
  rw [iblk1_x m c t y _ (emb17 t y).1 (emb17 t y).2]
  have e1 : (⟨((win1_7.blk t).view.emb y 1).val % 128, Nat.mod_lt _ (by norm_num)⟩ : Fin 128) = ⟨(y 1).val % 128, Nat.mod_lt _ (by norm_num)⟩ :=
    Fin.ext (congrArg (· % 128) (emb17 t y).2)
  rw [← emb17_eq t y (Nat.mod_lt _ (by norm_num)), e1]

/-- The one scale word, in its cell. -/
theorem scale_arr (z : S1x1.Idx) (p : S1x1.Idx) : ((dat1 (F := Ideal) m c).arrAt 8 cfg1.N : S1x1.Idx → EReal) p = outS m c z := by
  have h : (dat1 (F := Ideal) m c).arrAt 8 cfg1.N = (fun _ => outS m c z : S1x1.Idx → EReal) := by
    refine (dat1 (F := Ideal) m c).arrAt_eq_of_covers 8 _ (by decide +kernel) fun t hf y => ?_
    blk_simp
    rw [after1_8]
    show outS m c y = outS m c z
    rw [outS_eq]
  exact congrFun h p

theorem codes_out (z : S1.Idx) (b : Fin 2) (s : Fin 16384) (k : Fin 960) :
    (V5 m (outs m) c main_v8 : S2x16384x960.Idx → EReal) (ValueIdx.ix3 b s k) = rowCode m c z (ValueIdx.ix2 (rowOf b k) s) := by
  have h : V5 (F := Ideal) m (outs m) c main_v8 = transpose S2x16384x960 [0, 2, 1] (shapeCast S2x960x16384 (V4 m (outs m) c main_v6_0) shapeCasts_S1920x16384_S2x960x16384) transposes_S2x960x16384_S2x16384x960_0_2_1 := by
    show StableHlo.after hostOps2 _ _ = _
    after_results
    rfl
  refine (congrFun h _).trans ((transpose_ix3_021_apply _ _ _ _ _).trans ?_)
  rw [shapeCast_apply _ _ _ (ValueIdx.ix2 (rowOf b k) s) (by
    rw [Shape.rowMajor_val_three, Shape.rowMajor_val_two]
    show (960 * b.val + k.val) * 16384 + s.val = (b.val * 960 + k.val) * 16384 + s.val
    omega)]
  exact congrFun ((V4_0 m c).trans (codes_arr m c z)) _

theorem scale_out (z : S1x1.Idx) (i : S_.Idx) : (V5 m (outs m) c main_v9 : S_.Idx → EReal) i = outS m c z := by
  have h : V5 (F := Ideal) m (outs m) c main_v9 = shapeCast S_ (V4 m (outs m) c main_v6_1) shapeCasts_S1x1_S_ := by
    show StableHlo.after hostOps2 _ _ = _
    after_results
    rfl
  refine (congrFun h _).trans ?_
  refine (congrArg (fun v => shapeCast S_ v shapeCasts_S1x1_S_ i) (V4_1 m c)).trans ?_
  exact scale_arr m c z _

end Cert.KernelIdeal.Two

end
-- ==== Proof.RefTerm.lean ====
/- The reference's chain of array operations, cut into named stages; the precondition's chain is made of the same stages. -/
module

public import proofs.«01_k».proof.Defs
public import proofs.«01_k».proof.Proof.Gen.Pre_finite_peak
public import proofs.«01_k».proof.Proof.Gen.ReferenceIdeal.Frame

@[expose] public section

set_option maxRecDepth 16384
set_option maxHeartbeats 2000000

noncomputable section

namespace Cert.Norm

open Idealize.ShloMosaic Idealize.ShloMosaic.TcCoe Idealize.ShloMosaic.Tactic
open Cert.Pre_finite_peak Cert.Pre_finite_peak.Facts

variable {F : FTy → Type} [FloatOps F]

/-- The input with its channels split into groups. -/
def rGrp [Cert.Pre_finite_peak.Facts] (x : FVec F S2x16384x960 .bf16) : FVec F S2x16384x32x30 .f32 :=
  shapeCast S2x16384x32x30 (extf .f32 x bitsLt_bf16_f32) shapeCasts_S2x16384x960_S2x16384x32x30

/-- The mean of a group. -/
def rMean [Cert.Pre_finite_peak.Facts] (x : FVec F S2x16384x32x30 .f32) : FVec F S2x1x32x1 .f32 :=
  Host.divf (broadcastInDim S2x1x32x1 ![0, 2] bcast_S2x32_S2x1x32x1_0_2
    (Host.reduceAdd x (constant S_ .f32 0x00000000#32) reducesTo_S2x16384x32x30_S2x32_d1_3 h_S_))
    (broadcastInDim S2x1x32x1 ![] bcast_S_S2x1x32x1 (constant S_ .f32 0x48F00000#32))

/-- A group less its mean. -/
def rDev [Cert.Pre_finite_peak.Facts] (x : FVec F S2x16384x32x30 .f32) : FVec F S2x16384x32x30 .f32 :=
  subf x (broadcastInDim S2x16384x32x30 ![0, 1, 2, 3] bcast_S2x1x32x1_S2x16384x32x30_0_1_2_3 (rMean x))

/-- The reciprocal root of a group's mean square plus the small constant. -/
def rRoot [Cert.Pre_finite_peak.Facts] (d : FVec F S2x16384x32x30 .f32) : FVec F S2x1x32x1 .f32 :=
  Host.rsqrt (addf (rMean (mulf d d)) (broadcastInDim S2x1x32x1 ![] bcast_S_S2x1x32x1 (constant S_ .f32 0x3727C5AC#32)))

/-- A group less its mean, over its deviation. -/
def rHat [Cert.Pre_finite_peak.Facts] (d : FVec F S2x16384x32x30 .f32) : FVec F S2x16384x32x30 .f32 :=
  mulf d (broadcastInDim S2x16384x32x30 ![0, 1, 2, 3] bcast_S2x1x32x1_S2x16384x32x30_0_1_2_3 (rRoot d))

/-- A number per channel, along the whole array. -/
def rChan [Cert.Pre_finite_peak.Facts] (g : FVec F S960 .f32) : FVec F S2x16384x960 .f32 :=
  broadcastInDim S2x16384x960 ![0, 1, 2] bcast_S1x1x960_S2x16384x960_0_1_2 (broadcastInDim S1x1x960 ![2] bcast_S960_S1x1x960_2 g)

/-- The normalized array under the channel's factor and shift. -/
def rLin [Cert.Pre_finite_peak.Facts] (x : FVec F S2x16384x960 .bf16) (g t : FVec F S960 .f32) : FVec F S2x16384x960 .f32 :=
  addf (mulf (shapeCast S2x16384x960 (rHat (rDev (rGrp x))) shapeCasts_S2x16384x32x30_S2x16384x960) (rChan g)) (rChan t)

/-- One number along the whole array. -/
def rAll [Cert.Pre_finite_peak.Facts] (z : FVec F S_ .f32) : FVec F S2x16384x960 .f32 :=
  broadcastInDim S2x16384x960 ![] bcast_S_S2x16384x960 z

/-- The activation. -/
def rAct [Cert.Pre_finite_peak.Facts] (v : FVec F S2x16384x960 .f32) : FVec F S2x16384x960 .f32 :=
  mulf v (Host.divf (rAll (constant S_ .f32 0x3F800000#32)) (addf (rAll (constant S_ .f32 0x3F800000#32)) (Host.exp (Host.negf v))))

/-- The greatest magnitude. -/
def rTop [Cert.Pre_finite_peak.Facts] (y : FVec F S2x16384x960 .f32) : FVec F S_ .f32 :=
  Host.reduce FloatOps.maximumf (Host.absf y) (constant S_ .f32 0xFF800000#32) reducesTo_S2x16384x960_S_d0_1_2 h_S_

/-- The exponent of the scale. -/
def rExp (p : FVec F S_ .f32) : FVec F S_ .f32 :=
  select (cmpf .oeq p (constant S_ .f32 0x00000000#32)) (constant S_ .f32 0x00000000#32)
    (addf (Host.floor (Host.divf (Host.log (mulf p (constant S_ .f32 0x3B124925#32))) (Host.log (constant S_ .f32 0x40000000#32))))
      (constant S_ .f32 0x3F800000#32))

/-- Two to an exponent. -/
def rTwo (e : FVec F S_ .f32) : FVec F S_ .f32 := Host.powf (constant S_ .f32 0x40000000#32) e

/-- The array over the scale, within the eight-bit range. -/
def rCut [Cert.Pre_finite_peak.Facts] (y : FVec F S2x16384x960 .f32) (e : FVec F S_ .f32) : FVec F S2x16384x960 .f32 :=
  minimumf (rAll (constant S_ .f32 0x43E00000#32)) (maximumf (rAll (constant S_ .f32 0xC3E00000#32))
    (mulf y (rAll (rTwo (Host.negf e)))))

/-- The activated array of the three arguments. -/
def rOut [Cert.Pre_finite_peak.Facts] (x : FVec F S2x16384x960 .bf16) (g t : FVec F S960 .f32) : FVec F S2x16384x960 .f32 := rAct (rLin x g t)

/-- All three arguments finite, and the greatest magnitude within bounds. -/
def rPre [Cert.Pre_finite_peak.Facts] (x : FVec F S2x16384x960 .bf16) (g t : FVec F S960 .f32) : IVec S_ 1 :=
  andi (andi (andi (andi
    (Host.reduce IntOp.andi (cmpf .olt (Host.absf (extf .f32 x bitsLt_bf16_f32)) (rAll (constant S_ .f32 0x7F800000#32))) (constantI S_ 1 1#1) reducesTo_S2x16384x960_S_d0_1_2 h_S_)
    (Host.reduce IntOp.andi (cmpf .olt (Host.absf g) (broadcastInDim S960 ![] bcast_S_S960 (constant S_ .f32 0x7F800000#32))) (constantI S_ 1 1#1) reducesTo_S960_S_d0 h_S_))
    (Host.reduce IntOp.andi (cmpf .olt (Host.absf t) (broadcastInDim S960 ![] bcast_S_S960 (constant S_ .f32 0x7F800000#32))) (constantI S_ 1 1#1) reducesTo_S960_S_d0 h_S_))
    (cmpf .oge (rTop (rOut x g t)) (constant S_ .f32 0x3E900000#32)))
    (cmpf .ole (rTop (rOut x g t)) (constant S_ .f32 0x7F7FFFFF#32))

theorem pre_eq [Cert.Pre_finite_peak.Facts] (x : FVec F S2x16384x960 .bf16) (g t : FVec F S960 .f32) : Cert.Pre_finite_peak.fn x g t = rPre x g t := rfl

variable (m : (ℓ : Loc Cert.ReferenceIdeal.nD Cert.ReferenceIdeal.τ Cert.ReferenceIdeal.sig) → Buf (Elt F) ℓ) (c : Dev Cert.ReferenceIdeal.nD)

open Cert.ReferenceIdeal Cert.ReferenceIdeal.Gen

theorem ref_scale : V m c main_v42 = rTwo (rExp (rTop (rOut (m ((c : Thread nD τ).loc main_arg0)) (m ((c : Thread nD τ).loc main_arg1)) (m ((c : Thread nD τ).loc main_arg2))))) := by
  unfold V
  simp only [hostOps0, hostOps0_1, hostOps0_2, hostOps0_3, List.flatten_cons, List.flatten_nil, List.append_nil, List.cons_append, List.nil_append]
  after_results_simp
  rfl

theorem ref_cut : V m c main_v47 = rCut (rOut (m ((c : Thread nD τ).loc main_arg0)) (m ((c : Thread nD τ).loc main_arg1)) (m ((c : Thread nD τ).loc main_arg2)))
    (rExp (rTop (rOut (m ((c : Thread nD τ).loc main_arg0)) (m ((c : Thread nD τ).loc main_arg1)) (m ((c : Thread nD τ).loc main_arg2))))) := by
  unfold V
  simp only [hostOps0, hostOps0_1, hostOps0_2, hostOps0_3, List.flatten_cons, List.flatten_nil, List.append_nil, List.cons_append, List.nil_append]
  after_results_simp
  rfl

end Cert.Norm

end
-- ==== Proof.Spec.lean ====
/- What the layer computes, over the real numbers, and the reference's scalar operations at real arguments. -/
module

public import proofs.«01_k».proof.Proof.RefTerm
public import proofs.«01_k».proof.Proof.Maths
public import Idealize.ShloMosaic.Lib.IdealHost
public import Idealize.ShloMosaic.Lib.Pointwise.Reduce
public import Idealize.ShloMosaic.PureOps.Ideal.Laws

@[expose] public section

set_option maxRecDepth 16384
set_option maxHeartbeats 1000000

noncomputable section

namespace Cert.Norm

open Idealize.ShloMosaic Idealize.ShloMosaic.ValueIdx Cert.Maths
open scoped BigOperators

/-- The channel of a group's member. -/
def ch (g : Fin 32) (j : Fin 30) : Fin 960 := ⟨30 * g.val + j.val, by omega⟩

/-- The group of a channel. -/
def gr (k : Fin 960) : Fin 32 := ⟨k.val / 30, by omega⟩

/-- The place of a channel in its group. -/
def pl (k : Fin 960) : Fin 30 := ⟨k.val % 30, Nat.mod_lt _ (by norm_num)⟩

theorem ch_gr_pl (k : Fin 960) : ch (gr k) (pl k) = k := Fin.ext (Nat.div_add_mod k.val 30)

/-- The small constant under the root. -/
def epsv : ℝ := 10995116 / 2 ^ 40

theorem epsv_pos : 0 < epsv := by unfold epsv; positivity

variable (X : Fin 2 → Fin 16384 → Fin 960 → ℝ) (γ β : Fin 960 → ℝ)

def mu (b : Fin 2) (g : Fin 32) : ℝ := (∑ p : Fin 16384 × Fin 30, X b p.1 (ch g p.2)) * 491520⁻¹
def vr (b : Fin 2) (g : Fin 32) : ℝ :=
  (∑ p : Fin 16384 × Fin 30, (X b p.1 (ch g p.2) - mu X b g) * (X b p.1 (ch g p.2) - mu X b g)) * 491520⁻¹
def rs (b : Fin 2) (g : Fin 32) : ℝ := (Real.sqrt (vr X b g + epsv))⁻¹
def lin (b : Fin 2) (s : Fin 16384) (k : Fin 960) : ℝ := (X b s k - mu X b (gr k)) * rs X b (gr k) * γ k + β k
def act (b : Fin 2) (s : Fin 16384) (k : Fin 960) : ℝ := silu (lin X γ β b s k)

theorem vr_nonneg (b : Fin 2) (g : Fin 32) : 0 ≤ vr X b g := by
  unfold vr
  exact mul_nonneg (Finset.sum_nonneg fun p _ => mul_self_nonneg _) (by norm_num)

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem of_eps : Idealize.ShloMosaic.Ideal.ofBits .f32 0x3727C5AC#32 = (epsv : EReal) := by
  have : epsv = 10995116 * 2 ^ (-40 : ℤ) := by unfold epsv; norm_num
  rw [this]
  simp [Ideal.ofBits, Ideal.ieee, -EReal.coe_mul]

theorem of_cnt : Idealize.ShloMosaic.Ideal.ofBits .f32 0x48F00000#32 = ((491520 : ℝ) : EReal) := by
  simp [Ideal.ofBits, Ideal.ieee, -EReal.coe_mul]; norm_num

theorem of_two : Idealize.ShloMosaic.Ideal.ofBits .f32 0x40000000#32 = ((2 : ℝ) : EReal) := by
  simp [Ideal.ofBits, Ideal.ieee, -EReal.coe_mul]; norm_num

/-- The factor from the greatest magnitude to the scale's argument. -/
def fac : ℝ := 9586981 / 2 ^ 32

theorem of_fac : Idealize.ShloMosaic.Ideal.ofBits .f32 0x3B124925#32 = (fac : EReal) := by
  have : fac = 9586981 * 2 ^ (-32 : ℤ) := by unfold fac; norm_num
  rw [this]
  simp [Ideal.ofBits, Ideal.ieee, -EReal.coe_mul]

theorem of_bot : Idealize.ShloMosaic.Ideal.ofBits .f32 0xFF800000#32 = (⊥ : EReal) := by
  simp [Ideal.ofBits, Ideal.ieee, -EReal.coe_mul]

theorem of_top : Idealize.ShloMosaic.Ideal.ofBits .f32 0x7F800000#32 = (⊤ : EReal) := by
  simp [Ideal.ofBits, Ideal.ieee, -EReal.coe_mul]

theorem of_low : Idealize.ShloMosaic.Ideal.ofBits .f32 0x3E900000#32 = ((0.28125 : ℝ) : EReal) := by
  simp [Ideal.ofBits, Ideal.ieee, -EReal.coe_mul]; norm_num

theorem of_high : Idealize.ShloMosaic.Ideal.ofBits .f32 0x7F7FFFFF#32 = (((16777215 : ℝ) * 2 ^ (104 : ℕ) : ℝ) : EReal) := by
  simp [Ideal.ofBits, Ideal.ieee, -EReal.coe_mul]

/-- The activation at a real argument. -/
theorem silu_real (v : ℝ) : (v : EReal) * Idealize.ShloMosaic.Ideal.div (1 : EReal) (1 + Idealize.ShloMosaic.Ideal.exp (-(v : EReal))) = (silu v : EReal) := by
  have h : (1 : EReal) + Idealize.ShloMosaic.Ideal.exp (-(v : EReal)) = ((1 + Real.exp (-v) : ℝ) : EReal) := by
    rw [← EReal.coe_neg, Idealize.ShloMosaic.Ideal.exp_coe, EReal.coe_add, EReal.coe_one]
  rw [h, Idealize.ShloMosaic.Ideal.div_coe (by positivity), one_mul, ← EReal.coe_mul]
  rfl

theorem rsqrt_real (r : ℝ) (h : 0 < r) : Idealize.ShloMosaic.Ideal.rsqrt (r : EReal) = (((Real.sqrt r)⁻¹ : ℝ) : EReal) := by
  rw [Idealize.ShloMosaic.Ideal.rsqrt_coe, if_neg (by linarith), if_neg (by linarith)]

theorem abs_real (r : ℝ) : max (r : EReal) (-(r : EReal)) = (|r| : ℝ) := by
  rw [← EReal.coe_neg, ← EReal.coe_strictMono.monotone.map_max]
  rfl

/-- The indices that drop to a place of the group array: the ones of that batch and group. -/
theorem fiber_grp (h : (⟨4, ![2, 16384, 32, 30]⟩ : Shape).ReducesTo [1, 3] (⟨2, ![2, 32]⟩ : Shape)) (b : Fin 2) (g : Fin 32) (i : (⟨4, ![2, 16384, 32, 30]⟩ : Shape).Idx) :
    h.drop i = ValueIdx.ix2 b g ↔ ∃ k : Fin 16384 × Fin 30, ValueIdx.ix4 b k.1 g k.2 = i := by
  constructor
  · intro e
    refine ⟨(i 1, i 3), ?_⟩
    funext a; apply Fin.ext
    match a with
    | ⟨0, _⟩ => exact (congrArg Fin.val (congrFun e ⟨0, by decide⟩)).symm
    | ⟨1, _⟩ => rfl
    | ⟨2, _⟩ => exact (congrArg Fin.val (congrFun e ⟨1, by decide⟩)).symm
    | ⟨3, _⟩ => rfl
  · rintro ⟨k, rfl⟩
    funext b
    apply Fin.ext
    match b with
    | ⟨0, _⟩ => rfl
    | ⟨1, _⟩ => rfl

theorem sum_grp (h : (⟨4, ![2, 16384, 32, 30]⟩ : Shape).ReducesTo [1, 3] (⟨2, ![2, 32]⟩ : Shape)) (b : Fin 2) (g : Fin 32)
    (v : (⟨4, ![2, 16384, 32, 30]⟩ : Shape).Idx → EReal) :
    ∑ i ∈ Finset.univ.filter (fun i => h.drop i = ValueIdx.ix2 b g), v i = ∑ k : Fin 16384 × Fin 30, v (ValueIdx.ix4 b k.1 g k.2) :=
  Finset.sum_filter_eq_sum_of_fiber _ (fun k : Fin 16384 × Fin 30 => ValueIdx.ix4 b k.1 g k.2)
    (fun _ _ e => Prod.ext (congrFun e 1) (congrFun e 3)) (fiber_grp h b g) v

end Cert.Norm

end
-- ==== Proof.RefVal.lean ====
/- The reference's stages at real arguments. -/
module

public import proofs.«01_k».proof.Proof.Spec
public import Idealize.ShloMosaic.Lib.Pipeline.Value
public import Idealize.ShloMosaic.Lib.ValueLayout

@[expose] public section

set_option maxRecDepth 16384
set_option maxHeartbeats 1000000

noncomputable section

namespace Cert.Norm

open Idealize.ShloMosaic Cert.Maths
open Cert.Pre_finite_peak (S2x16384x960 S960 S2x16384x32x30 S2x32 S2x1x32x1 S1x1x960)
open scoped BigOperators

variable [Cert.Pre_finite_peak.Facts]

/-- Every index of the array is a batch, a position and a channel. -/
theorem ix3_cases (q : S2x16384x960.Idx) : ∃ (b : Fin 2) (s : Fin 16384) (k : Fin 960), q = ValueIdx.ix3 b s k :=
  ⟨q 0, q 1, q 2, ValueIdx.eq_ix3 (n0 := 2) (n1 := 16384) (n2 := 960) q⟩

theorem grp_apply {φ : FTy} (x : FVec Ideal S2x16384x960 φ) (h : S2x16384x960.ShapeCasts S2x16384x32x30) (b : Fin 2) (s : Fin 16384) (g : Fin 32) (j : Fin 30) :
    shapeCast S2x16384x32x30 x h (ValueIdx.ix4 b s g j) = x (ValueIdx.ix3 b s (ch g j)) :=
  shapeCast_apply x h _ _ (by
    rw [Shape.rowMajor_val_three, Shape.rowMajor_val_four]
    show (b.val * 16384 + s.val) * 960 + (30 * g.val + j.val) = ((b.val * 16384 + s.val) * 32 + g.val) * 30 + j.val
    omega)

theorem ungrp_apply {φ : FTy} (x : FVec Ideal S2x16384x32x30 φ) (h : S2x16384x32x30.ShapeCasts S2x16384x960) (b : Fin 2) (s : Fin 16384) (k : Fin 960) :
    shapeCast S2x16384x960 x h (ValueIdx.ix3 b s k) = x (ValueIdx.ix4 b s (gr k) (pl k)) :=
  shapeCast_apply x h _ _ (by
    rw [Shape.rowMajor_val_three, Shape.rowMajor_val_four]
    show ((b.val * 16384 + s.val) * 32 + k.val / 30) * 30 + k.val % 30 = (b.val * 16384 + s.val) * 960 + k.val
    omega)

theorem spread_apply (z : FVec Ideal S2x1x32x1 .f32) (h : S2x1x32x1.BroadcastsInDim S2x16384x32x30 (![0, 1, 2, 3] : Fin 4 → Fin S2x16384x32x30.rank))
    (b : Fin 2) (s : Fin 16384) (g : Fin 32) (j : Fin 30) :
    broadcastInDim S2x16384x32x30 ![0, 1, 2, 3] h z (ValueIdx.ix4 b s g j) = z (ValueIdx.ix4 b (0 : Fin 1) g (0 : Fin 1)) :=
  broadcastInDim_apply _ h z _ _ fun a => by
    match a with
    | ⟨0, _⟩ => rfl
    | ⟨1, _⟩ => rfl
    | ⟨2, _⟩ => rfl
    | ⟨3, _⟩ => rfl

theorem chan_apply (g : FVec Ideal S960 .f32) (b : Fin 2) (s : Fin 16384) (k : Fin 960) :
    rChan g (ValueIdx.ix3 b s k) = g (ValueIdx.ix1 k) := by
  unfold rChan
  rw [broadcastInDim_apply _ _ _ _ (ValueIdx.ix3 (0 : Fin 1) (0 : Fin 1) k) fun a => by
    match a with
    | ⟨0, _⟩ => rfl
    | ⟨1, _⟩ => rfl
    | ⟨2, _⟩ => rfl]
  exact broadcastInDim_apply _ _ _ _ (ValueIdx.ix1 k) fun a => by
    match a with
    | ⟨0, _⟩ => rfl

theorem mean_apply (x : FVec Ideal S2x16384x32x30 .f32) (f : Fin 2 → Fin 16384 → Fin 32 → Fin 30 → ℝ)
    (hx : ∀ b s g j, x (ValueIdx.ix4 b s g j) = (f b s g j : EReal)) (b : Fin 2) (g : Fin 32) :
    rMean x (ValueIdx.ix4 b (0 : Fin 1) g (0 : Fin 1)) = (((∑ p : Fin 16384 × Fin 30, f b p.1 g p.2) * 491520⁻¹ : ℝ) : EReal) := by
  unfold rMean
  rw [ValueIdx.hostDivf_apply, broadcastInDim_apply _ _ _ _ (ValueIdx.ix2 b g) fun a => by
    match a with
    | ⟨0, _⟩ => rfl
    | ⟨1, _⟩ => rfl]
  rw [ValueIdx.hostReduceAdd_apply]
  unfold Idealize.ShloMosaic.Ideal.hostReduceAdd
  rw [sum_grp]
  show Idealize.ShloMosaic.Ideal.div (Idealize.ShloMosaic.Ideal.ofBits .f32 0x00000000#32 + _) (Idealize.ShloMosaic.Ideal.ofBits .f32 0x48F00000#32) = _
  rw [Idealize.ShloMosaic.Ideal.ofBits_zero_f32, zero_add, of_cnt, Idealize.ShloMosaic.Ideal.div_coe (by norm_num),
    Finset.sum_congr rfl (fun p _ => hx b p.1 g p.2), ← coe_sum, ← EReal.coe_mul, one_div]

variable (x : FVec Ideal S2x16384x960 .bf16) (g t : FVec Ideal S960 .f32)
variable (X : Fin 2 → Fin 16384 → Fin 960 → ℝ) (γ β : Fin 960 → ℝ)
variable (hx : ∀ b s k, x (ValueIdx.ix3 b s k) = (X b s k : EReal)) (hg : ∀ k, g (ValueIdx.ix1 k) = (γ k : EReal)) (ht : ∀ k, t (ValueIdx.ix1 k) = (β k : EReal))

include hx in
theorem rGrp_apply (b : Fin 2) (s : Fin 16384) (q : Fin 32) (j : Fin 30) : rGrp x (ValueIdx.ix4 b s q j) = (X b s (ch q j) : EReal) := by
  unfold rGrp
  rw [grp_apply]
  exact hx b s (ch q j)

include hx in
theorem rDev_apply (b : Fin 2) (s : Fin 16384) (q : Fin 32) (j : Fin 30) :
    rDev (rGrp x) (ValueIdx.ix4 b s q j) = ((X b s (ch q j) - mu X b q : ℝ) : EReal) := by
  unfold rDev
  show rGrp x _ - broadcastInDim _ _ _ _ _ = _
  rw [spread_apply, rGrp_apply x X hx, mean_apply _ (fun b s q j => X b s (ch q j)) (rGrp_apply x X hx), EReal.coe_sub]
  rfl

include hx in
theorem rRoot_apply (b : Fin 2) (q : Fin 32) : rRoot (rDev (rGrp x)) (ValueIdx.ix4 b (0 : Fin 1) q (0 : Fin 1)) = (rs X b q : EReal) := by
  unfold rRoot
  show Idealize.ShloMosaic.Ideal.rsqrt (rMean (F := Ideal) _ _ + Idealize.ShloMosaic.Ideal.ofBits .f32 0x3727C5AC#32) = _
  rw [mean_apply _ (fun b s q j => (X b s (ch q j) - mu X b q) * (X b s (ch q j) - mu X b q)) (fun b s q j => by
      show rDev (rGrp x) _ * rDev (rGrp x) _ = _
      rw [rDev_apply x X hx, EReal.coe_mul]),
    of_eps, ← EReal.coe_add]
  exact rsqrt_real _ (add_pos_of_nonneg_of_pos (vr_nonneg X b q) epsv_pos)

include hx hg ht in
theorem rLin_apply (b : Fin 2) (s : Fin 16384) (k : Fin 960) : rLin x g t (ValueIdx.ix3 b s k) = (lin X γ β b s k : EReal) := by
  unfold rLin
  show shapeCast _ _ _ _ * rChan g _ + rChan t _ = _
  rw [ungrp_apply, chan_apply, chan_apply, hg, ht]
  show rDev (rGrp x) _ * broadcastInDim _ _ _ _ _ * _ + _ = _
  rw [spread_apply, rDev_apply x X hx, rRoot_apply x X hx, ← EReal.coe_mul, ← EReal.coe_mul, ← EReal.coe_add, ch_gr_pl]
  rfl

include hx hg ht in
theorem rOut_apply (b : Fin 2) (s : Fin 16384) (k : Fin 960) : rOut x g t (ValueIdx.ix3 b s k) = (act X γ β b s k : EReal) := by
  unfold rOut rAct
  show rLin x g t _ * Idealize.ShloMosaic.Ideal.div (Idealize.ShloMosaic.Ideal.ofBits .f32 0x3F800000#32) (Idealize.ShloMosaic.Ideal.ofBits .f32 0x3F800000#32 + Idealize.ShloMosaic.Ideal.exp (-(rLin x g t _))) = _
  rw [Idealize.ShloMosaic.Ideal.ofBits_one_f32, rLin_apply x g t X γ β hx hg ht]
  exact silu_real _

instance : Subsingleton (Cert.Pre_finite_peak.S_.Idx) := ⟨fun a b => funext fun i => i.elim0⟩

/-- The greatest magnitude is at most z when every magnitude is. -/
theorem rTop_le (y : FVec Ideal S2x16384x960 .f32) (i : Cert.Pre_finite_peak.S_.Idx) (z : EReal) :
    rTop y i ≤ z ↔ ∀ p, max (y p) (-(y p)) ≤ z := by
  unfold rTop
  rw [Host.reduce_eq_fold]
  rw [Finset.filter_true_of_mem (fun p _ => Subsingleton.elim _ _)]
  show Finset.fold max (Idealize.ShloMosaic.Ideal.ofBits .f32 0xFF800000#32) _ _ ≤ z ↔ _
  rw [of_bot, Finset.fold_max_le]
  exact ⟨fun h p => h.2 p (Finset.mem_univ _), fun h => ⟨bot_le, fun p _ => h p⟩⟩

include hx hg ht in
/-- The greatest magnitude is a real number, attained. -/
theorem rTop_real : ∃ A : ℝ, (∀ i, rTop (rOut x g t) i = (A : EReal)) ∧ (∀ b s k, |act X γ β b s k| ≤ A) ∧ ∃ b s k, |act X γ β b s k| = A := by
  haveI : Nonempty (Fin 2 × Fin 16384 × Fin 960) := ⟨(⟨0, by norm_num⟩, ⟨0, by norm_num⟩, ⟨0, by norm_num⟩)⟩
  obtain ⟨p, hp⟩ := Finite.exists_max (fun p : Fin 2 × Fin 16384 × Fin 960 => |act X γ β p.1 p.2.1 p.2.2|)
  refine ⟨|act X γ β p.1 p.2.1 p.2.2|, fun i => le_antisymm ?_ ?_, fun b s k => hp (b, s, k), p.1, p.2.1, p.2.2, rfl⟩
  · rw [rTop_le]
    intro q
    obtain ⟨b, s, k, rfl⟩ := ix3_cases q
    rw [rOut_apply x g t X γ β hx hg ht, abs_real]
    exact EReal.coe_le_coe_iff.2 (hp (b, s, k))
  · have h := (rTop_le (rOut x g t) i _).1 le_rfl (ValueIdx.ix3 p.1 p.2.1 p.2.2)
    rwa [rOut_apply x g t X γ β hx hg ht, abs_real] at h

theorem fac_pos : 0 < fac := by unfold fac; norm_num

/-- The exponent at a positive real. -/
theorem rExp_real (p : FVec Ideal Cert.Pre_finite_peak.S_ .f32) (A : ℝ) (hA : 0 < A) (i : Cert.Pre_finite_peak.S_.Idx) (hp : p i = (A : EReal)) :
    rExp p i = (((⌊Real.log (A * fac) / Real.log 2⌋ + 1 : ℤ) : ℝ) : EReal) := by
  have h2 : Real.log 2 ≠ 0 := (Real.log_pos (by norm_num)).ne'
  unfold rExp
  show (if Idealize.ShloMosaic.Ideal.cmp .oeq (p i) (Idealize.ShloMosaic.Ideal.ofBits .f32 0x00000000#32) = 1#1 then _ else
    Idealize.ShloMosaic.Ideal.liftRound Int.floor (Idealize.ShloMosaic.Ideal.div (Idealize.ShloMosaic.Ideal.log (p i * Idealize.ShloMosaic.Ideal.ofBits .f32 0x3B124925#32))
      (Idealize.ShloMosaic.Ideal.log (Idealize.ShloMosaic.Ideal.ofBits .f32 0x40000000#32))) + Idealize.ShloMosaic.Ideal.ofBits .f32 0x3F800000#32 : EReal) = _
  rw [hp, Idealize.ShloMosaic.Ideal.ofBits_zero_f32, Idealize.ShloMosaic.Ideal.ofBits_one_f32, of_two, of_fac, ← EReal.coe_mul,
    Idealize.ShloMosaic.Ideal.log_coe, Idealize.ShloMosaic.Ideal.log_coe, if_neg (not_le.2 (by norm_num : (0:ℝ) < 2)), if_neg (not_le.2 (mul_pos hA fac_pos)),
    Idealize.ShloMosaic.Ideal.div_coe h2, ← EReal.coe_mul, if_neg, Int.cast_add, EReal.coe_add, Int.cast_one, EReal.coe_one, ← div_eq_mul_one_div]
  · rfl
  · show ¬ BitVec.ofBool (decide ((A : EReal) = 0)) = 1#1
    rw [decide_eq_false (by exact_mod_cast hA.ne')]
    decide

theorem rTwo_real (e : FVec Ideal Cert.Pre_finite_peak.S_ .f32) (k : ℤ) (i : Cert.Pre_finite_peak.S_.Idx) (he : e i = ((k : ℝ) : EReal)) :
    rTwo e i = (((2 : ℝ) ^ k : ℝ) : EReal) := by
  unfold rTwo
  show Idealize.ShloMosaic.Ideal.pow (Idealize.ShloMosaic.Ideal.ofBits .f32 0x40000000#32) (e i) = _
  rw [he, of_two, Idealize.ShloMosaic.Ideal.pow_coe_coe]
  exact congrArg Real.toEReal (Real.rpow_intCast 2 k)

theorem rCut_real (y : FVec Ideal S2x16384x960 .f32) (e : FVec Ideal Cert.Pre_finite_peak.S_ .f32) (k : ℤ) (he : ∀ i, e i = ((k : ℝ) : EReal)) (p : S2x16384x960.Idx) :
    rCut y e p = min (Idealize.ShloMosaic.Ideal.ofBits .f32 0x43E00000#32) (max (Idealize.ShloMosaic.Ideal.ofBits .f32 0xC3E00000#32) (y p * (((2 : ℝ) ^ (-k) : ℝ) : EReal))) := by
  unfold rCut
  show min _ (max _ (y p * rAll (rTwo (Host.negf e)) p)) = _
  have : rAll (rTwo (Host.negf e)) p = (((2 : ℝ) ^ (-k) : ℝ) : EReal) := by
    unfold rAll
    exact rTwo_real (Host.negf e) (-k) _ (by
      show -(e _) = _
      rw [he, ← EReal.coe_neg, Int.cast_neg])
  rw [this]
  rfl

end Cert.Norm

end
-- ==== Proof.PreVal.lean ====
/- What the precondition says of the arguments: real numbers throughout, and a greatest magnitude within bounds. -/
module

public import proofs.«01_k».proof.Proof.RefVal
public import Idealize.ShloMosaic.Lib.ReduceAll

@[expose] public section

set_option maxRecDepth 16384
set_option maxHeartbeats 1000000

noncomputable section

namespace Cert.Norm

open Idealize.ShloMosaic Cert.Maths
open Cert.Pre_finite_peak (S2x16384x960 S960 S2x16384x32x30 S2x32 S2x1x32x1 S1x1x960)

theorem and_one : ∀ a b : BitVec 1, a &&& b = 1#1 → a = 1#1 ∧ b = 1#1 := by decide

theorem of_bool {p : Prop} [Decidable p] (h : BitVec.ofBool (decide p) = 1#1) : p := by
  by_contra hn
  rw [decide_eq_false hn] at h
  exact absurd h (by decide)

/-- A magnitude under the top is a real number's. -/
theorem real_of_abs (v : EReal) (h : max v (-v) < ⊤) : ∃ r : ℝ, v = (r : EReal) := by
  induction v with
  | bot => simp at h
  | top => simp at h
  | coe r => exact ⟨r, rfl⟩

/-- A magnitude compared below the top is a real number's. -/
theorem fin_at {s : Shape} (v w : FVec Ideal s .f32) (p : s.Idx) (hw : w p = (⊤ : EReal)) (h : cmpf .olt (Host.absf v) w p = 1#1) :
    ∃ r : ℝ, v p = (r : EReal) := by
  have h2 : Host.absf v p < w p := of_bool h
  rw [hw] at h2
  exact real_of_abs _ h2

theorem ge_at {s : Shape} (v w : FVec Ideal s .f32) (p : s.Idx) (z : EReal) (hw : w p = z) (h : cmpf .oge v w p = 1#1) : z ≤ v p := by
  have h2 : w p ≤ v p := of_bool h
  rwa [hw] at h2

theorem le_at {s : Shape} (v w : FVec Ideal s .f32) (p : s.Idx) (z : EReal) (hw : w p = z) (h : cmpf .ole v w p = 1#1) : v p ≤ z := by
  have h2 : v p ≤ w p := of_bool h
  rwa [hw] at h2

variable [Cert.Pre_finite_peak.Facts]

theorem pre_real (x : FVec Ideal S2x16384x960 .bf16) (g t : FVec Ideal S960 .f32) (h : rPre x g t = fun _ => 1#1) :
    ∃ (X : Fin 2 → Fin 16384 → Fin 960 → ℝ) (γ β : Fin 960 → ℝ),
      (∀ b s k, x (ValueIdx.ix3 b s k) = (X b s k : EReal)) ∧ (∀ k, g (ValueIdx.ix1 k) = (γ k : EReal)) ∧ (∀ k, t (ValueIdx.ix1 k) = (β k : EReal))
      ∧ ∀ i, ((0.28125 : ℝ) : EReal) ≤ rTop (rOut x g t) i ∧ rTop (rOut x g t) i ≤ (((16777215 : ℝ) * 2 ^ (104 : ℕ) : ℝ) : EReal) := by
  have h' := fun i => congrFun h i
  have e1 := fun i => and_one _ _ (h' i)
  have e2 := fun i => and_one _ _ (e1 i).1
  have e3 := fun i => and_one _ _ (e2 i).1
  have e4 := fun i => and_one _ _ (e3 i).1
  have fx : ∀ p, ∃ r : ℝ, x p = (r : EReal) := fun p =>
    fin_at (extf .f32 x _) _ p of_top (Host.reduce_andi_all _ _ _ _ (fun i => i.elim0) (e4 fun i => i.elim0).1 p)
  have fg : ∀ p, ∃ r : ℝ, g p = (r : EReal) := fun p =>
    fin_at g _ p of_top (Host.reduce_andi_all _ _ _ _ (fun i => i.elim0) (e4 fun i => i.elim0).2 p)
  have ft : ∀ p, ∃ r : ℝ, t p = (r : EReal) := fun p =>
    fin_at t _ p of_top (Host.reduce_andi_all _ _ _ _ (fun i => i.elim0) (e3 fun i => i.elim0).2 p)
  choose X hX using fx
  choose γ hγ using fg
  choose β hβ using ft
  refine ⟨fun b s k => X (ValueIdx.ix3 b s k), fun k => γ (ValueIdx.ix1 k), fun k => β (ValueIdx.ix1 k), fun _ _ _ => hX _, fun _ => hγ _, fun _ => hβ _, fun i => ⟨?_, ?_⟩⟩
  · exact ge_at _ _ i _ of_low (e2 i).2
  · exact le_at _ _ i _ of_high (e1 i).2

/-- The exponent of a bounded magnitude stays in the range of the word. -/
theorem exp_range (A : ℝ) (h1 : 0.28125 ≤ A) (h2 : A ≤ 2 ^ (128 : ℕ)) :
    -127 ≤ ⌊Real.log (A * fac) / Real.log 2⌋ ∧ ⌊Real.log (A * fac) / Real.log 2⌋ ≤ 125 := by
  have hp : 0 < A * fac := mul_pos (by linarith) fac_pos
  constructor
  · refine (zpow_le_iff hp (-127)).1 ?_
    have : (0.28125 : ℝ) * fac ≤ A * fac := mul_le_mul_of_nonneg_right h1 fac_pos.le
    refine le_trans ?_ this
    unfold fac
    norm_num
  · by_contra hn
    have h := (zpow_le_iff hp 126).2 (by omega)
    have h3 : A * fac ≤ 2 ^ (128 : ℕ) * fac := mul_le_mul_of_nonneg_right h2 fac_pos.le
    have h4 := h.trans h3
    unfold fac at h4
    norm_num at h4

end Cert.Norm

end
-- ==== Proof.KerVal.lean ====
/- The second launch's values at real arguments: the multiplier and shift of a row, the greatest magnitude, the scale and the codes. -/
module

public import proofs.«01_k».proof.Proof.Layout
public import proofs.«01_k».proof.Proof.PreVal

@[expose] public section

set_option maxRecDepth 16384
set_option maxHeartbeats 1000000

noncomputable section

namespace Cert.KernelIdeal.Two

open Cert.KernelIdeal.Gen Cert.Norm Cert.Maths
open Idealize.ShloMosaic Idealize.ShloMosaic.TcCoe
open scoped BigOperators

/-- The batch of a row. -/
def bt (r : Fin 1920) : Fin 2 := ⟨r.val / 960, by omega⟩
/-- The channel of a row. -/
def cn (r : Fin 1920) : Fin 960 := ⟨r.val % 960, Nat.mod_lt _ (by norm_num)⟩

theorem rowOf_bt_cn (r : Fin 1920) : rowOf (bt r) (cn r) = r := Fin.ext (Nat.div_add_mod r.val 960)
theorem bt_rowOf (b : Fin 2) (k : Fin 960) : bt (rowOf b k) = b := by
  apply Fin.ext; show (960 * b.val + k.val) / 960 = b.val; omega
theorem cn_rowOf (b : Fin 2) (k : Fin 960) : cn (rowOf b k) = k := by
  apply Fin.ext; show (960 * b.val + k.val) % 960 = k.val; omega

/-- The position of a lane of a tile. -/
def pos (n : ℕ) (l : Fin 128) : Fin 16384 := ⟨(128 * n + l.val) % 16384, Nat.mod_lt _ (by norm_num)⟩

/-- Lanes and tiles together run over the positions. -/
theorem sum_pos (f : Fin 16384 → EReal) : ∑ l : Fin 128, ∑ j ∈ Finset.range 128, f (pos j l) = ∑ s : Fin 16384, f s := by
  have h1 : ∀ l : Fin 128, ∑ j ∈ Finset.range 128, f (pos j l) = ∑ j : Fin 128, f (pos j.val l) := fun l => Finset.sum_range fun j => f (pos j l)
  rw [Finset.sum_congr rfl fun l _ => h1 l, Finset.sum_comm, ← Fintype.sum_prod_type' (f := fun (j l : Fin 128) => f (pos j.val l))]
  refine Fintype.sum_equiv (finProdFinEquiv.trans (finCongr (by norm_num : 128 * 128 = 16384))) _ _ fun p => ?_
  refine congrArg f (Fin.ext ?_)
  show (128 * p.1.val + p.2.val) % 16384 = p.2.val + 128 * p.1.val
  have := p.1.isLt; have := p.2.isLt
  omega

/-- A row of indicators picks out its group's members. -/
theorem sum_pick (a : Fin 16) (G : Fin 480 → EReal) :
    ∑ k : Fin 480, (if a.val = k.val / 30 then (1 : EReal) else 0) * G k = ∑ j : Fin 30, G ⟨30 * a.val + j.val, by omega⟩ := by
  have e : ∑ k : Fin 480, (if a.val = k.val / 30 then (1 : EReal) else 0) * G k
      = ∑ p : Fin 16 × Fin 30, (if a = p.1 then (1 : EReal) else 0) * G ⟨30 * p.1.val + p.2.val, by omega⟩ := by
    symm
    refine Fintype.sum_equiv (finProdFinEquiv.trans (finCongr (by norm_num : 16 * 30 = 480))) _ _ fun p => ?_
    have hv : ((finProdFinEquiv.trans (finCongr (by norm_num : 16 * 30 = 480))) p : Fin 480) = ⟨30 * p.1.val + p.2.val, by omega⟩ := by
      apply Fin.ext
      show p.2.val + 30 * p.1.val = 30 * p.1.val + p.2.val
      omega
    rw [hv]
    have : (a = p.1) ↔ a.val = (30 * p.1.val + p.2.val) / 30 := by
      rw [Fin.ext_iff]; have := p.2.isLt; omega
    simp only [this]
  rw [e, Fintype.sum_prod_type, Finset.sum_eq_single a]
  · simp
  · intro b _ hb
    simp [Ne.symm hb]
  · intro h; exact absurd (Finset.mem_univ _) h

/-- The mean over a row's group is the mean of the group. -/
theorem gM_real (Y : S1920x128.Idx → EReal) (f : Fin 2 → Fin 16384 → Fin 960 → ℝ)
    (hY : ∀ R l, Y (ValueIdx.ix2 R l) = ∑ j ∈ Finset.range 128, (f (bt R) (pos j l) (cn R) : EReal)) (r : Fin 1920) :
    gM Y r.val = (((∑ p : Fin 16384 × Fin 30, f (bt r) p.1 (ch (gr (cn r)) p.2)) * 491520⁻¹ : ℝ) : EReal) := by
  unfold gM
  have hs : ∀ k : Fin 480, ∑ l' : Fin 128, rowsAt (480 * (r.val / 480)) Y (ValueIdx.ix2 k l')
      = ∑ s : Fin 16384, (f (bt ⟨(480 * (r.val / 480) + k.val) % 1920, Nat.mod_lt _ (by norm_num)⟩) s (cn ⟨(480 * (r.val / 480) + k.val) % 1920, Nat.mod_lt _ (by norm_num)⟩) : EReal) := fun k => by
    rw [← sum_pos]
    exact Finset.sum_congr rfl fun l _ => hY _ l
  rw [Finset.sum_congr rfl fun k _ => by rw [hs k]]
  have ha : r.val % 480 / 30 < 16 := by omega
  rw [sum_pick ⟨r.val % 480 / 30, ha⟩ (fun k => ∑ s : Fin 16384, (f (bt ⟨(480 * (r.val / 480) + k.val) % 1920, Nat.mod_lt _ (by norm_num)⟩) s (cn ⟨(480 * (r.val / 480) + k.val) % 1920, Nat.mod_lt _ (by norm_num)⟩) : EReal))]
  rw [EReal.coe_mul, coe_sum, Fintype.sum_prod_type, Finset.sum_comm]
  refine congrArg₂ (fun u v : EReal => u * v) (Finset.sum_congr rfl fun s _ => Finset.sum_congr rfl fun j _ => ?_) rfl
  have hr := r.isLt
  have hj := j.isLt
  have e1 : bt ⟨(480 * (r.val / 480) + (30 * (r.val % 480 / 30) + j.val)) % 1920, Nat.mod_lt _ (by norm_num)⟩ = bt r := by
    apply Fin.ext
    show (480 * (r.val / 480) + (30 * (r.val % 480 / 30) + j.val)) % 1920 / 960 = r.val / 960
    omega
  have e2 : cn ⟨(480 * (r.val / 480) + (30 * (r.val % 480 / 30) + j.val)) % 1920, Nat.mod_lt _ (by norm_num)⟩ = ch (gr (cn r)) j := by
    apply Fin.ext
    show (480 * (r.val / 480) + (30 * (r.val % 480 / 30) + j.val)) % 1920 % 960 = 30 * (r.val % 960 / 30) + j.val
    omega
  exact congrArg₂ (fun b k => ((f b s k : ℝ) : EReal)) e1 e2

theorem mxU_real (f : ℕ → EReal) (g : Fin 128 → ℝ) (h : ∀ j : Fin 128, f j.val = (g j : EReal)) :
    ∃ j : Fin 128, mxU (f 0) f 128 = (g j : EReal) ∧ ∀ i, g i ≤ g j := by
  obtain ⟨j, hj⟩ := Finite.exists_max g
  refine ⟨j, le_antisymm ((mxU_le _ _ _ _).2 ⟨?_, fun i hi => ?_⟩) ?_, hj⟩
  · rw [h ⟨0, by norm_num⟩]; exact EReal.coe_le_coe_iff.2 (hj _)
  · rw [h ⟨i, hi⟩]; exact EReal.coe_le_coe_iff.2 (hj _)
  · rw [← h j]; exact ((mxU_le _ _ _ _).1 le_rfl).2 j.val j.isLt

theorem mnU_real (f : ℕ → EReal) (g : Fin 128 → ℝ) (h : ∀ j : Fin 128, f j.val = (g j : EReal)) :
    ∃ j : Fin 128, mnU (f 0) f 128 = (g j : EReal) ∧ ∀ i, g j ≤ g i := by
  obtain ⟨j, hj⟩ := Finite.exists_min g
  refine ⟨j, le_antisymm ?_ ((le_mnU _ _ _ _).2 ⟨?_, fun i hi => ?_⟩), hj⟩
  · rw [← h j]; exact ((le_mnU _ _ _ _).1 le_rfl).2 j.val j.isLt
  · rw [h ⟨0, by norm_num⟩]; exact EReal.coe_le_coe_iff.2 (hj _)
  · rw [h ⟨i, hi⟩]; exact EReal.coe_le_coe_iff.2 (hj _)

theorem siluE_real (v : ℝ) : siluE (v : EReal) = (silu v : EReal) := by
  unfold siluE
  rw [Idealize.ShloMosaic.Ideal.ofBits_one_f32, Idealize.ShloMosaic.Ideal.ofBits_zero_f32, zero_sub]
  exact silu_real v

theorem endsE_real (a b hi lo : ℝ) : endsE (a : EReal) b hi lo = ((max |silu (hi * a + b)| |silu (lo * a + b)| : ℝ) : EReal) := by
  unfold endsE
  rw [← EReal.coe_mul, ← EReal.coe_add, ← EReal.coe_mul, ← EReal.coe_add, siluE_real, siluE_real, abs_real, abs_real]
  exact (EReal.coe_strictMono.monotone.map_max).symm

variable (m : (ℓ : Loc nD τ sig) → Buf (Elt Ideal) ℓ) (c : Dev nD)
variable (X : Fin 2 → Fin 16384 → Fin 960 → ℝ) (γ β : Fin 960 → ℝ)
variable (hx : ∀ b s k, (m ((c.tc : Thread nD τ).loc main_arg0) : S2x16384x960.Idx → EReal) (ValueIdx.ix3 b s k) = (X b s k : EReal))
variable (hg : ∀ k, (m ((c.tc : Thread nD τ).loc main_arg1) : S960.Idx → EReal) (ValueIdx.ix1 k) = (γ k : EReal))
variable (ht : ∀ k, (m ((c.tc : Thread nD τ).loc main_arg2) : S960.Idx → EReal) (ValueIdx.ix1 k) = (β k : EReal))

/-- The multiplier of a row. -/
def aR (r : Fin 1920) : ℝ := rs X (bt r) (gr (cn r)) * γ (cn r)
/-- The shift of a row. -/
def bR (r : Fin 1920) : ℝ := β (cn r) - mu X (bt r) (gr (cn r)) * aR X γ r

theorem lin_eq (r : Fin 1920) (s : Fin 16384) : X (bt r) s (cn r) * aR X γ r + bR X γ β r = lin X γ β (bt r) s (cn r) := by
  unfold bR aR lin; ring

include hx in
theorem rowsX_real (R : Fin 1920) (s : Fin 16384) : rowsX m c (ValueIdx.ix2 R s) = (X (bt R) s (cn R) : EReal) := by
  have h := rowsX_apply m c (bt R) s (cn R)
  rw [rowOf_bt_cn] at h
  exact h.trans (hx _ _ _)

include hx in
theorem cell_real (R : Fin 1920) (l : Fin 128) (n : ℕ) : cell (rowsX m c) R l n = (X (bt R) (pos n l) (cn R) : EReal) :=
  rowsX_real m c X hx R (pos n l)

include hx in
theorem mean_s (r : Fin 1920) : gM (xs m c) r.val = (mu X (bt r) (gr (cn r)) : EReal) :=
  gM_real (xs m c) X (fun R l => (xs_apply m c _).trans (Finset.sum_congr rfl fun j _ => cell_real m c X hx R l j)) r

include hx in
theorem mean_q (r : Fin 1920) : gM (xq m c) r.val = (((∑ p : Fin 16384 × Fin 30, X (bt r) p.1 (ch (gr (cn r)) p.2) * X (bt r) p.1 (ch (gr (cn r)) p.2)) * 491520⁻¹ : ℝ) : EReal) :=
  gM_real (xq m c) (fun b s k => X b s k * X b s k) (fun R l => (xq_apply m c _).trans (Finset.sum_congr rfl fun j _ => by
    rw [EReal.coe_mul]
    exact congrArg₂ (· * ·) (cell_real m c X hx R l j) (cell_real m c X hx R l j))) r

include hx in
theorem var_real (r : Fin 1920) : gV (xs m c) (xq m c) r.val = (vr X (bt r) (gr (cn r)) : EReal) := by
  unfold gV
  rw [mean_s m c X hx, mean_q m c X hx, Idealize.ShloMosaic.Ideal.ofBits_zero_f32, ← EReal.coe_mul, ← EReal.coe_sub]
  have h := var_eq (fun p : Fin 16384 × Fin 30 => X (bt r) p.1 (ch (gr (cn r)) p.2)) 491520 (by simp) (by norm_num)
  have h2 : (∑ p : Fin 16384 × Fin 30, X (bt r) p.1 (ch (gr (cn r)) p.2) * X (bt r) p.1 (ch (gr (cn r)) p.2)) * 491520⁻¹ - mu X (bt r) (gr (cn r)) * mu X (bt r) (gr (cn r)) = vr X (bt r) (gr (cn r)) := h
  rw [h2]
  exact max_eq_left (by exact_mod_cast vr_nonneg X _ _)

include hx hg in
theorem a_real (r : Fin 1920) : gA (xs m c) (xq m c) (xg m c) r.val = (aR X γ r : EReal) := by
  unfold gA chan
  rw [var_real m c X hx, of_eps, ← EReal.coe_add, rsqrt_real _ (add_pos_of_nonneg_of_pos (vr_nonneg X _ _) epsv_pos)]
  rw [show xg m c (ValueIdx.ix2 (0 : Fin 1) (⟨r.val % 960, Nat.mod_lt _ (by norm_num)⟩ : Fin 960)) = (γ (cn r) : EReal) from (xg_apply m c (cn r)).trans (hg _), ← EReal.coe_mul]
  rfl

include hx hg ht in
theorem b_real (r : Fin 1920) : gB (xs m c) (xq m c) (xg m c) (xt m c) r.val = (bR X γ β r : EReal) := by
  unfold gB chan
  rw [a_real m c X γ hx hg, mean_s m c X hx]
  rw [show xt m c (ValueIdx.ix2 (0 : Fin 1) (⟨r.val % 960, Nat.mod_lt _ (by norm_num)⟩ : Fin 960)) = (β (cn r) : EReal) from (xt_apply m c (cn r)).trans (ht _), ← EReal.coe_mul, ← EReal.coe_sub]
  rfl

include hx in
theorem mx_real (r : Fin 1920) (l : Fin 128) : ∃ j : Fin 128, xmx m c (ValueIdx.ix2 r l) = (X (bt r) (pos j.val l) (cn r) : EReal)
    ∧ ∀ i : Fin 128, X (bt r) (pos i.val l) (cn r) ≤ X (bt r) (pos j.val l) (cn r) := by
  obtain ⟨j, h, hj⟩ := mxU_real (cell (rowsX m c) r l) (fun j => X (bt r) (pos j.val l) (cn r)) (fun j => cell_real m c X hx r l j.val)
  exact ⟨j, (xmx_apply m c _).trans h, hj⟩

include hx in
theorem mn_real (r : Fin 1920) (l : Fin 128) : ∃ j : Fin 128, xmn m c (ValueIdx.ix2 r l) = (X (bt r) (pos j.val l) (cn r) : EReal)
    ∧ ∀ i : Fin 128, X (bt r) (pos j.val l) (cn r) ≤ X (bt r) (pos i.val l) (cn r) := by
  obtain ⟨j, h, hj⟩ := mnU_real (cell (rowsX m c) r l) (fun j => X (bt r) (pos j.val l) (cn r)) (fun j => cell_real m c X hx r l j.val)
  exact ⟨j, (xmn_apply m c _).trans h, hj⟩

include hx hg ht in
/-- The greater magnitude at the ends of a lane's range: attained in the lane, and above every magnitude in it that is not small. -/
theorem y_real (r : Fin 1920) (l : Fin 128) : ∃ y : ℝ, gY m c r.val l = (y : EReal) ∧ (∃ s, y = |act X γ β (bt r) s (cn r)|)
    ∧ ∀ i : Fin 128, |act X γ β (bt r) (pos i.val l) (cn r)| < 0.28125 ∨ |act X γ β (bt r) (pos i.val l) (cn r)| ≤ y := by
  obtain ⟨jh, hh, hh'⟩ := mx_real m c X hx r l
  obtain ⟨jl, hl, hl'⟩ := mn_real m c X hx r l
  have er : (⟨r.val % 1920, Nat.mod_lt _ (by norm_num)⟩ : Fin 1920) = r := Fin.ext (Nat.mod_eq_of_lt r.isLt)
  refine ⟨max |act X γ β (bt r) (pos jh.val l) (cn r)| |act X γ β (bt r) (pos jl.val l) (cn r)|, ?_, ?_, fun i => ?_⟩
  · unfold gY
    rw [a_real m c X γ hx hg, b_real m c X γ β hx hg ht, er, hh, hl, endsE_real, lin_eq, lin_eq]
    rfl
  · rcases max_choice |act X γ β (bt r) (pos jh.val l) (cn r)| |act X γ β (bt r) (pos jl.val l) (cn r)| with h | h
    · exact ⟨_, h⟩
    · exact ⟨_, h⟩
  · have h := peak_le (a := aR X γ r) (b := bR X γ β r) (hl' i) (hh' i)
    rw [lin_eq, lin_eq, lin_eq] at h
    rcases h with h | h | h
    · exact .inl h
    · exact .inr (h.trans (le_max_left _ _))
    · exact .inr (h.trans (le_max_right _ _))

theorem pos_split (s : Fin 16384) : pos (⟨s.val / 128, by omega⟩ : Fin 128).val ⟨s.val % 128, Nat.mod_lt _ (by norm_num)⟩ = s := by
  apply Fin.ext
  show (128 * (s.val / 128) + s.val % 128) % 16384 = s.val
  omega

include hx hg ht in
/-- The launch's peak is the greatest magnitude. -/
theorem peak_real (A : ℝ) (h1 : 0.28125 ≤ A) (hA : ∀ b s k, |act X γ β b s k| ≤ A) (hB : ∃ b s k, |act X γ β b s k| = A) :
    peak (Y3 m c) (T3 m c) (T4 m c) = (A : EReal) := by
  refine le_antisymm ((peak_iff m c _).2 ⟨by exact_mod_cast (by linarith : (0:ℝ) ≤ A), fun r l => ?_⟩) ?_
  · obtain ⟨y, hy, ⟨s, hs⟩, -⟩ := y_real m c X γ β hx hg ht r l
    rw [hy, hs]
    exact EReal.coe_le_coe_iff.2 (hA _ _ _)
  · obtain ⟨b, s, k, h⟩ := hB
    have hp := ((peak_iff m c _).1 le_rfl).2 (rowOf b k) ⟨s.val % 128, Nat.mod_lt _ (by norm_num)⟩
    obtain ⟨y, hy, -, hY⟩ := y_real m c X γ β hx hg ht (rowOf b k) ⟨s.val % 128, Nat.mod_lt _ (by norm_num)⟩
    have h3 := hY ⟨s.val / 128, by omega⟩
    rw [pos_split, bt_rowOf, cn_rowOf, h] at h3
    rw [hy] at hp
    rcases h3 with h3 | h3
    · linarith
    · exact le_trans (EReal.coe_le_coe_iff.2 h3) hp

/-- The exponent of the scale. -/
def eR (A : ℝ) : ℤ := ⌊Real.log (A * fac) / Real.log 2⌋ + 1

section
variable (A : ℝ) (h1 : 0.28125 ≤ A) (h2 : A ≤ 2 ^ (128 : ℕ)) (hA : ∀ b s k, |act X γ β b s k| ≤ A) (hB : ∃ b s k, |act X γ β b s k| = A)

include hx hg ht h1 hA hB in
theorem pay_real : k1_pay60 (Y3 m c) (T3 m c) (T4 m c) = ((A * fac : ℝ) : EReal) := by
  rw [pay60_eq, peak_real m c X γ β hx hg ht A h1 hA hB, EReal.coe_mul]
  exact congrArg (fun z => (A : EReal) * z) of_fac

include hx hg ht h1 h2 hA hB in
theorem outS_real (z) : outS m c z = (((2 : ℝ) ^ eR A : ℝ) : EReal) := by
  rw [outS_eq]
  exact scale_eq _ _ _ (mul_pos (by linarith) fac_pos) (exp_range A h1 h2).1 (exp_range A h1 h2).2 (pay_real m c X γ β hx hg ht A h1 hA hB)

include hx hg ht h1 h2 hA hB in
theorem outI_real (z) : outI m c z = (((2 : ℝ) ^ (-eR A) : ℝ) : EReal) := by
  rw [outI_eq]
  exact inv_eq _ _ _ (mul_pos (by linarith) fac_pos) (exp_range A h1 h2).1 (exp_range A h1 h2).2 (pay_real m c X γ β hx hg ht A h1 hA hB)

include hx hg ht h1 h2 hA hB in
theorem code_real (z : S1.Idx) (b : Fin 2) (s : Fin 16384) (k : Fin 960) :
    rowCode m c z (ValueIdx.ix2 (rowOf b k) s) = min (Idealize.ShloMosaic.Ideal.ofBits .f32 0x43E00000#32) (max (Idealize.ShloMosaic.Ideal.ofBits .f32 0xC3E00000#32)
      ((act X γ β b s k : EReal) * (((2 : ℝ) ^ (-eR A) : ℝ) : EReal))) := by
  unfold rowCode
  rw [outI_real m c X γ β hx hg ht A h1 h2 hA hB z]
  rw [rowsX_real m c X hx (rowOf b k) s]
  have ea := (outA_apply m c (rowOf b k) ⟨s.val % 128, Nat.mod_lt _ (by norm_num)⟩).trans (a_real m c X γ hx hg (rowOf b k))
  have eb := (outB_apply m c (rowOf b k) ⟨s.val % 128, Nat.mod_lt _ (by norm_num)⟩).trans (b_real m c X γ β hx hg ht (rowOf b k))
  refine (congrArg₂ (fun a b' => codeE a b' _ _) ea eb).trans ?_
  unfold codeE
  rw [← EReal.coe_mul, ← EReal.coe_add, lin_eq, siluE_real, bt_rowOf, cn_rowOf]
  rfl

end

end Cert.KernelIdeal.Two

end
-- ==== Proof.RefOut.lean ====
/- The reference's two results. -/
module

public import proofs.«01_k».proof.Proof.RefTerm
public import Idealize.ShloMosaic.Lib.Pipeline.ValueKit

@[expose] public section

set_option maxRecDepth 16384
set_option maxHeartbeats 2000000

noncomputable section

namespace Cert.Norm

open Idealize.ShloMosaic Idealize.ShloMosaic.TcCoe Idealize.ShloMosaic.Tactic
open Cert.ReferenceIdeal Cert.ReferenceIdeal.Gen

variable (m : (ℓ : Loc nD τ sig) → Buf (Elt Ideal) ℓ) (c : Dev nD)

/-- The last launch stores what it loads. -/
theorem out_eq (x : S2x16384x960.Idx → EReal) : out0_1 (F := Ideal) x = (x : S2x16384x960.Idx → EReal) := by
  unfold out0_1
  refine (View.canon_cons_unit_lit' _ _ _ (by intro a; fin_cases a <;> rfl)).trans ?_
  unfold k0_pay1
  rw [View.ld_unit_lit' _ _ (by intro a; fin_cases a <;> rfl)]
  exact shapeCast_self _ _

theorem cast_arr : (dats (F := Ideal) m 0 c).arrAt 1 cfg0.N = (V (F := Ideal) m c main_v47 : S2x16384x960.Idx → EReal) := by
  refine (dats (F := Ideal) m 0 c).arrAt_eq_of_covers 1 _ (by decide +kernel) fun t hf y => ?_
  blk_simp
  rw [after0_1]
  refine (congrFun (out_eq _) y).trans ?_
  unfold iblk
  rw [View.read_apply]
  rfl

end Cert.Norm

end
-- ==== Proof.Final.lean ====
/- The two programs' results are equal, over the extended reals. -/
module

public import proofs.«01_k».proof.Proof.KerVal
public import proofs.«01_k».proof.Proof.RefOut

@[expose] public section

set_option maxRecDepth 16384
set_option maxHeartbeats 1000000

noncomputable section

namespace Cert.Norm

open Idealize.ShloMosaic Idealize.ShloMosaic.TcCoe Idealize.SL.Sem
open Cert.KernelIdeal.Two (rowOf eR outS_real code_real scale_out codes_out)

section
variable (m : (ℓ : Loc Cert.KernelIdeal.nD Cert.KernelIdeal.τ Cert.KernelIdeal.sig) → Buf (Elt Ideal) ℓ) (c : Dev Cert.KernelIdeal.nD)
variable (x : FVec Ideal Cert.Pre_finite_peak.S2x16384x960 .bf16) (g t : FVec Ideal Cert.Pre_finite_peak.S960 .f32)

/-- On one device: the first program's codes and scale are the reference's. -/
theorem results_eq (hpre : rPre x g t = fun _ => 1#1)
    (hx : m ((c.tc : Thread Cert.KernelIdeal.nD Cert.KernelIdeal.τ).loc Cert.KernelIdeal.main_arg0) = x)
    (hg : m ((c.tc : Thread Cert.KernelIdeal.nD Cert.KernelIdeal.τ).loc Cert.KernelIdeal.main_arg1) = g)
    (ht : m ((c.tc : Thread Cert.KernelIdeal.nD Cert.KernelIdeal.τ).loc Cert.KernelIdeal.main_arg2) = t) :
    (Cert.KernelIdeal.Gen.V5 m (Cert.KernelIdeal.Two.outs m) c Cert.KernelIdeal.main_v8 : Cert.Pre_finite_peak.S2x16384x960.Idx → EReal)
        = rCut (rOut x g t) (rExp (rTop (rOut x g t)))
    ∧ (Cert.KernelIdeal.Gen.V5 m (Cert.KernelIdeal.Two.outs m) c Cert.KernelIdeal.main_v9 : Cert.Pre_finite_peak.S_.Idx → EReal)
        = rTwo (rExp (rTop (rOut x g t))) := by
  obtain ⟨X, γ, β, h0, h1, h2, hb⟩ := pre_real x g t hpre
  obtain ⟨A, hA, hle, hat⟩ := rTop_real x g t X γ β h0 h1 h2
  have i0 : Cert.Pre_finite_peak.S_.Idx := fun i => i.elim0
  have lo : 0.28125 ≤ A := by have := (hb i0).1; rw [hA] at this; exact EReal.coe_le_coe_iff.1 this
  have hi : A ≤ 2 ^ (128 : ℕ) := by have := (hb i0).2; rw [hA] at this; exact (EReal.coe_le_coe_iff.1 this).trans (by norm_num)
  have he : ∀ i, rExp (rTop (rOut x g t)) i = ((eR A : ℝ) : EReal) := fun i => rExp_real _ A (by linarith) i (hA i)
  have k0 := fun b s k => (congrFun hx (ValueIdx.ix3 b s k)).trans (h0 b s k)
  have k1 := fun k => (congrFun hg (ValueIdx.ix1 k)).trans (h1 k)
  have k2 := fun k => (congrFun ht (ValueIdx.ix1 k)).trans (h2 k)
  have z : Cert.KernelIdeal.S1.Idx := ValueIdx.ix1 (0 : Fin 1)
  constructor
  · funext p
    obtain ⟨b, s, k, rfl⟩ := ix3_cases p
    rw [rCut_real _ _ _ he, rOut_apply x g t X γ β h0 h1 h2]
    exact (codes_out m c z b s k).trans (code_real m c X γ β k0 k1 k2 A lo hi hle hat z b s k)
  · funext i
    rw [rTwo_real _ _ i (he i)]
    have z2 : Cert.KernelIdeal.S1x1.Idx := ValueIdx.ix2 (0 : Fin 1) (0 : Fin 1)
    exact (scale_out m c z2 i).trans (outS_real m c X γ β k0 k1 k2 A lo hi hle hat z2)

end

theorem algebraic : Cert.algebraic_KernelIdeal_ReferenceIdeal_pre_finite_peak := by
  intro m ρ m' ρ' hpre hargs
  have key := fun c => results_eq m c _ _ _ ((pre_eq _ _ _).symm.trans (hpre c)) rfl rfl rfl
  refine ⟨fun c => Cert.KernelIdeal.Gen.V5 m (Cert.KernelIdeal.Two.outs m) c Cert.KernelIdeal.main_v8,
    fun c => Cert.KernelIdeal.Gen.V5 m (Cert.KernelIdeal.Two.outs m) c Cert.KernelIdeal.main_v9, ?_, ?_⟩
  · exact (θ_run _ _ _).mono (fun _ h c => ⟨(h.1 c).2.2.2.1, (h.1 c).2.2.2.2, (h.1 c).1, (h.1 c).2.1, (h.1 c).2.2.1⟩) (Cert.KernelIdeal.Two.run m ρ)
  · refine (θ_run _ _ _).mono (fun r h c => ?_) (Cert.ReferenceIdeal.Gen.run_main m' ρ')
    have e0 := (hargs c).1
    have e1 := (hargs c).2.1
    have e2 := (hargs c).2.2
    refine ⟨?_, ?_, ((h c).2 Cert.ReferenceIdeal.main_arg0 (Pipeline.mem_restRefs_of Cert.ReferenceIdeal.main_arg0 (by decide) (by decide))).trans (Cert.ReferenceIdeal.Gen.V_main_arg0 m' c),
      ((h c).2 Cert.ReferenceIdeal.main_arg1 (Pipeline.mem_restRefs_of Cert.ReferenceIdeal.main_arg1 (by decide) (by decide))).trans (Cert.ReferenceIdeal.Gen.V_main_arg1 m' c),
      ((h c).2 Cert.ReferenceIdeal.main_arg2 (Pipeline.mem_restRefs_of Cert.ReferenceIdeal.main_arg2 (by decide) (by decide))).trans (Cert.ReferenceIdeal.Gen.V_main_arg2 m' c)⟩
    · refine ((h c).1 1).trans ((cast_arr m' c).trans ((ref_cut m' c).trans ?_))
      refine Eq.trans ?_ (key c).1.symm
      rw [e0, e1, e2]
    · refine ((h c).2 Cert.ReferenceIdeal.main_v42 (Pipeline.mem_restRefs_of Cert.ReferenceIdeal.main_v42 (by decide) (by decide))).trans ((ref_scale m' c).trans ?_)
      refine Eq.trans ?_ (key c).2.symm
      rw [e0, e1, e2]

end Cert.Norm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite_peak
public import proofs.«01_k».proof.Proof.Run
public import proofs.«01_k».proof.Proof.FRun
public import proofs.«01_k».proof.Proof.Final
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_peak.Gen.facts,
  fun m g _ => (θ_run _ _ _).mono (fun _ h => ⟨fun c => ⟨(h.1 c).1, (h.1 c).2.1, (h.1 c).2.2.1⟩, h.2⟩) (Cert.Kernel.Two.run m g),
  fun m g _ => (θ_run _ _ _).mono (fun _ h => ⟨fun c => ⟨(h.1 c).1, (h.1 c).2.1, (h.1 c).2.2.1⟩, h.2⟩) (Cert.KernelIdeal.Two.run m g),
  fun m g _ => (θ_run _ _ _).mono (fun _ h => ⟨fun c => ⟨(h.1 c).1, (h.1 c).2.1, (h.1 c).2.2.1⟩, h.2⟩) (Cert.KernelIdeal.Two.run m g),
  fun m g _ => Cert.ReferenceIdeal.Gen.frame m g,
  fun m g _ => Cert.ReferenceIdeal.Gen.frame m g,
  IdealRules.named_const.statement Cert.KernelIdeal.κ "inv_n" .f32 0x36088889#32 _ rfl,
  Cert.Norm.algebraic⟩

end Cert.Proof

end
